-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 2048, 8, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 2048, 8, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S2x9x2x2x128x8x64 : Shape := ⟨7, ![2, 9, 2, 2, 128, 8, 64]⟩
abbrev S2x9 : Shape := ⟨2, ![2, 9]⟩
abbrev S_ : Shape := ⟨0, ![]⟩
abbrev S1x1x1x2x128x8x64 : Shape := ⟨7, ![1, 1, 1, 2, 128, 8, 64]⟩
abbrev S1x1 : Shape := ⟨2, ![1, 1]⟩
abbrev S1x1x2x2x128x8x64 : Shape := ⟨7, ![1, 1, 2, 2, 128, 8, 64]⟩
abbrev S2x2x128x8x64 : Shape := ⟨5, ![2, 2, 128, 8, 64]⟩
abbrev S256x512 : Shape := ⟨2, ![256, 512]⟩
abbrev S128x512 : Shape := ⟨2, ![128, 512]⟩
abbrev S128x8x64 : Shape := ⟨3, ![128, 8, 64]⟩
abbrev S8x128x1 : Shape := ⟨3, ![8, 128, 1]⟩
abbrev S8x128x64 : Shape := ⟨3, ![8, 128, 64]⟩
abbrev S1x1x1x1x128x8x64 : Shape := ⟨7, ![1, 1, 1, 1, 128, 8, 64]⟩
abbrev S8x128x128 : Shape := ⟨3, ![8, 128, 128]⟩
abbrev S8x128 : Shape := ⟨2, ![8, 128]⟩
abbrev S256x8x64 : Shape := ⟨3, ![256, 8, 64]⟩
abbrev S8x128x256 : Shape := ⟨3, ![8, 128, 256]⟩
abbrev S1x128x512 : Shape := ⟨3, ![1, 128, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x8x64, .bf16⟩
  | .hbm, ⟨3, _⟩ => ⟨S2x128x8x64, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .f32⟩
  | .local _ .vmem, ⟨6, _⟩ => ⟨S2x9x2x2x128x8x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_25 : BitVec 32 := 1#32
  let v42 : BitVec 32 := Scalar.muli v40 c1_i32_25
  let v43 : BitVec 32 := Scalar.addi c0_i32_26 v42
  v43.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_28 : BitVec 32 := 1#32
  let v44 : BitVec 32 := Scalar.muli v21 c1_i32_28
  let v45 : BitVec 32 := Scalar.addi c0_i32_29 v44
  v45.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_59 : BitVec 32 := 1#32
  let v56 : BitVec 32 := Scalar.muli v21 c1_i32_59
  let v57 : BitVec 32 := Scalar.addi c0_i32_60 v56
  v57.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_79 : BitVec 32 := 1#32
  let v66 : BitVec 32 := Scalar.muli v40 c1_i32_79
  let v67 : BitVec 32 := Scalar.addi c0_i32_80 v66
  v67.toNat
def k0_dev5 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_188 : BitVec 32 := 1#32
  let v158 : BitVec 32 := Scalar.muli v21 c1_i32_188
  let v159 : BitVec 32 := Scalar.addi c0_i32_189 v158
  v159.toNat
def k0_dev6 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_208 : BitVec 32 := 1#32
  let v168 : BitVec 32 := Scalar.muli v40 c1_i32_208
  let v169 : BitVec 32 := Scalar.addi c0_i32_209 v168
  v169.toNat
def k0_dev7 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_334 : BitVec 32 := 1#32
  let v254 : BitVec 32 := Scalar.muli v21 c1_i32_334
  let v255 : BitVec 32 := Scalar.addi c0_i32_335 v254
  v255.toNat
def k0_dev8 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_354 : BitVec 32 := 1#32
  let v264 : BitVec 32 := Scalar.muli v40 c1_i32_354
  let v265 : BitVec 32 := Scalar.addi c0_i32_355 v264
  v265.toNat
def k0_dev9 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_479 : BitVec 32 := 1#32
  let v350 : BitVec 32 := Scalar.muli v21 c1_i32_479
  let v351 : BitVec 32 := Scalar.addi c0_i32_480 v350
  v351.toNat
def k0_dev10 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_499 : BitVec 32 := 1#32
  let v360 : BitVec 32 := Scalar.muli v40 c1_i32_499
  let v361 : BitVec 32 := Scalar.addi c0_i32_500 v360
  v361.toNat
def k0_dev11 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_623 : BitVec 32 := 1#32
  let v446 : BitVec 32 := Scalar.muli v21 c1_i32_623
  let v447 : BitVec 32 := Scalar.addi c0_i32_624 v446
  v447.toNat
def k0_dev12 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_643 : BitVec 32 := 1#32
  let v456 : BitVec 32 := Scalar.muli v40 c1_i32_643
  let v457 : BitVec 32 := Scalar.addi c0_i32_644 v456
  v457.toNat
def k0_dev13 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_767 : BitVec 32 := 1#32
  let v542 : BitVec 32 := Scalar.muli v21 c1_i32_767
  let v543 : BitVec 32 := Scalar.addi c0_i32_768 v542
  v543.toNat
def k0_dev14 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_787 : BitVec 32 := 1#32
  let v552 : BitVec 32 := Scalar.muli v40 c1_i32_787
  let v553 : BitVec 32 := Scalar.addi c0_i32_788 v552
  v553.toNat
def k0_dev15 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_911 : BitVec 32 := 1#32
  let v638 : BitVec 32 := Scalar.muli v21 c1_i32_911
  let v639 : BitVec 32 := Scalar.addi c0_i32_912 v638
  v639.toNat
def k0_dev16 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v22 : BitVec 32 := Scalar.remsi v2 c4_i32_8
  let c0_i32_9 : BitVec 32 := 0#32
  let v23 : BitVec 1 := Scalar.cmpi .eq v22 c0_i32_9
  let c0_i32_10 : BitVec 32 := 0#32
  let v24 : BitVec 1 := Scalar.cmpi .sgt v2 c0_i32_10
  let c4_i32_11 : BitVec 32 := 4#32
  let v25 : BitVec 32 := Scalar.subi v2 c4_i32_11
  let c1_i32_12 : BitVec 32 := 1#32
  let v26 : BitVec 32 := Scalar.select v24 v25 c1_i32_12
  let c3_i32_13 : BitVec 32 := 3#32
  let v27 : BitVec 1 := Scalar.cmpi .eq v22 c3_i32_13
  let c15_i32_14 : BitVec 32 := 15#32
  let v28 : BitVec 1 := Scalar.cmpi .slt v2 c15_i32_14
  let c4_i32_15 : BitVec 32 := 4#32
  let v29 : BitVec 32 := Scalar.addi v2 c4_i32_15
  let c12_i32_16 : BitVec 32 := 12#32
  let v30 : BitVec 32 := Scalar.select v28 v29 c12_i32_16
  let c2_i32_17 : BitVec 32 := 2#32
  let v31 : BitVec 1 := Scalar.cmpi .eq v22 c2_i32_17
  let c2_i32_18 : BitVec 32 := 2#32
  let v32 : BitVec 1 := Scalar.cmpi .sgt v2 c2_i32_18
  let c4_i32_19 : BitVec 32 := 4#32
  let v33 : BitVec 32 := Scalar.subi v2 c4_i32_19
  let c3_i32_20 : BitVec 32 := 3#32
  let v34 : BitVec 32 := Scalar.select v32 v33 c3_i32_20
  let c13_i32_21 : BitVec 32 := 13#32
  let v35 : BitVec 1 := Scalar.cmpi .slt v2 c13_i32_21
  let c4_i32_22 : BitVec 32 := 4#32
  let v36 : BitVec 32 := Scalar.addi v2 c4_i32_22
  let c14_i32_23 : BitVec 32 := 14#32
  let v37 : BitVec 32 := Scalar.select v35 v36 c14_i32_23
  let v38 : BitVec 32 := Scalar.select v31 v34 v37
  let v39 : BitVec 32 := Scalar.select v27 v30 v38
  let v40 : BitVec 32 := Scalar.select v23 v26 v39
  let c1_i32_931 : BitVec 32 := 1#32
  let v648 : BitVec 32 := Scalar.muli v40 c1_i32_931
  let v649 : BitVec 32 := Scalar.addi c0_i32_932 v648
  v649.toNat
def k0_dev17 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v4 : BitVec 1 := Scalar.cmpi .eq v3 c0_i32
  let c12_i32 : BitVec 32 := 12#32
  let v5 : BitVec 1 := Scalar.cmpi .slt v2 c12_i32
  let c4_i32_0 : BitVec 32 := 4#32
  let v6 : BitVec 32 := Scalar.addi v2 c4_i32_0
  let c15_i32 : BitVec 32 := 15#32
  let v7 : BitVec 32 := Scalar.select v5 v6 c15_i32
  let c3_i32 : BitVec 32 := 3#32
  let v8 : BitVec 1 := Scalar.cmpi .eq v3 c3_i32
  let c3_i32_1 : BitVec 32 := 3#32
  let v9 : BitVec 1 := Scalar.cmpi .sgt v2 c3_i32_1
  let c4_i32_2 : BitVec 32 := 4#32
  let v10 : BitVec 32 := Scalar.subi v2 c4_i32_2
  let c2_i32 : BitVec 32 := 2#32
  let v11 : BitVec 32 := Scalar.select v9 v10 c2_i32
  let c2_i32_3 : BitVec 32 := 2#32
  let v12 : BitVec 1 := Scalar.cmpi .eq v3 c2_i32_3
  let c14_i32 : BitVec 32 := 14#32
  let v13 : BitVec 1 := Scalar.cmpi .slt v2 c14_i32
  let c4_i32_4 : BitVec 32 := 4#32
  let v14 : BitVec 32 := Scalar.addi v2 c4_i32_4
  let c13_i32 : BitVec 32 := 13#32
  let v15 : BitVec 32 := Scalar.select v13 v14 c13_i32
  let c1_i32_5 : BitVec 32 := 1#32
  let v16 : BitVec 1 := Scalar.cmpi .sgt v2 c1_i32_5
  let c4_i32_6 : BitVec 32 := 4#32
  let v17 : BitVec 32 := Scalar.subi v2 c4_i32_6
  let c0_i32_7 : BitVec 32 := 0#32
  let v18 : BitVec 32 := Scalar.select v16 v17 c0_i32_7
  let v19 : BitVec 32 := Scalar.select v12 v15 v18
  let v20 : BitVec 32 := Scalar.select v8 v11 v19
  let v21 : BitVec 32 := Scalar.select v4 v7 v20
  let c1_i32_1055 : BitVec 32 := 1#32
  let v734 : BitVec 32 := Scalar.muli v21 c1_i32_1055
  let v735 : BitVec 32 := Scalar.addi c0_i32_1056 v734
  v735.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x512 : Shape := ⟨2, ![512, 512]⟩
abbrev S2x2048x8x64 : Shape := ⟨4, ![2, 2048, 8, 64]⟩
abbrev S_ : Shape := ⟨0, ![]⟩
abbrev S2x8x2048x1 : Shape := ⟨4, ![2, 8, 2048, 1]⟩
abbrev S2x1024x8x64 : Shape := ⟨4, ![2, 1024, 8, 64]⟩
abbrev S2x8x2048x1024 : Shape := ⟨4, ![2, 8, 2048, 1024]⟩
abbrev S2x8x2048 : Shape := ⟨3, ![2, 8, 2048]⟩
abbrev S2x2048x8x1 : Shape := ⟨4, ![2, 2048, 8, 1]⟩
abbrev S2x8x64x2048 : Shape := ⟨4, ![2, 8, 64, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x512, .bf16⟩
  | .hbm, ⟨2, _⟩ => ⟨S2x2048x8x64, .bf16⟩
  | .hbm, ⟨3, _⟩ => ⟨S2x2048x8x64, .bf16⟩
  | .hbm, ⟨4, _⟩ => ⟨S512x512, .bf16⟩
  | .hbm, ⟨5, _⟩ => ⟨S2x2048x512, .f32⟩
  | .hbm, ⟨6, _⟩ => ⟨S512x512, .f32⟩
  | .hbm, ⟨7, _⟩ => ⟨S2x2048x8x64, .f32⟩
  | .hbm, ⟨8, _⟩ => ⟨S2x2048x8x64, .f32⟩
  | .hbm, ⟨9, _⟩ => ⟨S512x512, .f32⟩
  | .hbm, ⟨10, _⟩ => ⟨S2x2048x512, .f32⟩
  | .hbm, ⟨11, _⟩ => ⟨S2x2048x8x64, .f32⟩
  | .hbm, ⟨12, _⟩ => ⟨S_, .f32⟩
  | .hbm, ⟨13, _⟩ => ⟨S2x2048x8x64, .f32⟩
  | .hbm, ⟨14, _⟩ => ⟨S_, .f32⟩
  | .hbm, ⟨15, _⟩ => ⟨S2x8x2048x1, .f32⟩
  | .hbm, ⟨16, _⟩ => ⟨S_, .f32⟩
  | .hbm, ⟨17, _⟩ => ⟨S2x8x2048x1, .f32⟩
  | .hbm, ⟨18, _⟩ => ⟨S2x1024x8x64, .f32⟩
  | .hbm, ⟨19, _⟩ => ⟨S2x1024x8x64, .f32⟩
  | .hbm, ⟨20, _⟩ => ⟨S2x8x2048x1024, .f32⟩
  | .hbm, ⟨21, _⟩ => ⟨S_, .f32⟩
  | .hbm, ⟨22, _⟩ => ⟨S2x8x2048x1024, .f32⟩
  | .hbm, ⟨23, _⟩ => ⟨S2x8x2048x1024, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x1, .f32⟩
  | .hbm, ⟨28, _⟩ => ⟨S2x8x2048x1, .f32⟩
  | .hbm, ⟨29, _⟩ => ⟨S2x8x2048x1, .f32⟩
  | .hbm, ⟨30, _⟩ => ⟨S2x8x2048x1024, .f32⟩
  | .hbm, ⟨31, _⟩ => ⟨S2x8x2048x1024, .f32⟩
  | .hbm, ⟨32, _⟩ => ⟨S2x8x2048x1024, .f32⟩
  | .hbm, ⟨33, _⟩ => ⟨S2x8x2048x1, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x1, .f32⟩
  | .hbm, ⟨38, _⟩ => ⟨S2x2048x8x1, .f32⟩
  | .hbm, ⟨39, _⟩ => ⟨S2x2048x8x64, .f32⟩
  | .hbm, ⟨40, _⟩ => ⟨S2x2048x8x64, .f32⟩
  | .hbm, ⟨41, _⟩ => ⟨S2x8x64x2048, .f32⟩
  | .hbm, ⟨42, _⟩ => ⟨S2x2048x8x64, .f32⟩
  | .hbm, ⟨43, _⟩ => ⟨S2x2048x8x64, .f32⟩
  | .hbm, ⟨44, _⟩ => ⟨S2x1024x8x64, .f32⟩
  | .hbm, ⟨45, _⟩ => ⟨S2x1024x8x64, .f32⟩
  | .hbm, ⟨46, _⟩ => ⟨S2x8x2048x1024, .f32⟩
  | .hbm, ⟨47, _⟩ => ⟨S_, .f32⟩
  | .hbm, ⟨48, _⟩ => ⟨S2x8x2048x1024, .f32⟩
  | .hbm, ⟨49, _⟩ => ⟨S2x8x2048x1024, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x1, .f32⟩
  | .hbm, ⟨54, _⟩ => ⟨S2x8x2048x1, .f32⟩
  | .hbm, ⟨55, _⟩ => ⟨S2x8x2048x1, .f32⟩
  | .hbm, ⟨56, _⟩ => ⟨S2x8x2048x1024, .f32⟩
  | .hbm, ⟨57, _⟩ => ⟨S2x8x2048x1024, .f32⟩
  | .hbm, ⟨58, _⟩ => ⟨S2x8x2048x1024, .f32⟩
  | .hbm, ⟨59, _⟩ => ⟨S2x8x2048x1, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x1, .f32⟩
  | .hbm, ⟨64, _⟩ => ⟨S2x2048x8x1, .f32⟩
  | .hbm, ⟨65, _⟩ => ⟨S2x2048x8x64, .f32⟩
  | .hbm, ⟨66, _⟩ => ⟨S2x2048x8x64, .f32⟩
  | .hbm, ⟨67, _⟩ => ⟨S2x8x64x2048, .f32⟩
  | .hbm, ⟨68, _⟩ => ⟨S2x2048x8x64, .f32⟩
  | .hbm, ⟨69, _⟩ => ⟨S2x2048x8x64, .f32⟩
  | .hbm, ⟨70, _⟩ => ⟨S2x2048x8x1, .f32⟩
  | .hbm, ⟨71, _⟩ => ⟨S2x2048x8x64, .f32⟩
  | .hbm, ⟨72, _⟩ => ⟨S2x2048x8x64, .f32⟩
  | .hbm, ⟨73, _⟩ => ⟨S2x2048x512, .f32⟩
  | .hbm, ⟨74, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Proof.KernelIdeal.Ring.lean ====
/-
# The ring of sixteen devices: its cells, its slots, and what each copy hands over

Every device holds a scratch buffer of `2 × 9` SLOTS (two streams, nine rounds); slot `(0, 0)` gets the device's own
`K` and `V` blocks. Slot `(0, r)`, `r = 1 .. 8`, is filled by the device's predecessor, slot `(1, r)`, `r = 1 .. 7`, by
its successor. The copy into slot `(s, r + 1)` of the neighbour leaves from one's own slot `(s, r)` (from `(0, 0)` for
`r = 0`), so that slot `(0, r)` comes to hold the blocks of the device `r` places before, slot `(1, r)` those of the
device `r` places after. Slots are numbered `j = 9 s + r : Fin 18` below.

Semaphores. The runtime's barrier semaphore: each device signals both neighbours once and waits for two units; the
signal hands the neighbour the slots of the signaller's buffer that the neighbour will fill. Send semaphore `j`: one
copy's credit, handing back the share of the source slot that was lent. Receive semaphore `j`: one copy's credit,
handing over slot `j` at its final contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all semaphore counters zero, any generator registers. -/
def s₀ : MemSt nD τ sig (Elt F) := ⟨m, fun _ => 0, ρ⟩

/-! ## The neighbours -/

/-- The device after `c`, and the device before it, in the ring's order. -/
def nxt (c : Dev nD) : Dev nD := (![4, 0, 6, 2, 8, 1, 10, 3, 12, 5, 14, 7, 15, 9, 13, 11] : Fin 16 → Fin 16) c
def prv (c : Dev nD) : Dev nD := (![1, 5, 3, 7, 0, 9, 2, 11, 4, 13, 6, 15, 8, 14, 10, 12] : Fin 16 → Fin 16) c

/-- The predecessor of the successor. -/
theorem prv_nxt (c : Dev nD) : prv (nxt c) = c := by revert c; decide
/-- The successor of the predecessor. -/
theorem nxt_prv (c : Dev nD) : nxt (prv c) = c := by revert c; decide
def ring : Dev nD ≃ Dev nD := ⟨nxt, prv, prv_nxt, nxt_prv⟩

/-- Whom a copy into slot `j` goes to (stream 0: the successor; stream 1: the predecessor), as a permutation. -/
def tgtE (j : Fin 18) : Dev nD ≃ Dev nD := if j.val < 9 then ring else ring.symm
def tgt (j : Fin 18) (c : Dev nD) : Dev nD := tgtE j c

/-- The slot a copy into slot `j` leaves from. -/
def src (j : Fin 18) : Fin 18 := if j.val = 10 then 0 else ⟨j.val - 1, by omega⟩

/-- The device whose `K` and `V` blocks slot `j` of device `c` comes to hold. -/
def origin (j : Fin 18) (c : Dev nD) : Dev nD := if j.val < 9 then prv^[j.val] c else nxt^[j.val - 9] c

/-- The fifteen copies a device issues, by the slot they fill, in program order. -/
def hops : List (Fin 18) := [1, 10, 2, 11, 3, 12, 4, 13, 5, 14, 6, 15, 7, 16, 8]

/-- A copy keeps the block: the slot it fills is to hold what the slot it leaves from holds. -/
theorem origin_tgt : ∀ j ∈ hops, ∀ c, origin j (tgt j c) = origin (src j) c := by decide +kernel

/-! ## The memrefs, the semaphores, the cells -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x8x64 .bf16 := Memref.whole cc0_stg3_0
abbrev vM : Memref sig .tc .vmem S2x128x8x64 .bf16 := Memref.whole cc0_stg4_0
abbrev oM : Memref sig .tc .vmem S2x128x512 .f32 := Memref.whole cc0_stg5_0
abbrev cM : Memref sig .tc .vmem S2x9x2x2x128x8x64 .bf16 := Memref.whole cc0_scratch0

/-- A slot lies inside the buffer. -/
theorem slot_inb (j : Fin 18) : ∀ a, (![j.val / 9, j.val % 9, 0, 0, 0, 0, 0] : Fin 7 → Nat) a + S1x1x2x2x128x8x64.size a ≤ S2x9x2x2x128x8x64.size a := by
  revert j; decide

/-- Slot `j` of the scratch buffer. -/
abbrev slotR (j : Fin 18) : Rect S2x9x2x2x128x8x64 :=
  Rect.unit (s := S2x9x2x2x128x8x64) ![j.val / 9, j.val % 9, 0, 0, 0, 0, 0] S1x1x2x2x128x8x64.size (slot_inb j)
abbrev slotM (j : Fin 18) : Memref sig .tc .vmem S2x2x128x8x64 .bf16 :=
  Memref.squeeze (s := S1x1x2x2x128x8x64) (cM.slice (slotR j) (fun _ => rfl)) S2x2x128x8x64 squeezes_S1x1x2x2x128x8x64_S2x2x128x8x64

abbrev barS : Sem sig := (SemArray.scalar (sig.barrier 0 rfl) : Sems sig S_).sem
def sendQ (j : Fin 18) : DmaSem sig := (⟨6 + j.val, by omega⟩ : Fin 42)
def recvQ (j : Fin 18) : DmaSem sig := (⟨24 + j.val, by omega⟩ : Fin 42)

abbrev barCell (c : Dev nD) : GSem nD τ sig := ((c : Thread nD τ), .reg barS)
abbrev sendCell (c : Dev nD) (j : Fin 18) : GSem nD τ sig := ((c : Thread nD τ), .dma (sendQ j))
abbrev recvCell (c : Dev nD) (j : Fin 18) : GSem nD τ sig := ((c : Thread nD τ), .dma (recvQ j))

/-- A cell's index on its device: a send or a receive cell, or (`none`) the barrier's. -/
abbrev CI : Type := Option (Bool × Fin 18)
def csem : CI → SemLoc sig
  | none => .reg barS
  | some (false, j) => .dma (sendQ j)
  | some (true, j) => .dma (recvQ j)
def kcell (ck : Dev nD × CI) : GSem nD τ sig := ((ck.1 : Thread nD τ), csem ck.2)

/-- One copy's credit. -/
abbrev N : ℕ := (slotM 0).view.dmaCredit
/-- A copy of a slot has a positive credit. -/
theorem N_pos : 0 < N := View.dmaCredit_pos _ (by decide)

/-! ## The slots as sets of elements, and the contents they come to hold -/

abbrev cLoc (c : Dev nD) : Loc nD τ sig := (c : Thread nD τ).loc cc0_scratch0

/-- Which slot an element of the scratch buffer lies in. -/
def slotOf (i : S2x9x2x2x128x8x64.Idx) : Fin 18 := ⟨9 * (i 0).val + (i 1).val, by
  have h0 : (i 0).val < 2 := (i 0).isLt
  have h1 : (i 1).val < 9 := (i 1).isLt
  omega⟩
def slot (j : Fin 18) : Finset S2x9x2x2x128x8x64.Idx := Finset.univ.filter fun i => slotOf i = j

/-- A slot's entries, by the slot's number. -/
theorem mem_slot {j : Fin 18} {i : S2x9x2x2x128x8x64.Idx} : i ∈ slot j ↔ slotOf i = j := by
  unfold slot; rw [Finset.mem_filter]; exact ⟨fun h => h.2, fun h => ⟨Finset.mem_univ _, h⟩⟩

/-- The same of the slot as a rectangle. -/
theorem mem_slotR {j : Fin 18} {i : S2x9x2x2x128x8x64.Idx} : i ∈ (slotR j).set ↔ slotOf i = j := by
  rw [Rect.mem_set_unit]
  have h0 : (i 0).val < 2 := (i 0).isLt
  have h1 : (i 1).val < 9 := (i 1).isLt
  constructor
  · intro h
    have e0 := h 0; have e1 := h 1
    have a0 : j.val / 9 ≤ (i 0).val ∧ (i 0).val < j.val / 9 + 1 := e0
    have a1 : j.val % 9 ≤ (i 1).val ∧ (i 1).val < j.val % 9 + 1 := e1
    refine Fin.ext ?_
    show 9 * (i 0).val + (i 1).val = j.val
    omega
  · intro h a
    have hj : 9 * (i 0).val + (i 1).val = j.val := congrArg Fin.val h
    fin_cases a
    · show j.val / 9 ≤ (i 0).val ∧ (i 0).val < j.val / 9 + 1; omega
    · show j.val % 9 ≤ (i 1).val ∧ (i 1).val < j.val % 9 + 1; omega
    all_goals first
      | exact ⟨Nat.zero_le _, (i 2).isLt⟩
      | exact ⟨Nat.zero_le _, (i 3).isLt⟩
      | exact ⟨Nat.zero_le _, (i 4).isLt⟩
      | exact ⟨Nat.zero_le _, (i 5).isLt⟩
      | exact ⟨Nat.zero_le _, (i 6).isLt⟩

omit [FloatOps F] in
theorem slotM_set (j : Fin 18) : (slotM j).view.set = slot j := by
  refine (Memref.set_view_squeeze _ _).trans ?_
  refine (View.set_slice _ _).trans ?_
  ext i
  rw [mem_slot, ← mem_slotR]
  show i ∈ (slotR j).set.map (Function.Embedding.refl _) ↔ _
  rw [Finset.map_refl]

/-- Device `c`'s `K` and `V` blocks, as staged. -/
def kstg (c : Dev nD) : (cc0_stg3_0 : Ref sig .tc).ty.Contents (Elt F) :=
  (win0_3.blk (0 : Fin 1)).view.read (Elt F) ((s₀ m ρ).mem ((c : Thread nD τ).loc main_arg2))
def vstg (c : Dev nD) : (cc0_stg4_0 : Ref sig .tc).ty.Contents (Elt F) :=
  (win0_4.blk (0 : Fin 1)).view.read (Elt F) ((s₀ m ρ).mem ((c : Thread nD τ).loc main_arg3))

/-- What device `c` puts in its slot `(0, 0)`: its `K` block, and its `V` block, at the store's shape. -/
def kOwn (c : Dev nD) : S1x1x1x2x128x8x64.Idx → Elt F .bf16 := k0_pay1 (kstg m ρ c)
def vOwn (c : Dev nD) : S1x1x1x2x128x8x64.Idx → Elt F .bf16 := k0_pay3 (k0_pay2 (vstg m ρ c))

/-- The place of a scratch element within its half slot. -/
def inSlot (i : S2x9x2x2x128x8x64.Idx) : S1x1x1x2x128x8x64.Idx := fun a => match a with
  | 0 => (0 : Fin 1) | 1 => (0 : Fin 1) | 2 => (0 : Fin 1) | 3 => (i 3 : Fin 2) | 4 => (i 4 : Fin 128) | 5 => (i 5 : Fin 8) | 6 => (i 6 : Fin 64)

/-- The contents the scratch buffer of device `c` comes to hold: at each slot the blocks of that slot's origin. -/
def commF (c : Dev nD) : Buf (Elt F) (cLoc c) := fun (i : S2x9x2x2x128x8x64.Idx) =>
  if (i 2).val = 0 then kOwn m ρ (origin (slotOf i) c) (inSlot i) else vOwn m ρ (origin (slotOf i) c) (inSlot i)

/-- Slot `j` of device `c`'s scratch buffer held at contents `f`, with share `q`. -/
def sl (c : Dev nD) (j : Fin 18) (q : PosShare TreeShare) (f : Buf (Elt F) (cLoc c)) : sProp 𝕄 := cLoc c ↦[slot j]{q} f

omit [FloatOps F] in
instance sl_storable (c : Dev nD) (j : Fin 18) (q) (f) : BI.Storable (upEmb : UEmb _ 𝕄) (sl (F := F) c j q f) := by unfold sl; infer_instance

/-! ### A copy between slots, element by element -/

omit [FloatOps F] in
/-- The element `y` of slot `j`: the place `z` of it, the same for every slot, at the slot's offsets. -/
theorem slotM_emb (y : S2x2x128x8x64.Idx) :
    ∃ z : S1x1x2x2x128x8x64.Idx, ∀ j : Fin 18, (slotM j).view.emb y = (slotR j).emb z := ⟨_, fun _ => rfl⟩

/-- The coordinates of an entry of a slot. -/
theorem slotR_emb_val (j : Fin 18) (z : S1x1x2x2x128x8x64.Idx) (a : Fin 7) :
    (((slotR j).emb z : S2x9x2x2x128x8x64.Idx) a).val = (![j.val / 9, j.val % 9, 0, 0, 0, 0, 0] : Fin 7 → Nat) a + (z a).val := by
  show (![j.val / 9, j.val % 9, 0, 0, 0, 0, 0] : Fin 7 → Nat) a + 1 * (z a).val = _
  rw [Nat.one_mul]

/-- An entry of slot `j` is in slot `j`. -/
theorem slotOf_emb (j : Fin 18) (z : S1x1x2x2x128x8x64.Idx) : slotOf ((slotR j).emb z) = j :=
  mem_slotR.mp (by rw [← Rect.map_emb_univ]; exact Finset.mem_map_of_mem _ (Finset.mem_univ z))

/-- The place inside the slot does not depend on the slot. -/
theorem inSlot_emb (j j' : Fin 18) (z : S1x1x2x2x128x8x64.Idx) : inSlot ((slotR j).emb z) = inSlot ((slotR j').emb z) := by
  funext a
  fin_cases a
  · rfl
  · rfl
  · rfl
  · exact Fin.ext ((slotR_emb_val j z 3).trans (slotR_emb_val j' z 3).symm)
  · exact Fin.ext ((slotR_emb_val j z 4).trans (slotR_emb_val j' z 4).symm)
  · exact Fin.ext ((slotR_emb_val j z 5).trans (slotR_emb_val j' z 5).symm)
  · exact Fin.ext ((slotR_emb_val j z 6).trans (slotR_emb_val j' z 6).symm)

/-- Two slots that are to hold the same block have the same final contents. -/
theorem commF_emb (j j' : Fin 18) (c c' : Dev nD) (h : origin j c = origin j' c') (z : S1x1x2x2x128x8x64.Idx) :
    commF m ρ c ((slotR j).emb z) = commF m ρ c' ((slotR j').emb z) := by
  unfold commF
  rw [slotOf_emb, slotOf_emb, h, inSlot_emb j j']
  have e : (((slotR j).emb z : S2x9x2x2x128x8x64.Idx) 2).val = (((slotR j').emb z : S2x9x2x2x128x8x64.Idx) 2).val :=
    (slotR_emb_val j z 2).trans (slotR_emb_val j' z 2).symm
  rw [e]

/-- A copy into slot `j` of the neighbour leaves the neighbour's slot at its final contents. -/
theorem landed (j : Fin 18) (hj : j ∈ hops) (c : Dev nD) (fd : Buf (Elt F) (cLoc (tgt j c))) (i : S2x9x2x2x128x8x64.Idx) (hi : i ∈ slot j) :
    (slotM j).view.write (Elt F) fd ((slotM (src j)).view.read (Elt F) (commF m ρ c)) Finset.univ i = commF m ρ (tgt j c) i := by
  rw [← slotM_set] at hi
  obtain ⟨y, -, rfl⟩ := Finset.mem_map.mp hi
  rw [View.write_emb_of_mem _ _ (Finset.mem_univ y)]
  obtain ⟨z, hz⟩ := slotM_emb y
  show commF m ρ c ((slotM (src j)).view.emb y) = commF m ρ (tgt j c) ((slotM j).view.emb y)
  rw [hz, hz]
  exact commF_emb m ρ _ _ _ _ (origin_tgt j hj c).symm z

end Cert.KernelIdealProof

end
-- ==== Proof.KernelIdeal.Sched.lean ====
/-
# The schedule of the ring's semaphores, what each device owes, and the order of the waits

One round per cell. A barrier cell has two duties of one unit each: `true`, paid by the successor, which hands over the
slots of the successor's scratch buffer that this device fills; `false`, paid by the predecessor, likewise. A send cell
`j` and a receive cell `j` have one duty of one copy's credit, for the fifteen slots `j` that are filled: the send hands
back the share of the source slot that the copy borrowed, the receive hands over the slot with its final contents.
-/
module

public import proofs.«01_k».proof.Proof.KernelIdeal.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions along a list -/

/-- `Φ j₁ ∗ (Φ j₂ ∗ … ∗ emp)`. -/
def bigL (Φ : Fin 18 → sProp 𝕄) : List (Fin 18) → sProp 𝕄
  | [] => iprop(emp)
  | j :: js => iprop(Φ j ∗ bigL Φ js)

omit [FloatOps F] in
theorem bigL_cons (Φ : Fin 18 → sProp 𝕄) (j : Fin 18) (js : List (Fin 18)) : bigL Φ (j :: js) = iprop(Φ j ∗ bigL Φ js) := rfl

omit [FloatOps F] in
instance bigL_storable (Φ : Fin 18 → sProp 𝕄) [∀ j, BI.Storable (upEmb : UEmb _ 𝕄) (Φ j)] (js : List (Fin 18)) :
    BI.Storable (upEmb : UEmb _ 𝕄) (bigL Φ js) := by
  induction js with
  | nil => unfold bigL; infer_instance
  | cons j js ih => unfold bigL; infer_instance

omit [FloatOps F] in
/-- Appending one conjunct at the end. -/
theorem bigL_snoc (Φ : Fin 18 → sProp 𝕄) (j : Fin 18) (js : List (Fin 18)) : iprop(bigL Φ js ∗ Φ j) ⊢ bigL Φ (js ++ [j]) := by
  induction js with
  | nil =>
    show iprop(emp ∗ Φ j) ⊢ iprop(Φ j ∗ emp)
    iintro ⟨-, H⟩; isplitl; · iexact H
    iempintro
  | cons k ks ih =>
    show iprop((Φ k ∗ bigL Φ ks) ∗ Φ j) ⊢ iprop(Φ k ∗ bigL Φ (ks ++ [j]))
    iintro ⟨⟨H1, H2⟩, H3⟩
    isplitl [H1]; · iexact H1
    iapply ih
    isplitl [H2] <;> iassumption

omit [FloatOps F] in
/-- One conjunct taken out, to be put back. -/
theorem bigL_mem (Φ : Fin 18 → sProp 𝕄) {j : Fin 18} {js : List (Fin 18)} (h : j ∈ js) :
    bigL Φ js ⊢ iprop(Φ j ∗ (Φ j -∗ bigL Φ js)) := by
  induction js with
  | nil => cases h
  | cons k ks ih =>
    show iprop(Φ k ∗ bigL Φ ks) ⊢ iprop(Φ j ∗ (Φ j -∗ Φ k ∗ bigL Φ ks))
    rcases List.mem_cons.mp h with rfl | h'
    · iintro ⟨H1, H2⟩
      isplitl [H1]; · iexact H1
      iintro H1
      isplitl [H1] <;> iassumption
    · iintro ⟨H1, H2⟩
      ihave H := (ih h') $$ H2
      icases H with ⟨Hj, Hback⟩
      isplitl [Hj]; · iexact Hj
      iintro Hj
      isplitl [H1]; · iexact H1
      iapply Hback; iexact Hj

omit [FloatOps F] in
theorem bigL_mono {Φ Ψ : Fin 18 → sProp 𝕄} (js : List (Fin 18)) (h : ∀ j ∈ js, Φ j ⊢ Ψ j) : bigL Φ js ⊢ bigL Ψ js := by
  induction js with
  | nil => exact BI.Entails.refl _
  | cons k ks ih =>
    exact BIClass.sep_mono (h k List.mem_cons_self) (ih fun j hj => h j (List.mem_cons_of_mem _ hj))

omit [FloatOps F] in
theorem bigL_sep (Φ Ψ : Fin 18 → sProp 𝕄) (js : List (Fin 18)) : iprop(bigL Φ js ∗ bigL Ψ js) ⊢ bigL (fun j => iprop(Φ j ∗ Ψ j)) js := by
  induction js with
  | nil => show iprop(emp ∗ emp) ⊢ iprop(emp); iintro ⟨-, -⟩; iempintro
  | cons k ks ih =>
    show iprop((Φ k ∗ bigL Φ ks) ∗ (Ψ k ∗ bigL Ψ ks)) ⊢ iprop((Φ k ∗ Ψ k) ∗ bigL (fun j => iprop(Φ j ∗ Ψ j)) ks)
    iintro ⟨⟨H1, H2⟩, H3, H4⟩
    isplitl [H1 H3]; · isplitl [H1] <;> iassumption
    iapply ih
    isplitl [H2] <;> iassumption

omit [FloatOps F] in
/-- A conjunction over all eighteen slots, along a list of them all. -/
theorem bigL_univ (Φ : Fin 18 → sProp 𝕄) (js : List (Fin 18)) (hn : js.Nodup) (h : ∀ j, j ∈ js) :
    bigSep Finset.univ Φ ⊢ bigL Φ js := by
  have e : (Finset.univ : Finset (Fin 18)) = js.toFinset := by ext j; simp [h j]
  rw [e]
  clear e h
  induction js with
  | nil => show _ ⊢ iprop(emp); iintro -; iempintro
  | cons k ks ih =>
    rw [List.toFinset_cons, bigSep_insert (by simpa using (List.nodup_cons.mp hn).1)]
    exact sep_mono_right (ih (List.nodup_cons.mp hn).2)

omit [FloatOps F] in
theorem bigL_univ' (Φ : Fin 18 → sProp 𝕄) (js : List (Fin 18)) (hn : js.Nodup) (h : ∀ j, j ∈ js) :
    bigL Φ js ⊢ bigSep Finset.univ Φ := by
  have e : (Finset.univ : Finset (Fin 18)) = js.toFinset := by ext j; simp [h j]
  rw [e]
  clear e h
  induction js with
  | nil => show iprop(emp) ⊢ _; rw [List.toFinset_nil, bigSep_empty]; exact BI.Entails.refl _
  | cons k ks ih =>
    rw [List.toFinset_cons, bigSep_insert (by simpa using (List.nodup_cons.mp hn).1)]
    exact sep_mono_right (ih (List.nodup_cons.mp hn).2)

omit [FloatOps F] in
theorem bigL_perm (Φ : Fin 18 → sProp 𝕄) {l l' : List (Fin 18)} (h : l.Perm l') : bigL Φ l ⊢ bigL Φ l' := by
  induction h with
  | nil => exact BI.Entails.refl _
  | cons k _ ih => exact sep_mono_right ih
  | swap a b l =>
    show iprop(Φ b ∗ (Φ a ∗ bigL Φ l)) ⊢ iprop(Φ a ∗ (Φ b ∗ bigL Φ l))
    iintro ⟨H1, H2, H3⟩
    isplitl [H2]; · iexact H2
    isplitl [H1] <;> iassumption
  | trans _ _ ih1 ih2 => exact ih1.trans ih2

omit [FloatOps F] in
theorem bigL_append (Φ : Fin 18 → sProp 𝕄) (l l' : List (Fin 18)) : iprop(bigL Φ l ∗ bigL Φ l') ⊢ bigL Φ (l ++ l') := by
  induction l with
  | nil => show iprop(emp ∗ bigL Φ l') ⊢ bigL Φ l'; iintro ⟨-, H⟩; iexact H
  | cons k ks ih =>
    show iprop((Φ k ∗ bigL Φ ks) ∗ bigL Φ l') ⊢ iprop(Φ k ∗ bigL Φ (ks ++ l'))
    iintro ⟨⟨H1, H2⟩, H3⟩
    isplitl [H1]; · iexact H1
    iapply ih
    isplitl [H2] <;> iassumption

omit [FloatOps F] in
theorem bigL_split (Φ : Fin 18 → sProp 𝕄) (l l' : List (Fin 18)) : bigL Φ (l ++ l') ⊢ iprop(bigL Φ l ∗ bigL Φ l') := by
  induction l with
  | nil => show bigL Φ l' ⊢ iprop(emp ∗ bigL Φ l'); iintro H; isplitr; · iempintro
           iexact H
  | cons k ks ih =>
    show iprop(Φ k ∗ bigL Φ (ks ++ l')) ⊢ iprop((Φ k ∗ bigL Φ ks) ∗ bigL Φ l')
    iintro ⟨H1, H⟩
    ihave H' := ih $$ H
    icases H' with ⟨H2, H3⟩
    isplitl [H1 H2]; · isplitl [H1] <;> iassumption
    iexact H3

/-! ## The shares of a slot -/

/-- The share of its source slot that the copy into slot `j` is lent. -/
def shr (j : Fin 18) : PosShare TreeShare := if j.val = 10 then fullShare.right.left else fullShare.left
/-- The share of slot `j` its device keeps for reading. -/
def rshr (j : Fin 18) : PosShare TreeShare := if j.val = 0 then fullShare.right.right else fullShare.right

/-- What the copy into slot `j` borrows. -/
def lent (c : Dev nD) (j : Fin 18) : sProp 𝕄 := sl c (src j) (shr j) (commF m ρ c)
/-- What a device keeps of slot `j` for reading. -/
def kept (c : Dev nD) (j : Fin 18) : sProp 𝕄 := sl c j (rshr j) (commF m ρ c)

instance lent_storable (c : Dev nD) (j : Fin 18) : BI.Storable (upEmb : UEmb _ 𝕄) (lent (F := F) m ρ c j) := by unfold lent; infer_instance

/-! ## The schedule -/

/-- The slots of device `c`'s buffer that the neighbour across stream `s` fills. -/
def fills : Bool → List (Fin 18)
  | true => [1, 2, 3, 4, 5, 6, 7, 8]
  | false => [10, 11, 12, 13, 14, 15, 16]

/-- What a barrier unit hands device `c`: from its successor (`true`) and from its predecessor (`false`) the slots of
    theirs that `c` fills, at whatever contents. -/
def barPay (c : Dev nD) (b : Bool) : sProp 𝕄 := bigL (fun j => iprop(∃ f, sl (tgt j c) j fullShare f)) (fills b)

instance barPay_storable (c : Dev nD) (b : Bool) : BI.Storable (upEmb : UEmb _ 𝕄) (barPay (F := F) c b) := by unfold barPay; infer_instance

def recvPay (c : Dev nD) (j : Fin 18) : sProp 𝕄 := sl c j fullShare (commF m ρ c)

instance recvPay_storable (c : Dev nD) (j : Fin 18) : BI.Storable (upEmb : UEmb _ 𝕄) (recvPay (F := F) m ρ c j) := by unfold recvPay; infer_instance

/-- A DMA semaphore's number. -/
def qn (q : DmaSem sig) : ℕ := Fin.val (n := 42) q
/-- There are 42 such semaphores. -/
theorem qn_lt (q : DmaSem sig) : qn q < 42 := Fin.isLt (n := 42) q
/-- The number of a send semaphore. -/
theorem qn_send (j : Fin 18) : qn (sendQ j) = 6 + j.val := rfl
/-- The number of a receive semaphore. -/
theorem qn_recv (j : Fin 18) : qn (recvQ j) = 24 + j.val := rfl

/-- Which of the ring's semaphores a DMA semaphore is. -/
def isHopQ (q : DmaSem sig) : Prop := ∃ j ∈ hops, q = sendQ j ∨ q = recvQ j
instance : DecidablePred isHopQ := fun q => by unfold isHopQ; infer_instance

def ringRd : Rounds.Schedule (GSem nD τ sig) Bool 𝕄 where
  duties g r := if r = 0 ∧ g.1.2 = .tc then
      (match g.2 with
        | .reg s => if s = barS then Finset.univ else ∅
        | .dma q => if isHopQ q then {false} else ∅)
    else ∅
  unitless _ := False
  amount g _ _ := match g.2 with
    | .reg _ => 1
    | .dma _ => N
  payload g _ d := match g.2 with
    | .reg _ => barPay g.1.1 d
    | .dma q => if h : 24 ≤ qn q then recvPay m ρ g.1.1 ⟨qn q - 24, by have := qn_lt q; omega⟩
        else if h' : 6 ≤ qn q then lent m ρ g.1.1 ⟨qn q - 6, by omega⟩ else iprop(emp)
  amount_pos g _ _ _ := by
    rcases g with ⟨t, s | q⟩
    · exact Nat.one_pos
    · exact N_pos

instance ringRd_payload_storable (g : GSem nD τ sig) (r : ℕ) (d : Bool) :
    BI.Storable (upEmb : UEmb _ 𝕄) ((ringRd (F := F) m ρ).payload g r d) := by
  rcases g with ⟨t, s | q⟩
  · exact barPay_storable _ _
  · show BI.Storable upEmb (if h : 24 ≤ qn q then recvPay m ρ t.1 ⟨qn q - 24, _⟩
      else if h' : 6 ≤ qn q then lent m ρ t.1 ⟨qn q - 6, _⟩ else iprop(emp))
    split
    · infer_instance
    · split <;> infer_instance

section Sched
variable (c : Dev nD) (j : Fin 18)

omit [FloatOps F] in
theorem duties_bar : (ringRd (F := F) m ρ).duties (barCell c) 0 = Finset.univ := rfl
omit [FloatOps F] in
theorem duties_send (hj : j ∈ hops) : (ringRd (F := F) m ρ).duties (sendCell c j) 0 = {false} :=
  if_pos (show isHopQ (sendQ j) from ⟨j, hj, .inl rfl⟩)
omit [FloatOps F] in
theorem duties_recv (hj : j ∈ hops) : (ringRd (F := F) m ρ).duties (recvCell c j) 0 = {false} :=
  if_pos (show isHopQ (recvQ j) from ⟨j, hj, .inr rfl⟩)
omit [FloatOps F] in
theorem duties_later (g : GSem nD τ sig) : ∀ r, 1 ≤ r → (ringRd (F := F) m ρ).duties g r = ∅ :=
  fun r hr => if_neg fun h => by omega

/-- A send semaphore of no copy is idle. -/
theorem isHopQ_send : ∀ j : Fin 18, j ∉ hops → ¬ isHopQ (sendQ j) := by decide +kernel
/-- A receive semaphore of no copy is idle. -/
theorem isHopQ_recv : ∀ j : Fin 18, j ∉ hops → ¬ isHopQ (recvQ j) := by decide +kernel

omit [FloatOps F] in
theorem duties_send_none (hj : j ∉ hops) : ∀ r, 0 ≤ r → (ringRd (F := F) m ρ).duties (sendCell c j) r = ∅ := by
  intro r _
  rcases Nat.eq_zero_or_pos r with rfl | h
  · exact if_neg (isHopQ_send j hj)
  · exact duties_later m ρ _ r h
omit [FloatOps F] in
theorem duties_recv_none (hj : j ∉ hops) : ∀ r, 0 ≤ r → (ringRd (F := F) m ρ).duties (recvCell c j) r = ∅ := by
  intro r _
  rcases Nat.eq_zero_or_pos r with rfl | h
  · exact if_neg (isHopQ_recv j hj)
  · exact duties_later m ρ _ r h

omit [FloatOps F] in
theorem amount_bar (d : Bool) : (ringRd (F := F) m ρ).amount (barCell c) 0 d = 1 := rfl
omit [FloatOps F] in
theorem amount_send (d : Bool) : (ringRd (F := F) m ρ).amount (sendCell c j) 0 d = N := rfl
omit [FloatOps F] in
theorem amount_recv (d : Bool) : (ringRd (F := F) m ρ).amount (recvCell c j) 0 d = N := rfl

omit [FloatOps F] in
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_send (hj : j ∈ hops) : (ringRd (F := F) m ρ).expect (sendCell c j) 0 = N := by
  unfold Schedule.expect Schedule.amountOf; rw [duties_send m ρ c j hj, Finset.sum_singleton, amount_send]
omit [FloatOps F] in
theorem expect_recv (hj : j ∈ hops) : (ringRd (F := F) m ρ).expect (recvCell c j) 0 = N := by
  unfold Schedule.expect Schedule.amountOf; rw [duties_recv m ρ c j hj, Finset.sum_singleton, amount_recv]

omit [FloatOps F] in
theorem payload_bar (d : Bool) : (ringRd (F := F) m ρ).payload (barCell c) 0 d = barPay c d := rfl
/-- What a send cell hands back. -/
theorem payload_send (d : Bool) : (ringRd (F := F) m ρ).payload (sendCell c j) 0 d = lent m ρ c j := by
  have := qn_send j
  dsimp only [ringRd]
  rw [dif_neg (by omega), dif_pos (by omega)]
  congr 1
  exact Fin.ext (by show qn (sendQ j) - 6 = j.val; omega)
/-- What a receive cell hands over. -/
theorem payload_recv (d : Bool) : (ringRd (F := F) m ρ).payload (recvCell c j) 0 d = recvPay m ρ c j := by
  have := qn_recv j
  dsimp only [ringRd]
  rw [dif_pos (by omega)]
  congr 1
  exact Fin.ext (by show qn (recvQ j) - 24 = j.val; omega)

omit [FloatOps F] in
theorem rest_bar : bigSep ((ringRd (F := F) m ρ).duties (barCell c) 0 \ ∅) (fun d => (ringRd (F := F) m ρ).payload (barCell c) 0 d) = iprop(barPay c false ∗ barPay c true) := by
  rw [Finset.sdiff_empty, duties_bar, bigSep_univ_eq_bigSepL [false, true] (by decide) (by decide), bigSepL_cons_cons, bigSepL_singleton]
  rfl
/-- All that a send cell pays in its one round. -/
theorem rest_send (hj : j ∈ hops) : bigSep ((ringRd (F := F) m ρ).duties (sendCell c j) 0 \ ∅) (fun d => (ringRd (F := F) m ρ).payload (sendCell c j) 0 d) = lent m ρ c j := by
  rw [Finset.sdiff_empty, duties_send m ρ c j hj, bigSep_singleton, payload_send]
/-- All that a receive cell pays in its one round. -/
theorem rest_recv (hj : j ∈ hops) : bigSep ((ringRd (F := F) m ρ).duties (recvCell c j) 0 \ ∅) (fun d => (ringRd (F := F) m ρ).payload (recvCell c j) 0 d) = recvPay m ρ c j := by
  rw [Finset.sdiff_empty, duties_recv m ρ c j hj, bigSep_singleton, payload_recv]

end Sched

/-! ## What each device owes, and the levels of the cells -/

/-- What device `c` owes with the copies `js` still to issue. -/
def ow (c : Dev nD) : List (Fin 18) → CellTallies nD τ sig Unit
  | [] => 0
  | j :: js => ow c js + tallyAt (recvCell (tgt j c) j) () N

/-- At launch: every copy, a unit to its successor's barrier cell, and (first to be paid) one to its predecessor's. -/
def O₁ (c : Dev nD) : CellTallies nD τ sig Unit := ow c hops + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the receive cell of slot `(s, r)` at `r + 2`, staging and send cells at 0. -/
def lv (g : GSem nD τ sig) (_ : Unit) : ℕ := match g.2 with
  | .reg _ => 1
  | .dma q => if 24 ≤ qn q then (qn q - 24) % 9 + 2 else 0

/-- Cells of other threads have no level. -/
theorem L_of_ne (g : GSem nD τ sig) (h : g.1.2 ≠ .tc) : L g = ∅ := if_neg h
/-- Each of these threads' cells has one level. -/
theorem L_tc (c : Dev nD) (sm : SemLoc sig) : L ((c : Thread nD τ), sm) = {()} := if_pos rfl
/-- The level of a receive cell, which grows with the round. -/
theorem lv_recv (c : Dev nD) (j : Fin 18) : lv (recvCell c j) () = j.val % 9 + 2 := by
  have := qn_recv j
  show (if 24 ≤ qn (recvQ j) then (qn (recvQ j) - 24) % 9 + 2 else 0) = _
  rw [if_pos (by omega), this, Nat.add_sub_cancel_left]

/-- A device owes only credits of the copies still to come. -/
theorem ow_pos {c : Dev nD} {js : List (Fin 18)} {g : GSem nD τ sig} {u : Unit} (h : 0 < ow c js g u) :
    ∃ j ∈ js, g = recvCell (tgt j c) j := by
  induction js with
  | nil => exact absurd h (Nat.lt_irrefl 0)
  | cons k ks ih =>
    unfold ow at h
    rw [Pi.add_apply, Finsupp.add_apply, tallyAt_apply] at h
    by_cases e : g = recvCell (tgt k c) k ∧ u = ()
    · exact ⟨k, List.mem_cons_self, e.1⟩
    · rw [if_neg e, Nat.add_zero] at h
      obtain ⟨j, hj, hg⟩ := ih h
      exact ⟨j, List.mem_cons_of_mem _ hj, hg⟩

/-- What a device owes at its start. -/
theorem O₀_pos {c : Dev nD} {g : GSem nD τ sig} {u : Unit} (h : 0 < O₀ c g u) :
    (∃ j ∈ hops, g = recvCell (tgt j c) j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (ow_pos h)

omit [FloatOps F] in
/-- A staging wait, made owing everything or nothing. -/
theorem mayWait_stage (c : Dev nD) (q : DmaSem sig) (hq : qn q < 24) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, _, rfl⟩ | rfl | rfl <;> exact Finset.mem_singleton_self _)
      (fun p hp => by rw [Finset.mem_singleton.mp hp]; dsimp only [lv]; rw [if_neg (by omega)])
      (fun g u hg => by
        rcases O₀_pos hg with ⟨j, _, rfl⟩ | rfl | rfl
        · rw [show u = () from rfl, lv_recv]; omega
        · exact Nat.one_pos
        · exact Nat.one_pos)
  · rw [MayWait_zero]; iintro -; iempintro

omit [FloatOps F] in
/-- The barrier wait, made owing the fifteen copies. -/
theorem mayWait_bar (c : Dev nD) : (levAts L lv : sProp 𝕄) ⊢ MayWait (c : Thread nD τ) (.reg barS) () (ow c hops) :=
  MayOwe.of_cut (L := L) (lev := lv) 1 (fun p hp => by rw [Finset.mem_singleton.mp hp, L_tc]; exact Finset.mem_singleton_self _)
    (fun g u hg => by obtain ⟨j, _, rfl⟩ := ow_pos hg; exact Finset.mem_singleton_self _)
    (fun p hp => by rw [Finset.mem_singleton.mp hp]; exact le_refl _)
    (fun g u hg => by obtain ⟨j, _, rfl⟩ := ow_pos hg; rw [show u = () from rfl, lv_recv]; omega)

omit [FloatOps F] in
/-- A receive wait on slot `j`, made owing copies of later rounds only. -/
theorem mayWait_recv (c : Dev nD) (j : Fin 18) (js : List (Fin 18)) (h : ∀ k ∈ js, j.val % 9 < k.val % 9) :
    (levAts L lv : sProp 𝕄) ⊢ MayWait (c : Thread nD τ) (.dma (recvQ j)) () (ow c js) :=
  MayOwe.of_cut (L := L) (lev := lv) (j.val % 9 + 2) (fun p hp => by rw [Finset.mem_singleton.mp hp, L_tc]; exact Finset.mem_singleton_self _)
    (fun g u hg => by obtain ⟨k, _, rfl⟩ := ow_pos hg; exact Finset.mem_singleton_self _)
    (fun p hp => by rw [Finset.mem_singleton.mp hp]; exact (lv_recv c j).le)
    (fun g u hg => by obtain ⟨k, hk, rfl⟩ := ow_pos hg; rw [show u = () from rfl, lv_recv]; have := h k hk; omega)

end Cert.KernelIdealProof

end
-- ==== Proof.KernelIdeal.Steps.lean ====
/-
# One rule per kind of step of the kernel

`St` is a device's share of the protocol in the middle of the kernel: which copies it still has to issue (`todo`), which
shares of slots it holds to lend (`ready`), which receives it awaits (`infl`), which sends it awaits (`out`), which slots
it can read (`got`), and which sends are over (`fin`). Issuing a copy, waiting for a receive, waiting for a send and
reading a slot each take `St` to `St`.
-/
module

public import proofs.«01_k».proof.Proof.KernelIdeal.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The standing facts -/

/-- Every cell's invariant, at the names `K`, and that every cell has reached round 0. -/
def records (K : Dev nD × CI → ℕ) : sProp 𝕄 :=
  iprop((bigSep Finset.univ fun ck : Dev nD × CI => cellInv ER (ringRd m ρ) (K ck) (kcell ck))
    ∗ bigSep Finset.univ fun ck : Dev nD × CI => reached ER (kcell ck) 0)

instance records_persistent (K : Dev nD × CI → ℕ) : BI.Persistent (records m ρ K) := by unfold records; infer_instance

omit [FloatOps F] in
theorem inv_at' (K : Dev nD × CI → ℕ) (ck : Dev nD × CI) : records m ρ K ⊢ cellInv ER (ringRd m ρ) (K ck) (kcell ck) := by
  have h : (bigSep Finset.univ fun ck : Dev nD × CI => cellInv ER (ringRd m ρ) (K ck) (kcell ck)) ⊢ cellInv ER (ringRd m ρ) (K ck) (kcell ck) :=
    bigSep_elim (Finset.mem_univ ck)
  unfold records
  iintro ⟨H, -⟩
  iapply h; iexact H
omit [FloatOps F] in
theorem reached_at' (K : Dev nD × CI → ℕ) (ck : Dev nD × CI) : records m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, H⟩
  iapply h; iexact H

section Facts
variable (K : Dev nD × CI → ℕ) (c : Dev nD) (j : Fin 18)
omit [FloatOps F] in
theorem inv_bar : records m ρ K ⊢ cellInv ER (ringRd m ρ) (K (c, none)) (barCell c) := inv_at' m ρ K (c, none)
omit [FloatOps F] in
theorem inv_send : records m ρ K ⊢ cellInv ER (ringRd m ρ) (K (c, some (false, j))) (sendCell c j) := inv_at' m ρ K (c, some (false, j))
omit [FloatOps F] in
theorem inv_recv : records m ρ K ⊢ cellInv ER (ringRd m ρ) (K (c, some (true, j))) (recvCell c j) := inv_at' m ρ K (c, some (true, j))
omit [FloatOps F] in
theorem reached_bar : records m ρ K ⊢ reached ER (barCell c) 0 := reached_at' m ρ K (c, none)
omit [FloatOps F] in
theorem reached_send : records m ρ K ⊢ reached ER (sendCell c j) 0 := reached_at' m ρ K (c, some (false, j))
omit [FloatOps F] in
theorem reached_recv : records m ρ K ⊢ reached ER (recvCell c j) 0 := reached_at' m ρ K (c, some (true, j))
end Facts

/-! ## A device's state -/

/-- For a copy still to issue: the positions at its two cells, the tokens of the two duties it pays, the credit for the
    device's own receive. -/
def todoR (c : Dev nD) (j : Fin 18) : sProp 𝕄 :=
  iprop(atPos ER (sendCell c j) 0 ∅ 0 ∗ atPos ER (recvCell c j) 0 ∅ 0 ∗ dutyTok ER (sendCell c j) 0 false
    ∗ dutyTok ER (recvCell (tgt j c) j) 0 false ∗ cred (tallyAt (recvCell c j) () N))
/-- The neighbour's slot it lands in. -/
def landR (c : Dev nD) (j : Fin 18) : sProp 𝕄 := iprop(∃ f, sl (tgt j c) j fullShare f)
def inflR (c : Dev nD) (j : Fin 18) : sProp 𝕄 := iprop(atPos ER (recvCell c j) 0 ∅ 0 ∗ cred (tallyAt (recvCell c j) () N))
def outR (c : Dev nD) (j : Fin 18) : sProp 𝕄 := iprop(atPos ER (sendCell c j) 0 ∅ 0 ∗ cred (tallyAt (sendCell c j) () N))
def gotR (c : Dev nD) (j : Fin 18) : sProp 𝕄 := iprop(kept m ρ c j ∗ semVal (recvCell c j) 0)
def finR (c : Dev nD) (j : Fin 18) : sProp 𝕄 := iprop(lent m ρ c j ∗ semVal (sendCell c j) 0)

def St (K : Dev nD × CI → ℕ) (c : Dev nD) (todo ready infl out got fin : List (Fin 18)) : sProp 𝕄 :=
  iprop(records m ρ K ∗ levAts L lv ∗ (∃ W, owes (c : Thread nD τ) (ow c todo) W) ∗ bigL (todoR c) todo ∗ bigL (landR c) todo
    ∗ bigL (lent m ρ c) ready ∗ bigL (inflR c) infl ∗ bigL (outR c) out ∗ bigL (gotR m ρ c) got ∗ bigL (finR m ρ c) fin)

/-- No copy fills the device's own slot, or the first slot of the second stream. -/
theorem hops_ne : ∀ j ∈ hops, j.val ≠ 0 ∧ j.val ≠ 9 := by decide

section Steps
variable {K : Dev nD × CI → ℕ} {c : Dev nD} {todo ready infl out got fin : List (Fin 18)}

/-- Issuing the copy into slot `j` of the neighbour. -/
theorem wp_start (j : Fin 18) (hj : j ∈ hops) {n : Dev nD} (hn : n = tgt j c)
    {hsc : (slotM j : Memref sig (Dev.tc n : Thread nD τ).2.kind .vmem S2x2x128x8x64 .bf16).view.ref.isScScratch = false}
    {hsrc : (slotM (src j)).view.WordExact} {hdst : (slotM j).view.WordExact}
    {hsem : DmaTarget.Typed .vmem (.dma (recvQ j)) (.remote (Dev.tc n : Thread nD τ) (slotM j : Memref sig (Dev.tc n : Thread nD τ).2.kind .vmem S2x2x128x8x64 .bf16) (.dma (sendQ j)) hsc)}
    {α : Type} {Q : α → sProp 𝕄} {k : PUnit → Prog (TpuEff nD τ sig (Elt F) Λ₀ .tc) α} :
    St m ρ K c (j :: todo) (j :: ready) infl out got fin
      ⊢ iprop((St m ρ K c todo ready (infl ++ [j]) (out ++ [j]) got fin -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (src j)) (.remote (Dev.tc n : Thread nD τ) (slotM j) (.dma (sendQ j)) hsc) (.dma (recvQ j)) hsrc hdst hsem) k) Q) := by
  subst hn
  unfold St
  rw [bigL_cons, bigL_cons, bigL_cons]
  unfold todoR landR lent sl
  iintro ⟨#HR, #Hlev, ⟨%W, HO⟩, ⟨⟨HaS, HaR, HtS, HtR, Hc⟩, Htodo⟩, ⟨⟨%f, Hd⟩, Hland⟩, ⟨Hs, Hready⟩, Hinfl, Hout, Hgot, Hfin⟩ Hk
  rw [← slotM_set, ← slotM_set]
  iapply (Rounds.wp_send_pointsTo 𝒱₀ ER (ringRd m ρ) (c : Thread nD τ) none (c' := (tgt j c : Thread nD τ))
      (src := slotM (src j)) (dst := slotM j) (κ₁ := K (c, some (false, j))) (κ₂ := K (tgt j c, some (true, j)))
      (r₁ := 0) (r₂ := 0) (d₁ := false) (d₂ := false) (fd := f) (fs := commF m ρ c) (q := shr j)
      (by rw [duties_send m ρ c j hj]; exact Finset.mem_singleton_self _) (by rw [duties_recv m ρ (tgt j c) j hj]; exact Finset.mem_singleton_self _)
      () () N rfl (amount_send m ρ c j false) (amount_recv m ρ (tgt j c) j false) (ow c todo) rfl (W := W)
      (by rw [payload_send, slotM_set]; exact BI.Entails.refl _)
      (by
        rw [payload_recv, slotM_set]
        unfold recvPay sl
        exact Entails.of_eq (pointsTo_congr fun i hi => landed m ρ j hj c f i hi))) $$ [Hs Hd HO HtS HtR]
  · isplitr; · iapply (inv_send m ρ K c j); iexact HR
    isplitr; · iapply (inv_recv m ρ K (tgt j c) j); iexact HR
    isplitl [Hs]; · iexact Hs
    isplitl [Hd]; · iexact Hd
    isplitl [HO]; · iexact HO
    isplitl [HtS]; · iexact HtS
    isplitr; · iapply (reached_send m ρ K c j); iexact HR
    isplitl [HtR]; · iexact HtR
    iapply (reached_recv m ρ K (tgt j c) j); iexact HR
  iintro ⟨HcS, HO⟩
  iapply Hk
  isplitr; · iexact HR
  isplitr; · iexact Hlev
  isplitl [HO]; · iexists W; iexact HO
  isplitl [Htodo]; · iexact Htodo
  isplitl [Hland]; · iexact Hland
  isplitl [Hready]; · iexact Hready
  isplitl [Hinfl HaR Hc]
  · iapply (bigL_snoc (inflR c) j infl)
    isplitl [Hinfl]; · iexact Hinfl
    unfold inflR
    isplitl [HaR] <;> iassumption
  isplitl [Hout HaS HcS]
  · iapply (bigL_snoc (outR c) j out)
    isplitl [Hout]; · iexact Hout
    unfold outR
    isplitl [HaS] <;> iassumption
  isplitl [Hgot] <;> iassumption

/-- The share kept of a filled slot and the share to lend of it are the slot. -/
theorem kept_lent (c : Dev nD) (j j' : Fin 18) (h0 : j.val ≠ 0) (h9 : j.val ≠ 9) (h : j'.val = j.val + 1) :
    recvPay m ρ c j ⊣⊢ iprop(kept m ρ c j ∗ lent m ρ c j') := by
  have e : src j' = j := by
    unfold src; rw [if_neg (by omega)]; exact Fin.ext (by show j'.val - 1 = j.val; omega)
  unfold recvPay kept lent sl
  rw [e, show rshr j = fullShare.right from if_neg h0, show shr j' = fullShare.left from if_neg (by omega)]
  have := pointsTo_share (Ix := Unit) (Name := ℕ) (U := UU) (Lvl := ℕ) (ℓ := cLoc c) (I := slot j) (f := commF m ρ c) (PosShare.mem_left_op_right fullShare)
  refine this.trans ⟨?_, ?_⟩
  · iintro ⟨H1, H2⟩; isplitl [H2] <;> iassumption
  · iintro ⟨H1, H2⟩; isplitl [H2] <;> iassumption

/-- Waiting for slot `j`, owing only copies of later rounds. -/
theorem wp_recv (j j' : Fin 18) (hj : j ∈ hops) (h : j'.val = j.val + 1) (hlt : ∀ k ∈ todo, j.val % 9 < k.val % 9)
    {ms md : Memref sig .tc .vmem S2x2x128x8x64 .bf16} {hms : ms.view.WordExact} {hmd : md.view.WordExact} (hm : md = slotM j)
    {α : Type} {Q : α → sProp 𝕄} {k : PUnit → Prog (TpuEff nD τ sig (Elt F) Λ₀ .tc) α} :
    St m ρ K c todo ready (j :: infl) out got fin
      ⊢ iprop((St m ρ K c todo (ready ++ [j']) infl out (got ++ [j]) fin -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ j) ms md hms hmd) k) Q) := by
  subst hm
  have h09 : j.val ≠ 0 ∧ j.val ≠ 9 := hops_ne j hj
  unfold St
  rw [bigL_cons]
  unfold inflR
  iintro ⟨#HR, #Hlev, ⟨%W, HO⟩, Htodo, Hland, Hready, ⟨⟨HaR, Hc⟩, Hinfl⟩, Hout, Hgot, Hfin⟩ Hk
  iapply (Rounds.wp_wait_rest_token 𝒱₀ ER (ringRd m ρ) (c : Thread nD τ) none (κ := K (c, some (true, j)))
      (wpE_waitDma2_eq 𝒱₀ (c : Thread nD τ) none Set.univ) (Set.mem_univ _) () (O := ow c todo) (W := W) (R := 0) (m := 0) (T := ∅)
      (by rw [Nat.zero_add, expect_recv m ρ c j hj])) $$ [Hc HO HaR]
  · isplitr; · iapply (inv_recv m ρ K c j); iexact HR
    isplitl [Hc]; · iexact Hc
    isplitl [HO]; · iexact HO
    isplitr; · iapply (mayWait_recv c j todo hlt); iexact Hlev
    iexact HaR
  iintro ⟨HO, HaR, -, Hpay⟩
  ihave Hs := (Entails.of_eq (rest_recv m ρ c j hj)) $$ Hpay
  ihave Hs' := ((kept_lent m ρ c j j' h09.1 h09.2 h).1) $$ Hs
  icases Hs' with ⟨Hkept, Hlent⟩
  imod (Rounds.cell_close ER (ringRd m ρ) (Set.mem_univ (K (c, some (true, j)))) (fun h => h) (R := 0 + 1) (duties_later m ρ (recvCell c j))) $$ [HaR] with Hz
  · isplitr; · iapply (inv_recv m ρ K c j); iexact HR
    iexact HaR
  iapply Hk
  isplitr; · iexact HR
  isplitr; · iexact Hlev
  isplitl [HO]; · iexists _; iexact HO
  isplitl [Htodo]; · iexact Htodo
  isplitl [Hland]; · iexact Hland
  isplitl [Hready Hlent]
  · iapply (bigL_snoc (lent m ρ c) j' ready)
    isplitl [Hready] <;> iassumption
  isplitl [Hinfl]; · iexact Hinfl
  isplitl [Hout]; · iexact Hout
  isplitl [Hgot Hkept Hz]
  · iapply (bigL_snoc (gotR m ρ c) j got)
    isplitl [Hgot]; · iexact Hgot
    unfold gotR
    isplitl [Hkept] <;> iassumption
  iexact Hfin

/-- Waiting for the copy into slot `j` of the neighbour to have left, nothing owed any more. -/
theorem wp_sent (j : Fin 18) (hj : j ∈ hops)
    {ms md : Memref sig .tc .vmem S2x2x128x8x64 .bf16} {hms : ms.view.WordExact} {hmd : md.view.WordExact} (j' : Fin 18) (hm : md = slotM j')
    {α : Type} {Q : α → sProp 𝕄} {k : PUnit → Prog (TpuEff nD τ sig (Elt F) Λ₀ .tc) α} :
    St m ρ K c [] ready infl (j :: out) got fin
      ⊢ iprop((St m ρ K c [] ready infl out got (fin ++ [j]) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ j) ms md hms hmd) k) Q) := by
  subst hm
  unfold St
  rw [bigL_cons (outR c)]
  unfold outR
  iintro ⟨#HR, #Hlev, ⟨%W, HO⟩, Htodo, Hland, Hready, Hinfl, ⟨⟨HaS, Hc⟩, Hout⟩, Hgot, Hfin⟩ Hk
  iapply (Rounds.wp_wait_rest_token 𝒱₀ ER (ringRd m ρ) (c : Thread nD τ) none (κ := K (c, some (false, j)))
      (wpE_waitDma2_eq 𝒱₀ (c : Thread nD τ) none Set.univ) (Set.mem_univ _) () (O := ow c []) (W := W) (R := 0) (m := 0) (T := ∅)
      (by rw [Nat.zero_add, expect_send m ρ c j hj])) $$ [Hc HO HaS]
  · isplitr; · iapply (inv_send m ρ K c j); iexact HR
    isplitl [Hc]; · iexact Hc
    isplitl [HO]; · iexact HO
    isplitr; · rw [show ow c [] = 0 from rfl, MayWait_zero]; iempintro
    iexact HaS
  iintro ⟨HO, HaS, -, Hpay⟩
  ihave Hs := (Entails.of_eq (rest_send m ρ c j hj)) $$ Hpay
  imod (Rounds.cell_close ER (ringRd m ρ) (Set.mem_univ (K (c, some (false, j)))) (fun h => h) (R := 0 + 1) (duties_later m ρ (sendCell c j))) $$ [HaS] with Hz
  · isplitr; · iapply (inv_send m ρ K c j); iexact HR
    iexact HaS
  iapply Hk
  isplitr; · iexact HR
  isplitr; · iexact Hlev
  isplitl [HO]; · iexists _; iexact HO
  isplitl [Htodo]; · iexact Htodo
  isplitl [Hland]; · iexact Hland
  isplitl [Hready]; · iexact Hready
  isplitl [Hinfl]; · iexact Hinfl
  isplitl [Hout]; · iexact Hout
  isplitl [Hgot]; · iexact Hgot
  iapply (bigL_snoc (finR m ρ c) j fin)
  isplitl [Hfin]; · iexact Hfin
  unfold finR
  isplitl [Hs] <;> iassumption

/-- Reading within a slot that has come. -/
theorem wp_read (j : Fin 18) (hj : j ∈ got) {r : LoadRect S2x9x2x2x128x8x64} (hr : r.set ⊆ slot j) {hl : (cM : Memref sig .tc .vmem S2x9x2x2x128x8x64 .bf16).view.LoadsAt r}
    {α : Type} {Q : α → sProp 𝕄} {k : (r.shape.Idx → Elt F .bf16) → Prog (TpuEff nD τ sig (Elt F) Λ₀ .tc) α} :
    St m ρ K c todo ready infl out got fin
      ⊢ iprop((St m ρ K c todo ready infl out got fin -∗ wp frame (wpE (defs₀ (F := F)) 𝒱₀ (c : Thread nD τ) none) Set.univ (k ((cM : Memref sig .tc .vmem S2x9x2x2x128x8x64 .bf16).view.readAt (Elt F) r (commF m ρ c))) Q)
          -∗ wp frame (wpE (defs₀ (F := F)) 𝒱₀ (c : Thread nD τ) none) Set.univ (.op (.load cM r hl) k) Q) := by
  unfold St
  iintro ⟨#HR, #Hlev, HO, Htodo, Hland, Hready, Hinfl, Hout, Hgot, Hfin⟩ Hk
  ihave H := (bigL_mem (gotR m ρ c) hj) $$ Hgot
  unfold gotR kept sl
  icases H with ⟨⟨Hs, Hz⟩, Hback⟩
  iapply (wp_load 𝒱₀ (c : Thread nD τ) none Set.univ (m := cM) (S := slot j) (q := rshr j) (f := commF m ρ c)
    (by unfold View.setOn; rw [show (cM : Memref sig .tc .vmem S2x9x2x2x128x8x64 .bf16).view.emb = Function.Embedding.refl _ from rfl, Finset.map_refl]; exact hr)) $$ Hs
  iintro Hs
  iapply Hk
  isplitr; · iexact HR
  isplitr; · iexact Hlev
  isplitl [HO]; · iexact HO
  isplitl [Htodo]; · iexact Htodo
  isplitl [Hland]; · iexact Hland
  isplitl [Hready]; · iexact Hready
  isplitl [Hinfl]; · iexact Hinfl
  isplitl [Hout]; · iexact Hout
  isplitl [Hs Hz Hback]
  · iapply Hback
    isplitl [Hs] <;> iassumption
  iexact Hfin

end Steps

end Cert.KernelIdealProof

end
-- ==== Proof.KernelIdeal.Values.lean ====
/-
# The values the kernel computes

For device `c`: what it reads of each slot (`lN`), and what each stretch of the kernel passes on to the next (`wN`), each
by the program's own expression of the earlier ones. `N` is the program's number of the value.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s blocks of the queries' input and the two weight matrices, as staged. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def wostg (c : Dev nD) : (cc0_stg2_0 : Ref sig .tc).ty.Contents (Elt F) :=
  (win0_2.blk (0 : Fin 1)).view.read (Elt F) ((s₀ m ρ).mem ((c : Thread nD τ).loc main_arg4))

/-- What device `c` reads of its filled scratch buffer at a rectangle. -/
abbrev ld (c : Dev nD) (off : Fin 7 → ℕ) (h : ∀ a, off a + S1x1x1x1x128x8x64.size a ≤ S2x9x2x2x128x8x64.size a) : Vec F S1x1x1x1x128x8x64 .bf16 :=
  (cM : Memref sig .tc .vmem S2x9x2x2x128x8x64 .bf16).view.readAt (Elt F) (Rect.unit (s := S2x9x2x2x128x8x64) off S1x1x1x1x128x8x64.size h).toLoadRect (commF m ρ c)

def l94 (c : Dev nD) : Vec F S1x1x1x1x128x8x64 .bf16 := ld m ρ c ![0, 0, 0, 0, 0, 0, 0] inb_S2x9x2x2x128x8x64_S1x1x1x1x128x8x64_0_0_0_0_0_0_0
def l96 (c : Dev nD) : Vec F S1x1x1x1x128x8x64 .bf16 := ld m ρ c ![0, 0, 1, 0, 0, 0, 0] inb_S2x9x2x2x128x8x64_S1x1x1x1x128x8x64_0_0_1_0_0_0_0
def l118 (c : Dev nD) : Vec F S1x1x1x1x128x8x64 .bf16 := ld m ρ c ![0, 0, 0, 1, 0, 0, 0] inb_S2x9x2x2x128x8x64_S1x1x1x1x128x8x64_0_0_0_1_0_0_0
def l120 (c : Dev nD) : Vec F S1x1x1x1x128x8x64 .bf16 := ld m ρ c ![0, 0, 1, 1, 0, 0, 0] inb_S2x9x2x2x128x8x64_S1x1x1x1x128x8x64_0_0_1_1_0_0_0
def l178 (c : Dev nD) : Vec F S1x1x1x1x128x8x64 .bf16 := ld m ρ c ![0, 1, 0, 0, 0, 0, 0] inb_S2x9x2x2x128x8x64_S1x1x1x1x128x8x64_0_1_0_0_0_0_0
def l180 (c : Dev nD) : Vec F S1x1x1x1x128x8x64 .bf16 := ld m ρ c ![1, 1, 0, 0, 0, 0, 0] inb_S2x9x2x2x128x8x64_S1x1x1x1x128x8x64_1_1_0_0_0_0_0
def l183 (c : Dev nD) : Vec F S1x1x1x1x128x8x64 .bf16 := ld m ρ c ![0, 1, 1, 0, 0, 0, 0] inb_S2x9x2x2x128x8x64_S1x1x1x1x128x8x64_0_1_1_0_0_0_0
def l185 (c : Dev nD) : Vec F S1x1x1x1x128x8x64 .bf16 := ld m ρ c ![1, 1, 1, 0, 0, 0, 0] inb_S2x9x2x2x128x8x64_S1x1x1x1x128x8x64_1_1_1_0_0_0_0
def l208 (c : Dev nD) : Vec F S1x1x1x1x128x8x64 .bf16 := ld m ρ c ![0, 1, 0, 1, 0, 0, 0] inb_S2x9x2x2x128x8x64_S1x1x1x1x128x8x64_0_1_0_1_0_0_0
def l210 (c : Dev nD) : Vec F S1x1x1x1x128x8x64 .bf16 := ld m ρ c ![1, 1, 0, 1, 0, 0, 0] inb_S2x9x2x2x128x8x64_S1x1x1x1x128x8x64_1_1_0_1_0_0_0
def l213 (c : Dev nD) : Vec F S1x1x1x1x128x8x64 .bf16 := ld m ρ c ![0, 1, 1, 1, 0, 0, 0] inb_S2x9x2x2x128x8x64_S1x1x1x1x128x8x64_0_1_1_1_0_0_0
def l215 (c : Dev nD) : Vec F S1x1x1x1x128x8x64 .bf16 := ld m ρ c ![1, 1, 1, 1, 0, 0, 0] inb_S2x9x2x2x128x8x64_S1x1x1x1x128x8x64_1_1_1_1_0_0_0
def l274 (c : Dev nD) : Vec F S1x1x1x1x128x8x64 .bf16 := ld m ρ c ![0, 2, 0, 0, 0, 0, 0] inb_S2x9x2x2x128x8x64_S1x1x1x1x128x8x64_0_2_0_0_0_0_0
def l276 (c : Dev nD) : Vec F S1x1x1x1x128x8x64 .bf16 := ld m ρ c ![1, 2, 0, 0, 0, 0, 0] inb_S2x9x2x2x128x8x64_S1x1x1x1x128x8x64_1_2_0_0_0_0_0
def l279 (c : Dev nD) : Vec F S1x1x1x1x128x8x64 .bf16 := ld m ρ c ![0, 2, 1, 0, 0, 0, 0] inb_S2x9x2x2x128x8x64_S1x1x1x1x128x8x64_0_2_1_0_0_0_0
def l281 (c : Dev nD) : Vec F S1x1x1x1x128x8x64 .bf16 := ld m ρ c ![1, 2, 1, 0, 0, 0, 0] inb_S2x9x2x2x128x8x64_S1x1x1x1x128x8x64_1_2_1_0_0_0_0
def l304 (c : Dev nD) : Vec F S1x1x1x1x128x8x64 .bf16 := ld m ρ c ![0, 2, 0, 1, 0, 0, 0] inb_S2x9x2x2x128x8x64_S1x1x1x1x128x8x64_0_2_0_1_0_0_0
def l306 (c : Dev nD) : Vec F S1x1x1x1x128x8x64 .bf16 := ld m ρ c ![1, 2, 0, 1, 0, 0, 0] inb_S2x9x2x2x128x8x64_S1x1x1x1x128x8x64_1_2_0_1_0_0_0
def l309 (c : Dev nD) : Vec F S1x1x1x1x128x8x64 .bf16 := ld m ρ c ![0, 2, 1, 1, 0, 0, 0] inb_S2x9x2x2x128x8x64_S1x1x1x1x128x8x64_0_2_1_1_0_0_0
def l311 (c : Dev nD) : Vec F S1x1x1x1x128x8x64 .bf16 := ld m ρ c ![1, 2, 1, 1, 0, 0, 0] inb_S2x9x2x2x128x8x64_S1x1x1x1x128x8x64_1_2_1_1_0_0_0
def l370 (c : Dev nD) : Vec F S1x1x1x1x128x8x64 .bf16 := ld m ρ c ![0, 3, 0, 0, 0, 0, 0] inb_S2x9x2x2x128x8x64_S1x1x1x1x128x8x64_0_3_0_0_0_0_0
def l372 (c : Dev nD) : Vec F S1x1x1x1x128x8x64 .bf16 := ld m ρ c ![1, 3, 0, 0, 0, 0, 0] inb_S2x9x2x2x128x8x64_S1x1x1x1x128x8x64_1_3_0_0_0_0_0
def l375 (c : Dev nD) : Vec F S1x1x1x1x128x8x64 .bf16 := ld m ρ c ![0, 3, 1, 0, 0, 0, 0] inb_S2x9x2x2x128x8x64_S1x1x1x1x128x8x64_0_3_1_0_0_0_0
def l377 (c : Dev nD) : Vec F S1x1x1x1x128x8x64 .bf16 := ld m ρ c ![1, 3, 1, 0, 0, 0, 0] inb_S2x9x2x2x128x8x64_S1x1x1x1x128x8x64_1_3_1_0_0_0_0
def l400 (c : Dev nD) : Vec F S1x1x1x1x128x8x64 .bf16 := ld m ρ c ![0, 3, 0, 1, 0, 0, 0] inb_S2x9x2x2x128x8x64_S1x1x1x1x128x8x64_0_3_0_1_0_0_0
def l402 (c : Dev nD) : Vec F S1x1x1x1x128x8x64 .bf16 := ld m ρ c ![1, 3, 0, 1, 0, 0, 0] inb_S2x9x2x2x128x8x64_S1x1x1x1x128x8x64_1_3_0_1_0_0_0
def l405 (c : Dev nD) : Vec F S1x1x1x1x128x8x64 .bf16 := ld m ρ c ![0, 3, 1, 1, 0, 0, 0] inb_S2x9x2x2x128x8x64_S1x1x1x1x128x8x64_0_3_1_1_0_0_0
def l407 (c : Dev nD) : Vec F S1x1x1x1x128x8x64 .bf16 := ld m ρ c ![1, 3, 1, 1, 0, 0, 0] inb_S2x9x2x2x128x8x64_S1x1x1x1x128x8x64_1_3_1_1_0_0_0
def l466 (c : Dev nD) : Vec F S1x1x1x1x128x8x64 .bf16 := ld m ρ c ![0, 4, 0, 0, 0, 0, 0] inb_S2x9x2x2x128x8x64_S1x1x1x1x128x8x64_0_4_0_0_0_0_0
def l468 (c : Dev nD) : Vec F S1x1x1x1x128x8x64 .bf16 := ld m ρ c ![1, 4, 0, 0, 0, 0, 0] inb_S2x9x2x2x128x8x64_S1x1x1x1x128x8x64_1_4_0_0_0_0_0
def l471 (c : Dev nD) : Vec F S1x1x1x1x128x8x64 .bf16 := ld m ρ c ![0, 4, 1, 0, 0, 0, 0] inb_S2x9x2x2x128x8x64_S1x1x1x1x128x8x64_0_4_1_0_0_0_0
def l473 (c : Dev nD) : Vec F S1x1x1x1x128x8x64 .bf16 := ld m ρ c ![1, 4, 1, 0, 0, 0, 0] inb_S2x9x2x2x128x8x64_S1x1x1x1x128x8x64_1_4_1_0_0_0_0
def l496 (c : Dev nD) : Vec F S1x1x1x1x128x8x64 .bf16 := ld m ρ c ![0, 4, 0, 1, 0, 0, 0] inb_S2x9x2x2x128x8x64_S1x1x1x1x128x8x64_0_4_0_1_0_0_0
def l498 (c : Dev nD) : Vec F S1x1x1x1x128x8x64 .bf16 := ld m ρ c ![1, 4, 0, 1, 0, 0, 0] inb_S2x9x2x2x128x8x64_S1x1x1x1x128x8x64_1_4_0_1_0_0_0
def l501 (c : Dev nD) : Vec F S1x1x1x1x128x8x64 .bf16 := ld m ρ c ![0, 4, 1, 1, 0, 0, 0] inb_S2x9x2x2x128x8x64_S1x1x1x1x128x8x64_0_4_1_1_0_0_0
def l503 (c : Dev nD) : Vec F S1x1x1x1x128x8x64 .bf16 := ld m ρ c ![1, 4, 1, 1, 0, 0, 0] inb_S2x9x2x2x128x8x64_S1x1x1x1x128x8x64_1_4_1_1_0_0_0
def l562 (c : Dev nD) : Vec F S1x1x1x1x128x8x64 .bf16 := ld m ρ c ![0, 5, 0, 0, 0, 0, 0] inb_S2x9x2x2x128x8x64_S1x1x1x1x128x8x64_0_5_0_0_0_0_0
def l564 (c : Dev nD) : Vec F S1x1x1x1x128x8x64 .bf16 := ld m ρ c ![1, 5, 0, 0, 0, 0, 0] inb_S2x9x2x2x128x8x64_S1x1x1x1x128x8x64_1_5_0_0_0_0_0
def l567 (c : Dev nD) : Vec F S1x1x1x1x128x8x64 .bf16 := ld m ρ c ![0, 5, 1, 0, 0, 0, 0] inb_S2x9x2x2x128x8x64_S1x1x1x1x128x8x64_0_5_1_0_0_0_0
def l569 (c : Dev nD) : Vec F S1x1x1x1x128x8x64 .bf16 := ld m ρ c ![1, 5, 1, 0, 0, 0, 0] inb_S2x9x2x2x128x8x64_S1x1x1x1x128x8x64_1_5_1_0_0_0_0
def l592 (c : Dev nD) : Vec F S1x1x1x1x128x8x64 .bf16 := ld m ρ c ![0, 5, 0, 1, 0, 0, 0] inb_S2x9x2x2x128x8x64_S1x1x1x1x128x8x64_0_5_0_1_0_0_0
def l594 (c : Dev nD) : Vec F S1x1x1x1x128x8x64 .bf16 := ld m ρ c ![1, 5, 0, 1, 0, 0, 0] inb_S2x9x2x2x128x8x64_S1x1x1x1x128x8x64_1_5_0_1_0_0_0
def l597 (c : Dev nD) : Vec F S1x1x1x1x128x8x64 .bf16 := ld m ρ c ![0, 5, 1, 1, 0, 0, 0] inb_S2x9x2x2x128x8x64_S1x1x1x1x128x8x64_0_5_1_1_0_0_0
def l599 (c : Dev nD) : Vec F S1x1x1x1x128x8x64 .bf16 := ld m ρ c ![1, 5, 1, 1, 0, 0, 0] inb_S2x9x2x2x128x8x64_S1x1x1x1x128x8x64_1_5_1_1_0_0_0
def l658 (c : Dev nD) : Vec F S1x1x1x1x128x8x64 .bf16 := ld m ρ c ![0, 6, 0, 0, 0, 0, 0] inb_S2x9x2x2x128x8x64_S1x1x1x1x128x8x64_0_6_0_0_0_0_0
def l660 (c : Dev nD) : Vec F S1x1x1x1x128x8x64 .bf16 := ld m ρ c ![1, 6, 0, 0, 0, 0, 0] inb_S2x9x2x2x128x8x64_S1x1x1x1x128x8x64_1_6_0_0_0_0_0
def l663 (c : Dev nD) : Vec F S1x1x1x1x128x8x64 .bf16 := ld m ρ c ![0, 6, 1, 0, 0, 0, 0] inb_S2x9x2x2x128x8x64_S1x1x1x1x128x8x64_0_6_1_0_0_0_0
def l665 (c : Dev nD) : Vec F S1x1x1x1x128x8x64 .bf16 := ld m ρ c ![1, 6, 1, 0, 0, 0, 0] inb_S2x9x2x2x128x8x64_S1x1x1x1x128x8x64_1_6_1_0_0_0_0
def l688 (c : Dev nD) : Vec F S1x1x1x1x128x8x64 .bf16 := ld m ρ c ![0, 6, 0, 1, 0, 0, 0] inb_S2x9x2x2x128x8x64_S1x1x1x1x128x8x64_0_6_0_1_0_0_0
def l690 (c : Dev nD) : Vec F S1x1x1x1x128x8x64 .bf16 := ld m ρ c ![1, 6, 0, 1, 0, 0, 0] inb_S2x9x2x2x128x8x64_S1x1x1x1x128x8x64_1_6_0_1_0_0_0
def l693 (c : Dev nD) : Vec F S1x1x1x1x128x8x64 .bf16 := ld m ρ c ![0, 6, 1, 1, 0, 0, 0] inb_S2x9x2x2x128x8x64_S1x1x1x1x128x8x64_0_6_1_1_0_0_0
def l695 (c : Dev nD) : Vec F S1x1x1x1x128x8x64 .bf16 := ld m ρ c ![1, 6, 1, 1, 0, 0, 0] inb_S2x9x2x2x128x8x64_S1x1x1x1x128x8x64_1_6_1_1_0_0_0
def l744 (c : Dev nD) : Vec F S1x1x1x1x128x8x64 .bf16 := ld m ρ c ![0, 7, 0, 0, 0, 0, 0] inb_S2x9x2x2x128x8x64_S1x1x1x1x128x8x64_0_7_0_0_0_0_0
def l746 (c : Dev nD) : Vec F S1x1x1x1x128x8x64 .bf16 := ld m ρ c ![1, 7, 0, 0, 0, 0, 0] inb_S2x9x2x2x128x8x64_S1x1x1x1x128x8x64_1_7_0_0_0_0_0
def l749 (c : Dev nD) : Vec F S1x1x1x1x128x8x64 .bf16 := ld m ρ c ![0, 7, 1, 0, 0, 0, 0] inb_S2x9x2x2x128x8x64_S1x1x1x1x128x8x64_0_7_1_0_0_0_0
def l751 (c : Dev nD) : Vec F S1x1x1x1x128x8x64 .bf16 := ld m ρ c ![1, 7, 1, 0, 0, 0, 0] inb_S2x9x2x2x128x8x64_S1x1x1x1x128x8x64_1_7_1_0_0_0_0
def l774 (c : Dev nD) : Vec F S1x1x1x1x128x8x64 .bf16 := ld m ρ c ![0, 7, 0, 1, 0, 0, 0] inb_S2x9x2x2x128x8x64_S1x1x1x1x128x8x64_0_7_0_1_0_0_0
def l776 (c : Dev nD) : Vec F S1x1x1x1x128x8x64 .bf16 := ld m ρ c ![1, 7, 0, 1, 0, 0, 0] inb_S2x9x2x2x128x8x64_S1x1x1x1x128x8x64_1_7_0_1_0_0_0
def l779 (c : Dev nD) : Vec F S1x1x1x1x128x8x64 .bf16 := ld m ρ c ![0, 7, 1, 1, 0, 0, 0] inb_S2x9x2x2x128x8x64_S1x1x1x1x128x8x64_0_7_1_1_0_0_0
def l781 (c : Dev nD) : Vec F S1x1x1x1x128x8x64 .bf16 := ld m ρ c ![1, 7, 1, 1, 0, 0, 0] inb_S2x9x2x2x128x8x64_S1x1x1x1x128x8x64_1_7_1_1_0_0_0
def l812 (c : Dev nD) : Vec F S1x1x1x1x128x8x64 .bf16 := ld m ρ c ![0, 8, 0, 0, 0, 0, 0] inb_S2x9x2x2x128x8x64_S1x1x1x1x128x8x64_0_8_0_0_0_0_0
def l814 (c : Dev nD) : Vec F S1x1x1x1x128x8x64 .bf16 := ld m ρ c ![0, 8, 1, 0, 0, 0, 0] inb_S2x9x2x2x128x8x64_S1x1x1x1x128x8x64_0_8_1_0_0_0_0
def l836 (c : Dev nD) : Vec F S1x1x1x1x128x8x64 .bf16 := ld m ρ c ![0, 8, 0, 1, 0, 0, 0] inb_S2x9x2x2x128x8x64_S1x1x1x1x128x8x64_0_8_0_1_0_0_0
def l838 (c : Dev nD) : Vec F S1x1x1x1x128x8x64 .bf16 := ld m ρ c ![0, 8, 1, 1, 0, 0, 0] inb_S2x9x2x2x128x8x64_S1x1x1x1x128x8x64_0_8_1_1_0_0_0

def w84 (c : Dev nD) : FVec F S128x8x64 .bf16 := k0_pay5 (xstg m ρ c) (wqstg m ρ c)
def w87 (c : Dev nD) : FVec F S128x8x64 .bf16 := k0_pay6 (xstg m ρ c) (wqstg m ρ c)
def w88 : FVec F S8x128x1 .f32 := k0_pay7 (F := F)
def w89 : FVec F S8x128x1 .f32 := k0_pay8 (F := F)
def w90 : FVec F S8x128x1 .f32 := k0_pay9 (F := F)
def w91 : FVec F S8x128x1 .f32 := k0_pay10 (F := F)
def w92 : FVec F S8x128x64 .f32 := k0_pay11 (F := F)
def w93 : FVec F S8x128x64 .f32 := k0_pay12 (F := F)
def w97 (c : Dev nD) : FVec F S128x8x64 .bf16 := k0_pay13 (l96 m ρ c)
def w98 (c : Dev nD) : FVec F S8x128x128 .f32 := k0_pay14 (xstg m ρ c) (wqstg m ρ c) (l94 m ρ c)
def w99 : FVec F S8x128x128 .f32 := k0_pay15 (F := F)

def w103 (c : Dev nD) : FVec F S8x128x1 .f32 := k0_pay17 (w88 (F := F)) (w98 m ρ c) (w99 (F := F))
def w112 (c : Dev nD) : FVec F S8x128x1 .f32 := k0_pay20 (w88 (F := F)) (w90 (F := F)) (w98 m ρ c) (w99 (F := F))
def w117 (c : Dev nD) : FVec F S8x128x64 .f32 := k0_pay21 (w88 (F := F)) (w92 (F := F)) (w97 m ρ c) (w98 m ρ c) (w99 (F := F))
def w121 (c : Dev nD) : FVec F S128x8x64 .bf16 := k0_pay22 (l120 m ρ c)
def w127 (c : Dev nD) : FVec F S8x128x1 .f32 := k0_pay24 (w87 m ρ c) (w89 (F := F)) (l118 m ρ c)
def w129 (c : Dev nD) : FVec F S8x128x1 .f32 := k0_pay25 (w87 m ρ c) (w89 (F := F)) (l118 m ρ c)
def w136 (c : Dev nD) : FVec F S8x128x1 .f32 := k0_pay27 (w87 m ρ c) (w89 (F := F)) (w91 (F := F)) (l118 m ρ c)
def w137 (c : Dev nD) : FVec F S8x128x128 .bf16 := k0_pay28 (w87 m ρ c) (w89 (F := F)) (l118 m ρ c)
def wcst_139 : FVec F S8x128x64 .f32 := (constant S8x128x64 .f32 0x00000000#32)

def w141 (c : Dev nD) : FVec F S8x128x64 .f32 := k0_pay29 (w93 (F := F)) (w121 m ρ c) (w129 m ρ c) (w137 m ρ c) (wcst_139 (F := F))

def w187 (c : Dev nD) : FVec F S256x8x64 .bf16 := k0_pay30 (l183 m ρ c) (l185 m ρ c)
def w193 (c : Dev nD) : FVec F S8x128x1 .f32 := k0_pay32 (w84 m ρ c) (w103 m ρ c) (l178 m ρ c) (l180 m ρ c)
def w195 (c : Dev nD) : FVec F S8x128x1 .f32 := k0_pay33 (w84 m ρ c) (w103 m ρ c) (l178 m ρ c) (l180 m ρ c)
def w198 (c : Dev nD) : FVec F S8x128x256 .f32 := k0_pay34 (w84 m ρ c) (w103 m ρ c) (l178 m ρ c) (l180 m ρ c)
def w199 (c : Dev nD) : FVec F S8x128x1 .f32 := k0_pay35 (w84 m ρ c) (w103 m ρ c) (w112 m ρ c) (l178 m ρ c) (l180 m ρ c)
def w201 (c : Dev nD) : FVec F S8x128x1 .f32 := k0_pay36 (w84 m ρ c) (w103 m ρ c) (l178 m ρ c) (l180 m ρ c)

def w202 (c : Dev nD) : FVec F S8x128x1 .f32 := k0_pay37 (w199 m ρ c) (w201 m ρ c)
def w207 (c : Dev nD) : FVec F S8x128x64 .f32 := k0_pay38 (w117 m ρ c) (w187 m ρ c) (w195 m ρ c) (w198 m ρ c)
def w217 (c : Dev nD) : FVec F S256x8x64 .bf16 := k0_pay39 (l213 m ρ c) (l215 m ρ c)
def w223 (c : Dev nD) : FVec F S8x128x1 .f32 := k0_pay41 (w87 m ρ c) (w127 m ρ c) (l208 m ρ c) (l210 m ρ c)
def w225 (c : Dev nD) : FVec F S8x128x1 .f32 := k0_pay42 (w87 m ρ c) (w127 m ρ c) (l208 m ρ c) (l210 m ρ c)
def w228 (c : Dev nD) : FVec F S8x128x256 .f32 := k0_pay43 (w87 m ρ c) (w127 m ρ c) (l208 m ρ c) (l210 m ρ c)
def w229 (c : Dev nD) : FVec F S8x128x1 .f32 := k0_pay44 (w87 m ρ c) (w127 m ρ c) (w136 m ρ c) (l208 m ρ c) (l210 m ρ c)

def w232 (c : Dev nD) : FVec F S8x128x1 .f32 := k0_pay45 (w228 m ρ c) (w229 m ρ c)
def w237 (c : Dev nD) : FVec F S8x128x64 .f32 := k0_pay46 (w141 m ρ c) (w217 m ρ c) (w225 m ρ c) (w228 m ρ c)

def w283 (c : Dev nD) : FVec F S256x8x64 .bf16 := k0_pay47 (l279 m ρ c) (l281 m ρ c)
def w286 (c : Dev nD) : FVec F S8x128x256 .f32 := k0_pay48 (w84 m ρ c) (l274 m ρ c) (l276 m ρ c)
def w289 (c : Dev nD) : FVec F S8x128x1 .f32 := k0_pay49 (w84 m ρ c) (w193 m ρ c) (l274 m ρ c) (l276 m ρ c)
def w291 (c : Dev nD) : FVec F S8x128x1 .f32 := k0_pay50 (w84 m ρ c) (w193 m ρ c) (l274 m ρ c) (l276 m ρ c)
def w292 (c : Dev nD) : FVec F S8x128x256 .f32 := k0_pay51 (w84 m ρ c) (w193 m ρ c) (l274 m ρ c) (l276 m ρ c)

def w298 (c : Dev nD) : FVec F S8x128x1 .f32 := k0_pay53 (w202 m ρ c) (w286 m ρ c) (w291 m ρ c) (w292 m ρ c)
def w303 (c : Dev nD) : FVec F S8x128x64 .f32 := k0_pay54 (w207 m ρ c) (w283 m ρ c) (w286 m ρ c) (w291 m ρ c) (w292 m ρ c)
def w313 (c : Dev nD) : FVec F S256x8x64 .bf16 := k0_pay55 (l309 m ρ c) (l311 m ρ c)
def w316 (c : Dev nD) : FVec F S8x128x256 .f32 := k0_pay56 (w87 m ρ c) (l304 m ρ c) (l306 m ρ c)
def w319 (c : Dev nD) : FVec F S8x128x1 .f32 := k0_pay57 (w87 m ρ c) (w223 m ρ c) (l304 m ρ c) (l306 m ρ c)

def w328 (c : Dev nD) : FVec F S8x128x1 .f32 := k0_pay60 (w223 m ρ c) (w232 m ρ c) (w316 m ρ c) (w319 m ρ c)
def w333 (c : Dev nD) : FVec F S8x128x64 .f32 := k0_pay61 (w223 m ρ c) (w237 m ρ c) (w313 m ρ c) (w316 m ρ c) (w319 m ρ c)

def w379 (c : Dev nD) : FVec F S256x8x64 .bf16 := k0_pay62 (l375 m ρ c) (l377 m ρ c)
def w382 (c : Dev nD) : FVec F S8x128x256 .f32 := k0_pay63 (w84 m ρ c) (l370 m ρ c) (l372 m ρ c)

def w385 (c : Dev nD) : FVec F S8x128x1 .f32 := k0_pay64 (w289 m ρ c) (w382 m ρ c)
def w394 (c : Dev nD) : FVec F S8x128x1 .f32 := k0_pay67 (w289 m ρ c) (w298 m ρ c) (w382 m ρ c)
def w399 (c : Dev nD) : FVec F S8x128x64 .f32 := k0_pay68 (w289 m ρ c) (w303 m ρ c) (w379 m ρ c) (w382 m ρ c)
def w409 (c : Dev nD) : FVec F S256x8x64 .bf16 := k0_pay69 (l405 m ρ c) (l407 m ρ c)
def w410 (c : Dev nD) : FVec F S8x128x256 .f32 := k0_pay70 (w87 m ρ c) (l400 m ρ c) (l402 m ρ c)
def wcst_572 : F .f32 := (Scalar.ofBits .f32 0x3E000000#32)

def w415 (c : Dev nD) : FVec F S8x128x1 .f32 := k0_pay72 (w319 m ρ c) (w410 m ρ c) (wcst_572 (F := F))
def w424 (c : Dev nD) : FVec F S8x128x1 .f32 := k0_pay75 (w319 m ρ c) (w328 m ρ c) (w410 m ρ c) (wcst_572 (F := F))
def w429 (c : Dev nD) : FVec F S8x128x64 .f32 := k0_pay76 (w319 m ρ c) (w333 m ρ c) (w409 m ρ c) (w410 m ρ c) (wcst_572 (F := F))

def w470 (c : Dev nD) : FVec F S256x8x64 .bf16 := k0_pay77 (l466 m ρ c) (l468 m ρ c)
def w475 (c : Dev nD) : FVec F S256x8x64 .bf16 := k0_pay78 (l471 m ρ c) (l473 m ρ c)

def w481 (c : Dev nD) : FVec F S8x128x1 .f32 := k0_pay80 (w84 m ρ c) (w385 m ρ c) (w470 m ρ c)
def w490 (c : Dev nD) : FVec F S8x128x1 .f32 := k0_pay83 (w84 m ρ c) (w385 m ρ c) (w394 m ρ c) (w470 m ρ c)
def w495 (c : Dev nD) : FVec F S8x128x64 .f32 := k0_pay84 (w84 m ρ c) (w385 m ρ c) (w399 m ρ c) (w470 m ρ c) (w475 m ρ c)
def w500 (c : Dev nD) : FVec F S256x8x64 .bf16 := k0_pay85 (l496 m ρ c) (l498 m ρ c)
def w502 (c : Dev nD) : FVec F S128x8x64 .bf16 := k0_pay86 (l501 m ρ c)

def w511 (c : Dev nD) : FVec F S8x128x1 .f32 := k0_pay88 (w87 m ρ c) (w415 m ρ c) (w500 m ρ c)
def w520 (c : Dev nD) : FVec F S8x128x1 .f32 := k0_pay91 (w87 m ρ c) (w415 m ρ c) (w424 m ρ c) (w500 m ρ c)
def w525 (c : Dev nD) : FVec F S8x128x64 .f32 := k0_pay92 (w87 m ρ c) (w415 m ρ c) (w429 m ρ c) (w500 m ρ c) (w502 m ρ c) (l503 m ρ c)

def w566 (c : Dev nD) : FVec F S256x8x64 .bf16 := k0_pay93 (l562 m ρ c) (l564 m ρ c)
def w568 (c : Dev nD) : FVec F S128x8x64 .bf16 := k0_pay94 (l567 m ρ c)

def w577 (c : Dev nD) : FVec F S8x128x1 .f32 := k0_pay96 (w84 m ρ c) (w481 m ρ c) (w566 m ρ c)
def w586 (c : Dev nD) : FVec F S8x128x1 .f32 := k0_pay99 (w84 m ρ c) (w481 m ρ c) (w490 m ρ c) (w566 m ρ c)
def w591 (c : Dev nD) : FVec F S8x128x64 .f32 := k0_pay100 (w84 m ρ c) (w481 m ρ c) (w495 m ρ c) (w566 m ρ c) (w568 m ρ c) (l569 m ρ c)
def w596 (c : Dev nD) : FVec F S256x8x64 .bf16 := k0_pay101 (l592 m ρ c) (l594 m ρ c)
def w598 (c : Dev nD) : FVec F S128x8x64 .bf16 := k0_pay102 (l597 m ρ c)

def w607 (c : Dev nD) : FVec F S8x128x1 .f32 := k0_pay104 (w87 m ρ c) (w511 m ρ c) (w596 m ρ c)
def w616 (c : Dev nD) : FVec F S8x128x1 .f32 := k0_pay107 (w87 m ρ c) (w511 m ρ c) (w520 m ρ c) (w596 m ρ c)
def w621 (c : Dev nD) : FVec F S8x128x64 .f32 := k0_pay108 (w87 m ρ c) (w511 m ρ c) (w525 m ρ c) (w596 m ρ c) (w598 m ρ c) (l599 m ρ c)

def w662 (c : Dev nD) : FVec F S256x8x64 .bf16 := k0_pay109 (l658 m ρ c) (l660 m ρ c)

def w673 (c : Dev nD) : FVec F S8x128x1 .f32 := k0_pay111 (w84 m ρ c) (w577 m ρ c) (w662 m ρ c)
def w682 (c : Dev nD) : FVec F S8x128x1 .f32 := k0_pay114 (w84 m ρ c) (w577 m ρ c) (w586 m ρ c) (w662 m ρ c)
def w687 (c : Dev nD) : FVec F S8x128x64 .f32 := k0_pay115 (w84 m ρ c) (w577 m ρ c) (w591 m ρ c) (w662 m ρ c) (l663 m ρ c) (l665 m ρ c)
def w692 (c : Dev nD) : FVec F S256x8x64 .bf16 := k0_pay116 (l688 m ρ c) (l690 m ρ c)

def w703 (c : Dev nD) : FVec F S8x128x1 .f32 := k0_pay118 (w87 m ρ c) (w607 m ρ c) (w692 m ρ c)
def w712 (c : Dev nD) : FVec F S8x128x1 .f32 := k0_pay121 (w87 m ρ c) (w607 m ρ c) (w616 m ρ c) (w692 m ρ c)
def w717 (c : Dev nD) : FVec F S8x128x64 .f32 := k0_pay122 (w87 m ρ c) (w607 m ρ c) (w621 m ρ c) (w692 m ρ c) (l693 m ρ c) (l695 m ρ c)

def w753 (c : Dev nD) : FVec F S256x8x64 .bf16 := k0_pay123 (l749 m ρ c) (l751 m ρ c)
def w759 (c : Dev nD) : FVec F S8x128x1 .f32 := k0_pay125 (w84 m ρ c) (w673 m ρ c) (l744 m ρ c) (l746 m ρ c)
def w761 (c : Dev nD) : FVec F S8x128x1 .f32 := k0_pay126 (w84 m ρ c) (w673 m ρ c) (l744 m ρ c) (l746 m ρ c)
def w763 (c : Dev nD) : FVec F S8x128x256 .f32 := k0_pay127 (w84 m ρ c) (w673 m ρ c) (l744 m ρ c) (l746 m ρ c)

def w768 (c : Dev nD) : FVec F S8x128x1 .f32 := k0_pay129 (w682 m ρ c) (w761 m ρ c) (w763 m ρ c)
def w773 (c : Dev nD) : FVec F S8x128x64 .f32 := k0_pay130 (w687 m ρ c) (w753 m ρ c) (w761 m ρ c) (w763 m ρ c)
def w783 (c : Dev nD) : FVec F S256x8x64 .bf16 := k0_pay131 (l779 m ρ c) (l781 m ρ c)
def w786 (c : Dev nD) : FVec F S8x128x256 .f32 := k0_pay132 (w87 m ρ c) (l774 m ρ c) (l776 m ρ c)
def w789 (c : Dev nD) : FVec F S8x128x1 .f32 := k0_pay133 (w87 m ρ c) (w703 m ρ c) (l774 m ρ c) (l776 m ρ c)
def w790 (c : Dev nD) : FVec F S8x128x1 .f32 := k0_pay134 (w87 m ρ c) (w703 m ρ c) (l774 m ρ c) (l776 m ρ c)

def w798 (c : Dev nD) : FVec F S8x128x1 .f32 := k0_pay137 (w712 m ρ c) (w786 m ρ c) (w789 m ρ c) (w790 m ρ c)
def w803 (c : Dev nD) : FVec F S8x128x64 .f32 := k0_pay138 (w717 m ρ c) (w783 m ρ c) (w786 m ρ c) (w789 m ρ c) (w790 m ρ c)
def w813 (c : Dev nD) : FVec F S128x8x64 .bf16 := k0_pay139 (l812 m ρ c)

def w830 (c : Dev nD) : FVec F S8x128x1 .f32 := k0_pay144 (w84 m ρ c) (w759 m ρ c) (w768 m ρ c) (w813 m ρ c)
def w835 (c : Dev nD) : FVec F S8x128x64 .f32 := k0_pay145 (w84 m ρ c) (w759 m ρ c) (w773 m ρ c) (w813 m ρ c) (l814 m ρ c)
def w839 (c : Dev nD) : FVec F S128x8x64 .bf16 := k0_pay146 (l838 m ρ c)
def w847 (c : Dev nD) : FVec F S8x128x1 .f32 := k0_pay149 (w87 m ρ c) (w789 m ρ c) (l836 m ρ c)
def w850 (c : Dev nD) : FVec F S8x128x128 .f32 := k0_pay150 (w87 m ρ c) (w789 m ρ c) (l836 m ρ c)
def w851 (c : Dev nD) : FVec F S8x128x1 .f32 := k0_pay151 (w87 m ρ c) (w789 m ρ c) (w798 m ρ c) (l836 m ρ c)

/-- The two batch rows of the result block device `c` stores. -/
def o0 (c : Dev nD) : Vec F S1x128x512 .f32 := k0_pay153 (w830 m ρ c) (w835 m ρ c) (wostg m ρ c)
def o1 (c : Dev nD) : Vec F S1x128x512 .f32 := k0_pay154 (w803 m ρ c) (w839 m ρ c) (w847 m ρ c) (w850 m ρ c) (w851 m ρ c) (wostg m ρ c)

end Cert.KernelIdealProof

end
-- ==== Proof.KernelIdeal.Dev.lean ====
/-
# The neighbours as the program computes them, and which slot a read lies in
-/
module

public import proofs.«01_k».proof.Proof.KernelIdeal.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The target the kernel computes for its signal to the predecessor. -/
theorem dev1_eq (c : Dev nD) : (⟨k0_dev1 c, k0_dev1_lt c⟩ : Dev nD) = prv c := by revert c; decide +kernel
/-- The target the kernel computes for its signal to the successor. -/
theorem dev2_eq (c : Dev nD) : (⟨k0_dev2 c, k0_dev2_lt c⟩ : Dev nD) = nxt c := by revert c; decide +kernel
/-- The target the kernel computes for the copy into slot 1. -/
theorem dev3_eq (c : Dev nD) : (⟨k0_dev3 c, k0_dev3_lt c⟩ : Dev nD) = tgt 1 c := by revert c; decide +kernel
/-- The target the kernel computes for the copy into slot 10. -/
theorem dev4_eq (c : Dev nD) : (⟨k0_dev4 c, k0_dev4_lt c⟩ : Dev nD) = tgt 10 c := by revert c; decide +kernel
/-- The target the kernel computes for the copy into slot 2. -/
theorem dev5_eq (c : Dev nD) : (⟨k0_dev5 c, k0_dev5_lt c⟩ : Dev nD) = tgt 2 c := by revert c; decide +kernel
/-- The target the kernel computes for the copy into slot 11. -/
theorem dev6_eq (c : Dev nD) : (⟨k0_dev6 c, k0_dev6_lt c⟩ : Dev nD) = tgt 11 c := by revert c; decide +kernel
/-- The target the kernel computes for the copy into slot 3. -/
theorem dev7_eq (c : Dev nD) : (⟨k0_dev7 c, k0_dev7_lt c⟩ : Dev nD) = tgt 3 c := by revert c; decide +kernel
/-- The target the kernel computes for the copy into slot 12. -/
theorem dev8_eq (c : Dev nD) : (⟨k0_dev8 c, k0_dev8_lt c⟩ : Dev nD) = tgt 12 c := by revert c; decide +kernel
/-- The target the kernel computes for the copy into slot 4. -/
theorem dev9_eq (c : Dev nD) : (⟨k0_dev9 c, k0_dev9_lt c⟩ : Dev nD) = tgt 4 c := by revert c; decide +kernel
/-- The target the kernel computes for the copy into slot 13. -/
theorem dev10_eq (c : Dev nD) : (⟨k0_dev10 c, k0_dev10_lt c⟩ : Dev nD) = tgt 13 c := by revert c; decide +kernel
/-- The target the kernel computes for the copy into slot 5. -/
theorem dev11_eq (c : Dev nD) : (⟨k0_dev11 c, k0_dev11_lt c⟩ : Dev nD) = tgt 5 c := by revert c; decide +kernel
/-- The target the kernel computes for the copy into slot 14. -/
theorem dev12_eq (c : Dev nD) : (⟨k0_dev12 c, k0_dev12_lt c⟩ : Dev nD) = tgt 14 c := by revert c; decide +kernel
/-- The target the kernel computes for the copy into slot 6. -/
theorem dev13_eq (c : Dev nD) : (⟨k0_dev13 c, k0_dev13_lt c⟩ : Dev nD) = tgt 6 c := by revert c; decide +kernel
/-- The target the kernel computes for the copy into slot 15. -/
theorem dev14_eq (c : Dev nD) : (⟨k0_dev14 c, k0_dev14_lt c⟩ : Dev nD) = tgt 15 c := by revert c; decide +kernel
/-- The target the kernel computes for the copy into slot 7. -/
theorem dev15_eq (c : Dev nD) : (⟨k0_dev15 c, k0_dev15_lt c⟩ : Dev nD) = tgt 7 c := by revert c; decide +kernel
/-- The target the kernel computes for the copy into slot 16. -/
theorem dev16_eq (c : Dev nD) : (⟨k0_dev16 c, k0_dev16_lt c⟩ : Dev nD) = tgt 16 c := by revert c; decide +kernel
/-- The target the kernel computes for the copy into slot 8. -/
theorem dev17_eq (c : Dev nD) : (⟨k0_dev17 c, k0_dev17_lt c⟩ : Dev nD) = tgt 8 c := by revert c; decide +kernel

/-! Reading a whole staging buffer. -/

omit [FloatOps F] in
theorem x_read (h) (f : (cc0_stg0_0 : Ref sig .tc).ty.Contents (Elt F)) :
    (xM : Memref sig .tc .vmem S2x128x512 .bf16).view.readAt (Elt F) (Rect.unit (s := S2x128x512) ![0, 0, 0] ![2, 128, 512] h).toLoadRect f = f :=
  Memref.readAt_unit_zero (Elt F) cc0_stg0_0 (by decide) _ f
omit [FloatOps F] in
theorem wq_read (h) (f : (cc0_stg1_0 : Ref sig .tc).ty.Contents (Elt F)) :
    (wqM : Memref sig .tc .vmem S512x512 .bf16).view.readAt (Elt F) (Rect.unit (s := S512x512) ![0, 0] ![512, 512] h).toLoadRect f = f :=
  Memref.readAt_unit_zero (Elt F) cc0_stg1_0 (by decide) _ f
omit [FloatOps F] in
theorem wo_read (h) (f : (cc0_stg2_0 : Ref sig .tc).ty.Contents (Elt F)) :
    (woM : Memref sig .tc .vmem S512x512 .bf16).view.readAt (Elt F) (Rect.unit (s := S512x512) ![0, 0] ![512, 512] h).toLoadRect f = f :=
  Memref.readAt_unit_zero (Elt F) cc0_stg2_0 (by decide) _ f
omit [FloatOps F] in
theorem k_read (h) (f : (cc0_stg3_0 : Ref sig .tc).ty.Contents (Elt F)) :
    (kM : Memref sig .tc .vmem S2x128x8x64 .bf16).view.readAt (Elt F) (Rect.unit (s := S2x128x8x64) ![0, 0, 0, 0] ![2, 128, 8, 64] h).toLoadRect f = f :=
  Memref.readAt_unit_zero (Elt F) cc0_stg3_0 (by decide) _ f
omit [FloatOps F] in
theorem v_read (h) (f : (cc0_stg4_0 : Ref sig .tc).ty.Contents (Elt F)) :
    (vM : Memref sig .tc .vmem S2x128x8x64 .bf16).view.readAt (Elt F) (Rect.unit (s := S2x128x8x64) ![0, 0, 0, 0] ![2, 128, 8, 64] h).toLoadRect f = f :=
  Memref.readAt_unit_zero (Elt F) cc0_stg4_0 (by decide) _ f

/-- A rectangle of one key or value block lies in the slot its first two offsets name. -/
theorem sub_slot (j : Fin 18) (off : Fin 7 → ℕ) (h : ∀ a, off a + S1x1x1x1x128x8x64.size a ≤ S2x9x2x2x128x8x64.size a)
    (h0 : off 0 = j.val / 9) (h1 : off 1 = j.val % 9) :
    (Rect.unit (s := S2x9x2x2x128x8x64) off S1x1x1x1x128x8x64.size h).toLoadRect.set ⊆ slot j := by
  intro i hi
  have hi' : i ∈ (Rect.unit (s := S2x9x2x2x128x8x64) off S1x1x1x1x128x8x64.size h).set := by
    simpa using hi
  rw [Rect.mem_set_unit] at hi'
  have a0 : off 0 ≤ (i 0).val ∧ (i 0).val < off 0 + 1 := hi' 0
  have a1 : off 1 ≤ (i 1).val ∧ (i 1).val < off 1 + 1 := hi' 1
  rw [mem_slot]
  refine Fin.ext ?_
  show 9 * (i 0).val + (i 1).val = j.val
  omega

end Cert.KernelIdealProof

end
-- ==== Proof.KernelIdeal.PartsA.lean ====
/-
# The stretches of the kernel, one rule each

A stretch takes the device's state before it to the state after it, and passes on the named values.
-/
module

public import proofs.«01_k».proof.Proof.KernelIdeal.Dev

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Stretch 4 of the kernel. It starts the copy into slot 10, loads from slot 0 and loads its inputs. -/
theorem part4 {K : Dev nD × CI → ℕ} {c : Dev nD}  {Φ : (Σ' (v84 : FVec F S128x8x64 .bf16) (v87 : FVec F S128x8x64 .bf16) (v88 : FVec F S8x128x1 .f32) (v89 : FVec F S8x128x1 .f32) (v90 : FVec F S8x128x1 .f32) (v91 : FVec F S8x128x1 .f32) (v92 : FVec F S8x128x64 .f32) (v93 : FVec F S8x128x64 .f32) (v97 : FVec F S128x8x64 .bf16) (v98 : FVec F S8x128x128 .f32), FVec F S8x128x128 .f32) → sProp 𝕄} :
    iprop(St m ρ K c [10, 2, 11, 3, 12, 4, 13, 5, 14, 6, 15, 7, 16, 8] [10] [1] [1] [0] [] ∗ ((c : Thread nD τ).loc cc0_stg0_0 ↦{fullShare} xstg m ρ c) ∗ ((c : Thread nD τ).loc cc0_stg1_0 ↦{fullShare} wqstg m ρ c))
      ⊢ iprop((St m ρ K c [2, 11, 3, 12, 4, 13, 5, 14, 6, 15, 7, 16, 8] [] [1, 10] [1, 10] [0] [] ∗ ((c : Thread nD τ).loc cc0_stg0_0 ↦{fullShare} xstg m ρ c) ∗ ((c : Thread nD τ).loc cc0_stg1_0 ↦{fullShare} wqstg m ρ c) -∗ Φ ⟨(w84 m ρ c), (w87 m ρ c), (w88 (F := F)), (w89 (F := F)), (w90 (F := F)), (w91 (F := F)), (w92 (F := F)), (w93 (F := F)), (w97 m ρ c), (w98 m ρ c), (w99 (F := F))⟩)
          -∗ wp frame (wpE (defs₀ (F := F)) 𝒱₀ (c : Thread nD τ) none) Set.univ
              (k0_part4 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c) Φ) := by
  rw [k0_part4_eq_skeleton]
  unfold k0_part4_skel
  simp only [Prog.lift, Prog.bind_op, Prog.bind_ret, Prog.pure_eq_ret]
  simp only [w84, w87, w88, w89, w90, w91, w92, w93, w97, w98, w99, l94, l96, ld]
  iintro ⟨HSt, Hx, Hwq⟩ Hk
  iapply (wp_start m ρ (todo := [2, 11, 3, 12, 4, 13, 5, 14, 6, 15, 7, 16, 8]) (ready := []) 10 (by decide) (dev4_eq c)) $$ HSt
  iintro HSt
  simp only [List.cons_append, List.nil_append]
  iapply (wp_load 𝒱₀ (c : Thread nD τ) none Set.univ (m := xM) (S := Finset.univ) (Finset.subset_univ _)) $$ Hx
  iintro Hx
  rw [x_read _ (xstg m ρ c)]
  iapply (wp_load 𝒱₀ (c : Thread nD τ) none Set.univ (m := wqM) (S := Finset.univ) (Finset.subset_univ _)) $$ Hwq
  iintro Hwq
  rw [wq_read _ (wqstg m ρ c)]
  iapply (wp_read m ρ 0 (by decide) (sub_slot 0 ![0, 0, 0, 0, 0, 0, 0] inb_S2x9x2x2x128x8x64_S1x1x1x1x128x8x64_0_0_0_0_0_0_0 rfl rfl)) $$ HSt
  iintro HSt
  iapply (wp_read m ρ 0 (by decide) (sub_slot 0 ![0, 0, 1, 0, 0, 0, 0] inb_S2x9x2x2x128x8x64_S1x1x1x1x128x8x64_0_0_1_0_0_0_0 rfl rfl)) $$ HSt
  iintro HSt
  rw [wp_ret]
  imodintro
  iapply Hk
  isplitl [HSt]; · iexact HSt
  isplitl [Hx] <;> iassumption

/-- Stretch 5 of the kernel. It loads from slot 0. -/
theorem part5 {K : Dev nD × CI → ℕ} {c : Dev nD}  {Φ : (Σ' (v103 : FVec F S8x128x1 .f32) (v112 : FVec F S8x128x1 .f32) (v117 : FVec F S8x128x64 .f32) (v121 : FVec F S128x8x64 .bf16) (v127 : FVec F S8x128x1 .f32) (v129 : FVec F S8x128x1 .f32) (v136 : FVec F S8x128x1 .f32) (v137 : FVec F S8x128x128 .bf16), FVec F S8x128x64 .f32) → sProp 𝕄} :
    St m ρ K c [2, 11, 3, 12, 4, 13, 5, 14, 6, 15, 7, 16, 8] [] [1, 10] [1, 10] [0] []
      ⊢ iprop((St m ρ K c [2, 11, 3, 12, 4, 13, 5, 14, 6, 15, 7, 16, 8] [] [1, 10] [1, 10] [0] [] -∗ Φ ⟨(w103 m ρ c), (w112 m ρ c), (w117 m ρ c), (w121 m ρ c), (w127 m ρ c), (w129 m ρ c), (w136 m ρ c), (w137 m ρ c), (wcst_139 (F := F))⟩)
          -∗ wp frame (wpE (defs₀ (F := F)) 𝒱₀ (c : Thread nD τ) none) Set.univ
              (k0_part5 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w87 m ρ c) (w88 (F := F)) (w89 (F := F)) (w90 (F := F)) (w91 (F := F)) (w92 (F := F)) (w97 m ρ c) (w98 m ρ c) (w99 (F := F))) Φ) := by
  rw [k0_part5_eq_skeleton]
  unfold k0_part5_skel
  simp only [Prog.lift, Prog.bind_op, Prog.bind_ret, Prog.pure_eq_ret]
  simp only [w103, w112, w117, w121, w127, w129, w136, w137, wcst_139, l118, l120, ld]
  iintro HSt Hk
  iapply (wp_read m ρ 0 (by decide) (sub_slot 0 ![0, 0, 0, 1, 0, 0, 0] inb_S2x9x2x2x128x8x64_S1x1x1x1x128x8x64_0_0_0_1_0_0_0 rfl rfl)) $$ HSt
  iintro HSt
  iapply (wp_read m ρ 0 (by decide) (sub_slot 0 ![0, 0, 1, 1, 0, 0, 0] inb_S2x9x2x2x128x8x64_S1x1x1x1x128x8x64_0_0_1_1_0_0_0 rfl rfl)) $$ HSt
  iintro HSt
  rw [wp_ret]
  imodintro
  iapply Hk; iexact HSt

/-- Stretch 6 of the kernel. It waits for slot 1. -/
theorem part6 {K : Dev nD × CI → ℕ} {c : Dev nD} (v21 : BitVec 32) (v40 : BitVec 32) {Φ : (FVec F S8x128x64 .f32) → sProp 𝕄} :
    St m ρ K c [2, 11, 3, 12, 4, 13, 5, 14, 6, 15, 7, 16, 8] [] [1, 10] [1, 10] [0] []
      ⊢ iprop((St m ρ K c [2, 11, 3, 12, 4, 13, 5, 14, 6, 15, 7, 16, 8] [2] [10] [1, 10] [0, 1] [] -∗ Φ (w141 m ρ c))
          -∗ wp frame (wpE (defs₀ (F := F)) 𝒱₀ (c : Thread nD τ) none) Set.univ
              (k0_part6 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 v40 (w93 (F := F)) (w121 m ρ c) (w129 m ρ c) (w137 m ρ c) (wcst_139 (F := F))) Φ) := by
  rw [k0_part6_eq_skeleton]
  unfold k0_part6_skel
  simp only [Prog.lift, Prog.bind_op, Prog.bind_ret, Prog.pure_eq_ret]
  simp only [w141]
  iintro HSt Hk
  iapply (wp_recv m ρ (infl := [10]) 1 2 (by decide) rfl (by decide) rfl) $$ HSt
  iintro HSt
  simp only [List.cons_append, List.nil_append]
  rw [wp_ret]
  imodintro
  iapply Hk; iexact HSt

/-- Stretch 7 of the kernel. It waits for slot 10 and starts the copy into slot 2. -/
theorem part7 {K : Dev nD × CI → ℕ} {c : Dev nD} (v21 : BitVec 32) (v40 : BitVec 32) {Φ : PUnit → sProp 𝕄} :
    St m ρ K c [2, 11, 3, 12, 4, 13, 5, 14, 6, 15, 7, 16, 8] [2] [10] [1, 10] [0, 1] []
      ⊢ iprop((St m ρ K c [11, 3, 12, 4, 13, 5, 14, 6, 15, 7, 16, 8] [11] [2] [1, 10, 2] [0, 1, 10] [] -∗ Φ ⟨⟩)
          -∗ wp frame (wpE (defs₀ (F := F)) 𝒱₀ (c : Thread nD τ) none) Set.univ
              (k0_part7 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v21 v40) Φ) := by
  rw [k0_part7_eq_skeleton]
  unfold k0_part7_skel
  simp only [Prog.lift, Prog.bind_op, Prog.bind_ret, Prog.pure_eq_ret]
  iintro HSt Hk
  iapply (wp_recv m ρ (infl := []) 10 11 (by decide) rfl (by decide) rfl) $$ HSt
  iintro HSt
  simp only [List.cons_append, List.nil_append]
  iapply (wp_start m ρ (todo := [11, 3, 12, 4, 13, 5, 14, 6, 15, 7, 16, 8]) (ready := [11]) 2 (by decide) (dev5_eq c)) $$ HSt
  iintro HSt
  simp only [List.cons_append, List.nil_append]
  rw [wp_ret]
  imodintro
  iapply Hk; iexact HSt

/-- Stretch 8 of the kernel. It starts the copy into slot 11 and loads from slots 1 and 10. -/
theorem part8 {K : Dev nD × CI → ℕ} {c : Dev nD}  {Φ : (Σ' (v187 : FVec F S256x8x64 .bf16) (v193 : FVec F S8x128x1 .f32) (v195 : FVec F S8x128x1 .f32) (v198 : FVec F S8x128x256 .f32) (v199 : FVec F S8x128x1 .f32), FVec F S8x128x1 .f32) → sProp 𝕄} :
    St m ρ K c [11, 3, 12, 4, 13, 5, 14, 6, 15, 7, 16, 8] [11] [2] [1, 10, 2] [0, 1, 10] []
      ⊢ iprop((St m ρ K c [3, 12, 4, 13, 5, 14, 6, 15, 7, 16, 8] [] [2, 11] [1, 10, 2, 11] [0, 1, 10] [] -∗ Φ ⟨(w187 m ρ c), (w193 m ρ c), (w195 m ρ c), (w198 m ρ c), (w199 m ρ c), (w201 m ρ c)⟩)
          -∗ wp frame (wpE (defs₀ (F := F)) 𝒱₀ (c : Thread nD τ) none) Set.univ
              (k0_part8 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c (w84 m ρ c) (w103 m ρ c) (w112 m ρ c)) Φ) := by
  rw [k0_part8_eq_skeleton]
  unfold k0_part8_skel
  simp only [Prog.lift, Prog.bind_op, Prog.bind_ret, Prog.pure_eq_ret]
  simp only [w187, w193, w195, w198, w199, w201, l178, l180, l183, l185, ld]
  iintro HSt Hk
  iapply (wp_start m ρ (todo := [3, 12, 4, 13, 5, 14, 6, 15, 7, 16, 8]) (ready := []) 11 (by decide) (dev6_eq c)) $$ HSt
  iintro HSt
  simp only [List.cons_append, List.nil_append]
  iapply (wp_read m ρ 1 (by decide) (sub_slot 1 ![0, 1, 0, 0, 0, 0, 0] inb_S2x9x2x2x128x8x64_S1x1x1x1x128x8x64_0_1_0_0_0_0_0 rfl rfl)) $$ HSt
  iintro HSt
  iapply (wp_read m ρ 10 (by decide) (sub_slot 10 ![1, 1, 0, 0, 0, 0, 0] inb_S2x9x2x2x128x8x64_S1x1x1x1x128x8x64_1_1_0_0_0_0_0 rfl rfl)) $$ HSt
  iintro HSt
  iapply (wp_read m ρ 1 (by decide) (sub_slot 1 ![0, 1, 1, 0, 0, 0, 0] inb_S2x9x2x2x128x8x64_S1x1x1x1x128x8x64_0_1_1_0_0_0_0 rfl rfl)) $$ HSt
  iintro HSt
  iapply (wp_read m ρ 10 (by decide) (sub_slot 10 ![1, 1, 1, 0, 0, 0, 0] inb_S2x9x2x2x128x8x64_S1x1x1x1x128x8x64_1_1_1_0_0_0_0 rfl rfl)) $$ HSt
  iintro HSt
  rw [wp_ret]
  imodintro
  iapply Hk; iexact HSt

/-- Stretch 9 of the kernel. It loads from slots 1 and 10. -/
theorem part9 {K : Dev nD × CI → ℕ} {c : Dev nD}  {Φ : (Σ' (v202 : FVec F S8x128x1 .f32) (v207 : FVec F S8x128x64 .f32) (v217 : FVec F S256x8x64 .bf16) (v223 : FVec F S8x128x1 .f32) (v225 : FVec F S8x128x1 .f32) (v228 : FVec F S8x128x256 .f32), FVec F S8x128x1 .f32) → sProp 𝕄} :
    St m ρ K c [3, 12, 4, 13, 5, 14, 6, 15, 7, 16, 8] [] [2, 11] [1, 10, 2, 11] [0, 1, 10] []
      ⊢ iprop((St m ρ K c [3, 12, 4, 13, 5, 14, 6, 15, 7, 16, 8] [] [2, 11] [1, 10, 2, 11] [0, 1, 10] [] -∗ Φ ⟨(w202 m ρ c), (w207 m ρ c), (w217 m ρ c), (w223 m ρ c), (w225 m ρ c), (w228 m ρ c), (w229 m ρ c)⟩)
          -∗ wp frame (wpE (defs₀ (F := F)) 𝒱₀ (c : Thread nD τ) none) Set.univ
              (k0_part9 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w87 m ρ c) (w117 m ρ c) (w127 m ρ c) (w136 m ρ c) (w187 m ρ c) (w195 m ρ c) (w198 m ρ c) (w199 m ρ c) (w201 m ρ c)) Φ) := by
  rw [k0_part9_eq_skeleton]
  unfold k0_part9_skel
  simp only [Prog.lift, Prog.bind_op, Prog.bind_ret, Prog.pure_eq_ret]
  simp only [w202, w207, w217, w223, w225, w228, w229, l208, l210, l213, l215, ld]
  iintro HSt Hk
  iapply (wp_read m ρ 1 (by decide) (sub_slot 1 ![0, 1, 0, 1, 0, 0, 0] inb_S2x9x2x2x128x8x64_S1x1x1x1x128x8x64_0_1_0_1_0_0_0 rfl rfl)) $$ HSt
  iintro HSt
  iapply (wp_read m ρ 10 (by decide) (sub_slot 10 ![1, 1, 0, 1, 0, 0, 0] inb_S2x9x2x2x128x8x64_S1x1x1x1x128x8x64_1_1_0_1_0_0_0 rfl rfl)) $$ HSt
  iintro HSt
  iapply (wp_read m ρ 1 (by decide) (sub_slot 1 ![0, 1, 1, 1, 0, 0, 0] inb_S2x9x2x2x128x8x64_S1x1x1x1x128x8x64_0_1_1_1_0_0_0 rfl rfl)) $$ HSt
  iintro HSt
  iapply (wp_read m ρ 10 (by decide) (sub_slot 10 ![1, 1, 1, 1, 0, 0, 0] inb_S2x9x2x2x128x8x64_S1x1x1x1x128x8x64_1_1_1_1_0_0_0 rfl rfl)) $$ HSt
  iintro HSt
  rw [wp_ret]
  imodintro
  iapply Hk; iexact HSt

/-- Stretch 10 of the kernel. It waits for slot 2. -/
theorem part10 {K : Dev nD × CI → ℕ} {c : Dev nD} (v21 : BitVec 32) (v40 : BitVec 32) {Φ : (Σ' (v232 : FVec F S8x128x1 .f32), FVec F S8x128x64 .f32) → sProp 𝕄} :
    St m ρ K c [3, 12, 4, 13, 5, 14, 6, 15, 7, 16, 8] [] [2, 11] [1, 10, 2, 11] [0, 1, 10] []
      ⊢ iprop((St m ρ K c [3, 12, 4, 13, 5, 14, 6, 15, 7, 16, 8] [3] [11] [1, 10, 2, 11] [0, 1, 10, 2] [] -∗ Φ ⟨(w232 m ρ c), (w237 m ρ c)⟩)
          -∗ wp frame (wpE (defs₀ (F := F)) 𝒱₀ (c : Thread nD τ) none) Set.univ
              (k0_part10 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 v40 (w141 m ρ c) (w217 m ρ c) (w225 m ρ c) (w228 m ρ c) (w229 m ρ c)) Φ) := by
  rw [k0_part10_eq_skeleton]
  unfold k0_part10_skel
  simp only [Prog.lift, Prog.bind_op, Prog.bind_ret, Prog.pure_eq_ret]
  simp only [w232, w237]
  iintro HSt Hk
  iapply (wp_recv m ρ (infl := [11]) 2 3 (by decide) rfl (by decide) rfl) $$ HSt
  iintro HSt
  simp only [List.cons_append, List.nil_append]
  rw [wp_ret]
  imodintro
  iapply Hk; iexact HSt

/-- Stretch 11 of the kernel. It waits for slot 11 and starts the copy into slot 3. -/
theorem part11 {K : Dev nD × CI → ℕ} {c : Dev nD} (v21 : BitVec 32) (v40 : BitVec 32) {Φ : PUnit → sProp 𝕄} :
    St m ρ K c [3, 12, 4, 13, 5, 14, 6, 15, 7, 16, 8] [3] [11] [1, 10, 2, 11] [0, 1, 10, 2] []
      ⊢ iprop((St m ρ K c [12, 4, 13, 5, 14, 6, 15, 7, 16, 8] [12] [3] [1, 10, 2, 11, 3] [0, 1, 10, 2, 11] [] -∗ Φ ⟨⟩)
          -∗ wp frame (wpE (defs₀ (F := F)) 𝒱₀ (c : Thread nD τ) none) Set.univ
              (k0_part11 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v21 v40) Φ) := by
  rw [k0_part11_eq_skeleton]
  unfold k0_part11_skel
  simp only [Prog.lift, Prog.bind_op, Prog.bind_ret, Prog.pure_eq_ret]
  iintro HSt Hk
  iapply (wp_recv m ρ (infl := []) 11 12 (by decide) rfl (by decide) rfl) $$ HSt
  iintro HSt
  simp only [List.cons_append, List.nil_append]
  iapply (wp_start m ρ (todo := [12, 4, 13, 5, 14, 6, 15, 7, 16, 8]) (ready := [12]) 3 (by decide) (dev7_eq c)) $$ HSt
  iintro HSt
  simp only [List.cons_append, List.nil_append]
  rw [wp_ret]
  imodintro
  iapply Hk; iexact HSt

/-- Stretch 12 of the kernel. It starts the copy into slot 12 and loads from slots 2 and 11. -/
theorem part12 {K : Dev nD × CI → ℕ} {c : Dev nD}  {Φ : (Σ' (v283 : FVec F S256x8x64 .bf16) (v286 : FVec F S8x128x256 .f32) (v289 : FVec F S8x128x1 .f32) (v291 : FVec F S8x128x1 .f32), FVec F S8x128x256 .f32) → sProp 𝕄} :
    St m ρ K c [12, 4, 13, 5, 14, 6, 15, 7, 16, 8] [12] [3] [1, 10, 2, 11, 3] [0, 1, 10, 2, 11] []
      ⊢ iprop((St m ρ K c [4, 13, 5, 14, 6, 15, 7, 16, 8] [] [3, 12] [1, 10, 2, 11, 3, 12] [0, 1, 10, 2, 11] [] -∗ Φ ⟨(w283 m ρ c), (w286 m ρ c), (w289 m ρ c), (w291 m ρ c), (w292 m ρ c)⟩)
          -∗ wp frame (wpE (defs₀ (F := F)) 𝒱₀ (c : Thread nD τ) none) Set.univ
              (k0_part12 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c (w84 m ρ c) (w193 m ρ c)) Φ) := by
  rw [k0_part12_eq_skeleton]
  unfold k0_part12_skel
  simp only [Prog.lift, Prog.bind_op, Prog.bind_ret, Prog.pure_eq_ret]
  simp only [w283, w286, w289, w291, w292, l274, l276, l279, l281, ld]
  iintro HSt Hk
  iapply (wp_start m ρ (todo := [4, 13, 5, 14, 6, 15, 7, 16, 8]) (ready := []) 12 (by decide) (dev8_eq c)) $$ HSt
  iintro HSt
  simp only [List.cons_append, List.nil_append]
  iapply (wp_read m ρ 2 (by decide) (sub_slot 2 ![0, 2, 0, 0, 0, 0, 0] inb_S2x9x2x2x128x8x64_S1x1x1x1x128x8x64_0_2_0_0_0_0_0 rfl rfl)) $$ HSt
  iintro HSt
  iapply (wp_read m ρ 11 (by decide) (sub_slot 11 ![1, 2, 0, 0, 0, 0, 0] inb_S2x9x2x2x128x8x64_S1x1x1x1x128x8x64_1_2_0_0_0_0_0 rfl rfl)) $$ HSt
  iintro HSt
  iapply (wp_read m ρ 2 (by decide) (sub_slot 2 ![0, 2, 1, 0, 0, 0, 0] inb_S2x9x2x2x128x8x64_S1x1x1x1x128x8x64_0_2_1_0_0_0_0 rfl rfl)) $$ HSt
  iintro HSt
  iapply (wp_read m ρ 11 (by decide) (sub_slot 11 ![1, 2, 1, 0, 0, 0, 0] inb_S2x9x2x2x128x8x64_S1x1x1x1x128x8x64_1_2_1_0_0_0_0 rfl rfl)) $$ HSt
  iintro HSt
  rw [wp_ret]
  imodintro
  iapply Hk; iexact HSt

/-- Stretch 13 of the kernel. It loads from slots 2 and 11. -/
theorem part13 {K : Dev nD × CI → ℕ} {c : Dev nD}  {Φ : (Σ' (v298 : FVec F S8x128x1 .f32) (v303 : FVec F S8x128x64 .f32) (v313 : FVec F S256x8x64 .bf16) (v316 : FVec F S8x128x256 .f32), FVec F S8x128x1 .f32) → sProp 𝕄} :
    St m ρ K c [4, 13, 5, 14, 6, 15, 7, 16, 8] [] [3, 12] [1, 10, 2, 11, 3, 12] [0, 1, 10, 2, 11] []
      ⊢ iprop((St m ρ K c [4, 13, 5, 14, 6, 15, 7, 16, 8] [] [3, 12] [1, 10, 2, 11, 3, 12] [0, 1, 10, 2, 11] [] -∗ Φ ⟨(w298 m ρ c), (w303 m ρ c), (w313 m ρ c), (w316 m ρ c), (w319 m ρ c)⟩)
          -∗ wp frame (wpE (defs₀ (F := F)) 𝒱₀ (c : Thread nD τ) none) Set.univ
              (k0_part13 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w87 m ρ c) (w202 m ρ c) (w207 m ρ c) (w223 m ρ c) (w283 m ρ c) (w286 m ρ c) (w291 m ρ c) (w292 m ρ c)) Φ) := by
  rw [k0_part13_eq_skeleton]
  unfold k0_part13_skel
  simp only [Prog.lift, Prog.bind_op, Prog.bind_ret, Prog.pure_eq_ret]
  simp only [w298, w303, w313, w316, w319, l304, l306, l309, l311, ld]
  iintro HSt Hk
  iapply (wp_read m ρ 2 (by decide) (sub_slot 2 ![0, 2, 0, 1, 0, 0, 0] inb_S2x9x2x2x128x8x64_S1x1x1x1x128x8x64_0_2_0_1_0_0_0 rfl rfl)) $$ HSt
  iintro HSt
  iapply (wp_read m ρ 11 (by decide) (sub_slot 11 ![1, 2, 0, 1, 0, 0, 0] inb_S2x9x2x2x128x8x64_S1x1x1x1x128x8x64_1_2_0_1_0_0_0 rfl rfl)) $$ HSt
  iintro HSt
  iapply (wp_read m ρ 2 (by decide) (sub_slot 2 ![0, 2, 1, 1, 0, 0, 0] inb_S2x9x2x2x128x8x64_S1x1x1x1x128x8x64_0_2_1_1_0_0_0 rfl rfl)) $$ HSt
  iintro HSt
  iapply (wp_read m ρ 11 (by decide) (sub_slot 11 ![1, 2, 1, 1, 0, 0, 0] inb_S2x9x2x2x128x8x64_S1x1x1x1x128x8x64_1_2_1_1_0_0_0 rfl rfl)) $$ HSt
  iintro HSt
  rw [wp_ret]
  imodintro
  iapply Hk; iexact HSt

/-- Stretch 14 of the kernel. It waits for slot 3. -/
theorem part14 {K : Dev nD × CI → ℕ} {c : Dev nD} (v21 : BitVec 32) (v40 : BitVec 32) {Φ : (Σ' (v328 : FVec F S8x128x1 .f32), FVec F S8x128x64 .f32) → sProp 𝕄} :
    St m ρ K c [4, 13, 5, 14, 6, 15, 7, 16, 8] [] [3, 12] [1, 10, 2, 11, 3, 12] [0, 1, 10, 2, 11] []
      ⊢ iprop((St m ρ K c [4, 13, 5, 14, 6, 15, 7, 16, 8] [4] [12] [1, 10, 2, 11, 3, 12] [0, 1, 10, 2, 11, 3] [] -∗ Φ ⟨(w328 m ρ c), (w333 m ρ c)⟩)
          -∗ wp frame (wpE (defs₀ (F := F)) 𝒱₀ (c : Thread nD τ) none) Set.univ
              (k0_part14 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 v40 (w223 m ρ c) (w232 m ρ c) (w237 m ρ c) (w313 m ρ c) (w316 m ρ c) (w319 m ρ c)) Φ) := by
  rw [k0_part14_eq_skeleton]
  unfold k0_part14_skel
  simp only [Prog.lift, Prog.bind_op, Prog.bind_ret, Prog.pure_eq_ret]
  simp only [w328, w333]
  iintro HSt Hk
  iapply (wp_recv m ρ (infl := [12]) 3 4 (by decide) rfl (by decide) rfl) $$ HSt
  iintro HSt
  simp only [List.cons_append, List.nil_append]
  rw [wp_ret]
  imodintro
  iapply Hk; iexact HSt

/-- Stretch 15 of the kernel. It waits for slot 12 and starts the copy into slot 4. -/
theorem part15 {K : Dev nD × CI → ℕ} {c : Dev nD} (v21 : BitVec 32) (v40 : BitVec 32) {Φ : PUnit → sProp 𝕄} :
    St m ρ K c [4, 13, 5, 14, 6, 15, 7, 16, 8] [4] [12] [1, 10, 2, 11, 3, 12] [0, 1, 10, 2, 11, 3] []
      ⊢ iprop((St m ρ K c [13, 5, 14, 6, 15, 7, 16, 8] [13] [4] [1, 10, 2, 11, 3, 12, 4] [0, 1, 10, 2, 11, 3, 12] [] -∗ Φ ⟨⟩)
          -∗ wp frame (wpE (defs₀ (F := F)) 𝒱₀ (c : Thread nD τ) none) Set.univ
              (k0_part15 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v21 v40) Φ) := by
  rw [k0_part15_eq_skeleton]
  unfold k0_part15_skel
  simp only [Prog.lift, Prog.bind_op, Prog.bind_ret, Prog.pure_eq_ret]
  iintro HSt Hk
  iapply (wp_recv m ρ (infl := []) 12 13 (by decide) rfl (by decide) rfl) $$ HSt
  iintro HSt
  simp only [List.cons_append, List.nil_append]
  iapply (wp_start m ρ (todo := [13, 5, 14, 6, 15, 7, 16, 8]) (ready := [13]) 4 (by decide) (dev9_eq c)) $$ HSt
  iintro HSt
  simp only [List.cons_append, List.nil_append]
  rw [wp_ret]
  imodintro
  iapply Hk; iexact HSt

end Cert.KernelIdealProof

end
-- ==== Proof.KernelIdeal.PartsB.lean ====
/-
# The stretches of the kernel, one rule each

A stretch takes the device's state before it to the state after it, and passes on the named values.
-/
module

public import proofs.«01_k».proof.Proof.KernelIdeal.Dev

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Stretch 16 of the kernel. It starts the copy into slot 13 and loads from slots 3 and 12. -/
theorem part16 {K : Dev nD × CI → ℕ} {c : Dev nD}  {Φ : (Σ' (v379 : FVec F S256x8x64 .bf16), FVec F S8x128x256 .f32) → sProp 𝕄} :
    St m ρ K c [13, 5, 14, 6, 15, 7, 16, 8] [13] [4] [1, 10, 2, 11, 3, 12, 4] [0, 1, 10, 2, 11, 3, 12] []
      ⊢ iprop((St m ρ K c [5, 14, 6, 15, 7, 16, 8] [] [4, 13] [1, 10, 2, 11, 3, 12, 4, 13] [0, 1, 10, 2, 11, 3, 12] [] -∗ Φ ⟨(w379 m ρ c), (w382 m ρ c)⟩)
          -∗ wp frame (wpE (defs₀ (F := F)) 𝒱₀ (c : Thread nD τ) none) Set.univ
              (k0_part16 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c (w84 m ρ c)) Φ) := by
  rw [k0_part16_eq_skeleton]
  unfold k0_part16_skel
  simp only [Prog.lift, Prog.bind_op, Prog.bind_ret, Prog.pure_eq_ret]
  simp only [w379, w382, l370, l372, l375, l377, ld]
  iintro HSt Hk
  iapply (wp_start m ρ (todo := [5, 14, 6, 15, 7, 16, 8]) (ready := []) 13 (by decide) (dev10_eq c)) $$ HSt
  iintro HSt
  simp only [List.cons_append, List.nil_append]
  iapply (wp_read m ρ 3 (by decide) (sub_slot 3 ![0, 3, 0, 0, 0, 0, 0] inb_S2x9x2x2x128x8x64_S1x1x1x1x128x8x64_0_3_0_0_0_0_0 rfl rfl)) $$ HSt
  iintro HSt
  iapply (wp_read m ρ 12 (by decide) (sub_slot 12 ![1, 3, 0, 0, 0, 0, 0] inb_S2x9x2x2x128x8x64_S1x1x1x1x128x8x64_1_3_0_0_0_0_0 rfl rfl)) $$ HSt
  iintro HSt
  iapply (wp_read m ρ 3 (by decide) (sub_slot 3 ![0, 3, 1, 0, 0, 0, 0] inb_S2x9x2x2x128x8x64_S1x1x1x1x128x8x64_0_3_1_0_0_0_0 rfl rfl)) $$ HSt
  iintro HSt
  iapply (wp_read m ρ 12 (by decide) (sub_slot 12 ![1, 3, 1, 0, 0, 0, 0] inb_S2x9x2x2x128x8x64_S1x1x1x1x128x8x64_1_3_1_0_0_0_0 rfl rfl)) $$ HSt
  iintro HSt
  rw [wp_ret]
  imodintro
  iapply Hk; iexact HSt

/-- Stretch 17 of the kernel. It loads from slots 3 and 12. -/
theorem part17 {K : Dev nD × CI → ℕ} {c : Dev nD}  {Φ : (Σ' (v385 : FVec F S8x128x1 .f32) (v394 : FVec F S8x128x1 .f32) (v399 : FVec F S8x128x64 .f32) (v409 : FVec F S256x8x64 .bf16) (v410 : FVec F S8x128x256 .f32), F .f32) → sProp 𝕄} :
    St m ρ K c [5, 14, 6, 15, 7, 16, 8] [] [4, 13] [1, 10, 2, 11, 3, 12, 4, 13] [0, 1, 10, 2, 11, 3, 12] []
      ⊢ iprop((St m ρ K c [5, 14, 6, 15, 7, 16, 8] [] [4, 13] [1, 10, 2, 11, 3, 12, 4, 13] [0, 1, 10, 2, 11, 3, 12] [] -∗ Φ ⟨(w385 m ρ c), (w394 m ρ c), (w399 m ρ c), (w409 m ρ c), (w410 m ρ c), (wcst_572 (F := F))⟩)
          -∗ wp frame (wpE (defs₀ (F := F)) 𝒱₀ (c : Thread nD τ) none) Set.univ
              (k0_part17 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w87 m ρ c) (w289 m ρ c) (w298 m ρ c) (w303 m ρ c) (w379 m ρ c) (w382 m ρ c)) Φ) := by
  rw [k0_part17_eq_skeleton]
  unfold k0_part17_skel
  simp only [Prog.lift, Prog.bind_op, Prog.bind_ret, Prog.pure_eq_ret]
  simp only [w385, w394, w399, w409, w410, wcst_572, l400, l402, l405, l407, ld]
  iintro HSt Hk
  iapply (wp_read m ρ 3 (by decide) (sub_slot 3 ![0, 3, 0, 1, 0, 0, 0] inb_S2x9x2x2x128x8x64_S1x1x1x1x128x8x64_0_3_0_1_0_0_0 rfl rfl)) $$ HSt
  iintro HSt
  iapply (wp_read m ρ 12 (by decide) (sub_slot 12 ![1, 3, 0, 1, 0, 0, 0] inb_S2x9x2x2x128x8x64_S1x1x1x1x128x8x64_1_3_0_1_0_0_0 rfl rfl)) $$ HSt
  iintro HSt
  iapply (wp_read m ρ 3 (by decide) (sub_slot 3 ![0, 3, 1, 1, 0, 0, 0] inb_S2x9x2x2x128x8x64_S1x1x1x1x128x8x64_0_3_1_1_0_0_0 rfl rfl)) $$ HSt
  iintro HSt
  iapply (wp_read m ρ 12 (by decide) (sub_slot 12 ![1, 3, 1, 1, 0, 0, 0] inb_S2x9x2x2x128x8x64_S1x1x1x1x128x8x64_1_3_1_1_0_0_0 rfl rfl)) $$ HSt
  iintro HSt
  rw [wp_ret]
  imodintro
  iapply Hk; iexact HSt

/-- Stretch 18 of the kernel. It waits for slot 4. -/
theorem part18 {K : Dev nD × CI → ℕ} {c : Dev nD} (v21 : BitVec 32) {Φ : (Σ' (v415 : FVec F S8x128x1 .f32) (v424 : FVec F S8x128x1 .f32) (v429 : FVec F S8x128x64 .f32), BitVec 32) → sProp 𝕄} :
    St m ρ K c [5, 14, 6, 15, 7, 16, 8] [] [4, 13] [1, 10, 2, 11, 3, 12, 4, 13] [0, 1, 10, 2, 11, 3, 12] []
      ⊢ iprop((∀ (c1_i32_604 : BitVec 32), St m ρ K c [5, 14, 6, 15, 7, 16, 8] [5] [13] [1, 10, 2, 11, 3, 12, 4, 13] [0, 1, 10, 2, 11, 3, 12, 4] [] -∗ Φ ⟨(w415 m ρ c), (w424 m ρ c), (w429 m ρ c), c1_i32_604⟩)
          -∗ wp frame (wpE (defs₀ (F := F)) 𝒱₀ (c : Thread nD τ) none) Set.univ
              (k0_part18 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 (w319 m ρ c) (w328 m ρ c) (w333 m ρ c) (w409 m ρ c) (w410 m ρ c) (wcst_572 (F := F))) Φ) := by
  rw [k0_part18_eq_skeleton]
  unfold k0_part18_skel
  simp only [Prog.lift, Prog.bind_op, Prog.bind_ret, Prog.pure_eq_ret]
  simp only [w415, w424, w429]
  iintro HSt Hk
  iapply (wp_recv m ρ (infl := [13]) 4 5 (by decide) rfl (by decide) rfl) $$ HSt
  iintro HSt
  simp only [List.cons_append, List.nil_append]
  rw [wp_ret]
  imodintro
  iapply Hk; iexact HSt

/-- Stretch 19 of the kernel. It waits for slot 13 and starts the copy into slot 5. -/
theorem part19 {K : Dev nD × CI → ℕ} {c : Dev nD} (v21 : BitVec 32) (v40 : BitVec 32) (c1_i32_604 : BitVec 32) {Φ : (BitVec 32) → sProp 𝕄} :
    St m ρ K c [5, 14, 6, 15, 7, 16, 8] [5] [13] [1, 10, 2, 11, 3, 12, 4, 13] [0, 1, 10, 2, 11, 3, 12, 4] []
      ⊢ iprop((∀ (c1_i32_643 : BitVec 32), St m ρ K c [14, 6, 15, 7, 16, 8] [14] [5] [1, 10, 2, 11, 3, 12, 4, 13, 5] [0, 1, 10, 2, 11, 3, 12, 4, 13] [] -∗ Φ c1_i32_643)
          -∗ wp frame (wpE (defs₀ (F := F)) 𝒱₀ (c : Thread nD τ) none) Set.univ
              (k0_part19 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v21 v40 c1_i32_604) Φ) := by
  rw [k0_part19_eq_skeleton]
  unfold k0_part19_skel
  simp only [Prog.lift, Prog.bind_op, Prog.bind_ret, Prog.pure_eq_ret]
  iintro HSt Hk
  iapply (wp_recv m ρ (infl := []) 13 14 (by decide) rfl (by decide) rfl) $$ HSt
  iintro HSt
  simp only [List.cons_append, List.nil_append]
  iapply (wp_start m ρ (todo := [14, 6, 15, 7, 16, 8]) (ready := [14]) 5 (by decide) (dev11_eq c)) $$ HSt
  iintro HSt
  simp only [List.cons_append, List.nil_append]
  rw [wp_ret]
  imodintro
  iapply Hk; iexact HSt

/-- Stretch 20 of the kernel. It starts the copy into slot 14 and loads from slots 4 and 13. -/
theorem part20 {K : Dev nD × CI → ℕ} {c : Dev nD} (v40 : BitVec 32) (c1_i32_643 : BitVec 32) {Φ : (Σ' (v470 : FVec F S256x8x64 .bf16), FVec F S256x8x64 .bf16) → sProp 𝕄} :
    St m ρ K c [14, 6, 15, 7, 16, 8] [14] [5] [1, 10, 2, 11, 3, 12, 4, 13, 5] [0, 1, 10, 2, 11, 3, 12, 4, 13] []
      ⊢ iprop((St m ρ K c [6, 15, 7, 16, 8] [] [5, 14] [1, 10, 2, 11, 3, 12, 4, 13, 5, 14] [0, 1, 10, 2, 11, 3, 12, 4, 13] [] -∗ Φ ⟨(w470 m ρ c), (w475 m ρ c)⟩)
          -∗ wp frame (wpE (defs₀ (F := F)) 𝒱₀ (c : Thread nD τ) none) Set.univ
              (k0_part20 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v40 c1_i32_643) Φ) := by
  rw [k0_part20_eq_skeleton]
  unfold k0_part20_skel
  simp only [Prog.lift, Prog.bind_op, Prog.bind_ret, Prog.pure_eq_ret]
  simp only [w470, w475, l466, l468, l471, l473, ld]
  iintro HSt Hk
  iapply (wp_start m ρ (todo := [6, 15, 7, 16, 8]) (ready := []) 14 (by decide) (dev12_eq c)) $$ HSt
  iintro HSt
  simp only [List.cons_append, List.nil_append]
  iapply (wp_read m ρ 4 (by decide) (sub_slot 4 ![0, 4, 0, 0, 0, 0, 0] inb_S2x9x2x2x128x8x64_S1x1x1x1x128x8x64_0_4_0_0_0_0_0 rfl rfl)) $$ HSt
  iintro HSt
  iapply (wp_read m ρ 13 (by decide) (sub_slot 13 ![1, 4, 0, 0, 0, 0, 0] inb_S2x9x2x2x128x8x64_S1x1x1x1x128x8x64_1_4_0_0_0_0_0 rfl rfl)) $$ HSt
  iintro HSt
  iapply (wp_read m ρ 4 (by decide) (sub_slot 4 ![0, 4, 1, 0, 0, 0, 0] inb_S2x9x2x2x128x8x64_S1x1x1x1x128x8x64_0_4_1_0_0_0_0 rfl rfl)) $$ HSt
  iintro HSt
  iapply (wp_read m ρ 13 (by decide) (sub_slot 13 ![1, 4, 1, 0, 0, 0, 0] inb_S2x9x2x2x128x8x64_S1x1x1x1x128x8x64_1_4_1_0_0_0_0 rfl rfl)) $$ HSt
  iintro HSt
  rw [wp_ret]
  imodintro
  iapply Hk; iexact HSt

/-- Stretch 21 of the kernel. It loads from slots 4 and 13. -/
theorem part21 {K : Dev nD × CI → ℕ} {c : Dev nD}  {Φ : (Σ' (v481 : FVec F S8x128x1 .f32) (v490 : FVec F S8x128x1 .f32) (v495 : FVec F S8x128x64 .f32) (v500 : FVec F S256x8x64 .bf16), FVec F S128x8x64 .bf16) → sProp 𝕄} :
    St m ρ K c [6, 15, 7, 16, 8] [] [5, 14] [1, 10, 2, 11, 3, 12, 4, 13, 5, 14] [0, 1, 10, 2, 11, 3, 12, 4, 13] []
      ⊢ iprop((St m ρ K c [6, 15, 7, 16, 8] [] [5, 14] [1, 10, 2, 11, 3, 12, 4, 13, 5, 14] [0, 1, 10, 2, 11, 3, 12, 4, 13] [] -∗ Φ ⟨(w481 m ρ c), (w490 m ρ c), (w495 m ρ c), (w500 m ρ c), (w502 m ρ c)⟩)
          -∗ wp frame (wpE (defs₀ (F := F)) 𝒱₀ (c : Thread nD τ) none) Set.univ
              (k0_part21 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w84 m ρ c) (w385 m ρ c) (w394 m ρ c) (w399 m ρ c) (w470 m ρ c) (w475 m ρ c)) Φ) := by
  rw [k0_part21_eq_skeleton]
  unfold k0_part21_skel
  simp only [Prog.lift, Prog.bind_op, Prog.bind_ret, Prog.pure_eq_ret]
  simp only [w481, w490, w495, w500, w502, l496, l498, l501, ld]
  iintro HSt Hk
  iapply (wp_read m ρ 4 (by decide) (sub_slot 4 ![0, 4, 0, 1, 0, 0, 0] inb_S2x9x2x2x128x8x64_S1x1x1x1x128x8x64_0_4_0_1_0_0_0 rfl rfl)) $$ HSt
  iintro HSt
  iapply (wp_read m ρ 13 (by decide) (sub_slot 13 ![1, 4, 0, 1, 0, 0, 0] inb_S2x9x2x2x128x8x64_S1x1x1x1x128x8x64_1_4_0_1_0_0_0 rfl rfl)) $$ HSt
  iintro HSt
  iapply (wp_read m ρ 4 (by decide) (sub_slot 4 ![0, 4, 1, 1, 0, 0, 0] inb_S2x9x2x2x128x8x64_S1x1x1x1x128x8x64_0_4_1_1_0_0_0 rfl rfl)) $$ HSt
  iintro HSt
  rw [wp_ret]
  imodintro
  iapply Hk; iexact HSt

/-- Stretch 22 of the kernel. It waits for slot 5 and loads from slot 13. -/
theorem part22 {K : Dev nD × CI → ℕ} {c : Dev nD} (v21 : BitVec 32) {Φ : (Σ' (v511 : FVec F S8x128x1 .f32) (v520 : FVec F S8x128x1 .f32), FVec F S8x128x64 .f32) → sProp 𝕄} :
    St m ρ K c [6, 15, 7, 16, 8] [] [5, 14] [1, 10, 2, 11, 3, 12, 4, 13, 5, 14] [0, 1, 10, 2, 11, 3, 12, 4, 13] []
      ⊢ iprop((St m ρ K c [6, 15, 7, 16, 8] [6] [14] [1, 10, 2, 11, 3, 12, 4, 13, 5, 14] [0, 1, 10, 2, 11, 3, 12, 4, 13, 5] [] -∗ Φ ⟨(w511 m ρ c), (w520 m ρ c), (w525 m ρ c)⟩)
          -∗ wp frame (wpE (defs₀ (F := F)) 𝒱₀ (c : Thread nD τ) none) Set.univ
              (k0_part22 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 (w87 m ρ c) (w415 m ρ c) (w424 m ρ c) (w429 m ρ c) (w500 m ρ c) (w502 m ρ c)) Φ) := by
  rw [k0_part22_eq_skeleton]
  unfold k0_part22_skel
  simp only [Prog.lift, Prog.bind_op, Prog.bind_ret, Prog.pure_eq_ret]
  simp only [w511, w520, w525, l503, ld]
  iintro HSt Hk
  iapply (wp_read m ρ 13 (by decide) (sub_slot 13 ![1, 4, 1, 1, 0, 0, 0] inb_S2x9x2x2x128x8x64_S1x1x1x1x128x8x64_1_4_1_1_0_0_0 rfl rfl)) $$ HSt
  iintro HSt
  iapply (wp_recv m ρ (infl := [14]) 5 6 (by decide) rfl (by decide) rfl) $$ HSt
  iintro HSt
  simp only [List.cons_append, List.nil_append]
  rw [wp_ret]
  imodintro
  iapply Hk; iexact HSt

/-- Stretch 23 of the kernel. It waits for slot 14 and starts the copy into slot 6. -/
theorem part23 {K : Dev nD × CI → ℕ} {c : Dev nD} (v21 : BitVec 32) (v40 : BitVec 32) {Φ : PUnit → sProp 𝕄} :
    St m ρ K c [6, 15, 7, 16, 8] [6] [14] [1, 10, 2, 11, 3, 12, 4, 13, 5, 14] [0, 1, 10, 2, 11, 3, 12, 4, 13, 5] []
      ⊢ iprop((St m ρ K c [15, 7, 16, 8] [15] [6] [1, 10, 2, 11, 3, 12, 4, 13, 5, 14, 6] [0, 1, 10, 2, 11, 3, 12, 4, 13, 5, 14] [] -∗ Φ ⟨⟩)
          -∗ wp frame (wpE (defs₀ (F := F)) 𝒱₀ (c : Thread nD τ) none) Set.univ
              (k0_part23 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v21 v40) Φ) := by
  rw [k0_part23_eq_skeleton]
  unfold k0_part23_skel
  simp only [Prog.lift, Prog.bind_op, Prog.bind_ret, Prog.pure_eq_ret]
  iintro HSt Hk
  iapply (wp_recv m ρ (infl := []) 14 15 (by decide) rfl (by decide) rfl) $$ HSt
  iintro HSt
  simp only [List.cons_append, List.nil_append]
  iapply (wp_start m ρ (todo := [15, 7, 16, 8]) (ready := [15]) 6 (by decide) (dev13_eq c)) $$ HSt
  iintro HSt
  simp only [List.cons_append, List.nil_append]
  rw [wp_ret]
  imodintro
  iapply Hk; iexact HSt

/-- Stretch 24 of the kernel. It starts the copy into slot 15 and loads from slots 5 and 14. -/
theorem part24 {K : Dev nD × CI → ℕ} {c : Dev nD} (v40 : BitVec 32) {Φ : (Σ' (v566 : FVec F S256x8x64 .bf16), FVec F S128x8x64 .bf16) → sProp 𝕄} :
    St m ρ K c [15, 7, 16, 8] [15] [6] [1, 10, 2, 11, 3, 12, 4, 13, 5, 14, 6] [0, 1, 10, 2, 11, 3, 12, 4, 13, 5, 14] []
      ⊢ iprop((St m ρ K c [7, 16, 8] [] [6, 15] [1, 10, 2, 11, 3, 12, 4, 13, 5, 14, 6, 15] [0, 1, 10, 2, 11, 3, 12, 4, 13, 5, 14] [] -∗ Φ ⟨(w566 m ρ c), (w568 m ρ c)⟩)
          -∗ wp frame (wpE (defs₀ (F := F)) 𝒱₀ (c : Thread nD τ) none) Set.univ
              (k0_part24 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v40) Φ) := by
  rw [k0_part24_eq_skeleton]
  unfold k0_part24_skel
  simp only [Prog.lift, Prog.bind_op, Prog.bind_ret, Prog.pure_eq_ret]
  simp only [w566, w568, l562, l564, l567, ld]
  iintro HSt Hk
  iapply (wp_start m ρ (todo := [7, 16, 8]) (ready := []) 15 (by decide) (dev14_eq c)) $$ HSt
  iintro HSt
  simp only [List.cons_append, List.nil_append]
  iapply (wp_read m ρ 5 (by decide) (sub_slot 5 ![0, 5, 0, 0, 0, 0, 0] inb_S2x9x2x2x128x8x64_S1x1x1x1x128x8x64_0_5_0_0_0_0_0 rfl rfl)) $$ HSt
  iintro HSt
  iapply (wp_read m ρ 14 (by decide) (sub_slot 14 ![1, 5, 0, 0, 0, 0, 0] inb_S2x9x2x2x128x8x64_S1x1x1x1x128x8x64_1_5_0_0_0_0_0 rfl rfl)) $$ HSt
  iintro HSt
  iapply (wp_read m ρ 5 (by decide) (sub_slot 5 ![0, 5, 1, 0, 0, 0, 0] inb_S2x9x2x2x128x8x64_S1x1x1x1x128x8x64_0_5_1_0_0_0_0 rfl rfl)) $$ HSt
  iintro HSt
  rw [wp_ret]
  imodintro
  iapply Hk; iexact HSt

/-- Stretch 25 of the kernel. It loads from slots 14 and 5. -/
theorem part25 {K : Dev nD × CI → ℕ} {c : Dev nD}  {Φ : (Σ' (v577 : FVec F S8x128x1 .f32) (v586 : FVec F S8x128x1 .f32) (v591 : FVec F S8x128x64 .f32) (v596 : FVec F S256x8x64 .bf16), FVec F S128x8x64 .bf16) → sProp 𝕄} :
    St m ρ K c [7, 16, 8] [] [6, 15] [1, 10, 2, 11, 3, 12, 4, 13, 5, 14, 6, 15] [0, 1, 10, 2, 11, 3, 12, 4, 13, 5, 14] []
      ⊢ iprop((St m ρ K c [7, 16, 8] [] [6, 15] [1, 10, 2, 11, 3, 12, 4, 13, 5, 14, 6, 15] [0, 1, 10, 2, 11, 3, 12, 4, 13, 5, 14] [] -∗ Φ ⟨(w577 m ρ c), (w586 m ρ c), (w591 m ρ c), (w596 m ρ c), (w598 m ρ c)⟩)
          -∗ wp frame (wpE (defs₀ (F := F)) 𝒱₀ (c : Thread nD τ) none) Set.univ
              (k0_part25 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w84 m ρ c) (w481 m ρ c) (w490 m ρ c) (w495 m ρ c) (w566 m ρ c) (w568 m ρ c)) Φ) := by
  rw [k0_part25_eq_skeleton]
  unfold k0_part25_skel
  simp only [Prog.lift, Prog.bind_op, Prog.bind_ret, Prog.pure_eq_ret]
  simp only [w577, w586, w591, w596, w598, l569, l592, l594, l597, ld]
  iintro HSt Hk
  iapply (wp_read m ρ 14 (by decide) (sub_slot 14 ![1, 5, 1, 0, 0, 0, 0] inb_S2x9x2x2x128x8x64_S1x1x1x1x128x8x64_1_5_1_0_0_0_0 rfl rfl)) $$ HSt
  iintro HSt
  iapply (wp_read m ρ 5 (by decide) (sub_slot 5 ![0, 5, 0, 1, 0, 0, 0] inb_S2x9x2x2x128x8x64_S1x1x1x1x128x8x64_0_5_0_1_0_0_0 rfl rfl)) $$ HSt
  iintro HSt
  iapply (wp_read m ρ 14 (by decide) (sub_slot 14 ![1, 5, 0, 1, 0, 0, 0] inb_S2x9x2x2x128x8x64_S1x1x1x1x128x8x64_1_5_0_1_0_0_0 rfl rfl)) $$ HSt
  iintro HSt
  iapply (wp_read m ρ 5 (by decide) (sub_slot 5 ![0, 5, 1, 1, 0, 0, 0] inb_S2x9x2x2x128x8x64_S1x1x1x1x128x8x64_0_5_1_1_0_0_0 rfl rfl)) $$ HSt
  iintro HSt
  rw [wp_ret]
  imodintro
  iapply Hk; iexact HSt

/-- Stretch 26 of the kernel. It loads from slot 14. -/
theorem part26 {K : Dev nD × CI → ℕ} {c : Dev nD} (v21 : BitVec 32) {Φ : (Σ' (v607 : FVec F S8x128x1 .f32) (v616 : FVec F S8x128x1 .f32), FVec F S8x128x64 .f32) → sProp 𝕄} :
    St m ρ K c [7, 16, 8] [] [6, 15] [1, 10, 2, 11, 3, 12, 4, 13, 5, 14, 6, 15] [0, 1, 10, 2, 11, 3, 12, 4, 13, 5, 14] []
      ⊢ iprop((St m ρ K c [7, 16, 8] [] [6, 15] [1, 10, 2, 11, 3, 12, 4, 13, 5, 14, 6, 15] [0, 1, 10, 2, 11, 3, 12, 4, 13, 5, 14] [] -∗ Φ ⟨(w607 m ρ c), (w616 m ρ c), (w621 m ρ c)⟩)
          -∗ wp frame (wpE (defs₀ (F := F)) 𝒱₀ (c : Thread nD τ) none) Set.univ
              (k0_part26 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 (w87 m ρ c) (w511 m ρ c) (w520 m ρ c) (w525 m ρ c) (w596 m ρ c) (w598 m ρ c)) Φ) := by
  rw [k0_part26_eq_skeleton]
  unfold k0_part26_skel
  simp only [Prog.lift, Prog.bind_op, Prog.bind_ret, Prog.pure_eq_ret]
  simp only [w607, w616, w621, l599, ld]
  iintro HSt Hk
  iapply (wp_read m ρ 14 (by decide) (sub_slot 14 ![1, 5, 1, 1, 0, 0, 0] inb_S2x9x2x2x128x8x64_S1x1x1x1x128x8x64_1_5_1_1_0_0_0 rfl rfl)) $$ HSt
  iintro HSt
  rw [wp_ret]
  imodintro
  iapply Hk; iexact HSt

/-- Stretch 27 of the kernel. It waits for slots 6 and 15. -/
theorem part27 {K : Dev nD × CI → ℕ} {c : Dev nD} (v21 : BitVec 32) (v40 : BitVec 32) {Φ : PUnit → sProp 𝕄} :
    St m ρ K c [7, 16, 8] [] [6, 15] [1, 10, 2, 11, 3, 12, 4, 13, 5, 14, 6, 15] [0, 1, 10, 2, 11, 3, 12, 4, 13, 5, 14] []
      ⊢ iprop((St m ρ K c [7, 16, 8] [7, 16] [] [1, 10, 2, 11, 3, 12, 4, 13, 5, 14, 6, 15] [0, 1, 10, 2, 11, 3, 12, 4, 13, 5, 14, 6, 15] [] -∗ Φ ⟨⟩)
          -∗ wp frame (wpE (defs₀ (F := F)) 𝒱₀ (c : Thread nD τ) none) Set.univ
              (k0_part27 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 v40) Φ) := by
  rw [k0_part27_eq_skeleton]
  unfold k0_part27_skel
  simp only [Prog.lift, Prog.bind_op, Prog.bind_ret, Prog.pure_eq_ret]
  iintro HSt Hk
  iapply (wp_recv m ρ (infl := [15]) 6 7 (by decide) rfl (by decide) rfl) $$ HSt
  iintro HSt
  simp only [List.cons_append, List.nil_append]
  iapply (wp_recv m ρ (infl := []) 15 16 (by decide) rfl (by decide) rfl) $$ HSt
  iintro HSt
  simp only [List.cons_append, List.nil_append]
  rw [wp_ret]
  imodintro
  iapply Hk; iexact HSt

/-- Stretch 28 of the kernel. It starts the copies into slots 7 and 16 and loads from slots 6 and 15. -/
theorem part28 {K : Dev nD × CI → ℕ} {c : Dev nD} (v40 : BitVec 32) {Φ : (FVec F S256x8x64 .bf16) → sProp 𝕄} :
    St m ρ K c [7, 16, 8] [7, 16] [] [1, 10, 2, 11, 3, 12, 4, 13, 5, 14, 6, 15] [0, 1, 10, 2, 11, 3, 12, 4, 13, 5, 14, 6, 15] []
      ⊢ iprop((St m ρ K c [8] [] [7, 16] [1, 10, 2, 11, 3, 12, 4, 13, 5, 14, 6, 15, 7, 16] [0, 1, 10, 2, 11, 3, 12, 4, 13, 5, 14, 6, 15] [] -∗ Φ (w662 m ρ c))
          -∗ wp frame (wpE (defs₀ (F := F)) 𝒱₀ (c : Thread nD τ) none) Set.univ
              (k0_part28 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v40) Φ) := by
  rw [k0_part28_eq_skeleton]
  unfold k0_part28_skel
  simp only [Prog.lift, Prog.bind_op, Prog.bind_ret, Prog.pure_eq_ret]
  simp only [w662, l658, l660, ld]
  iintro HSt Hk
  iapply (wp_start m ρ (todo := [16, 8]) (ready := [16]) 7 (by decide) (dev15_eq c)) $$ HSt
  iintro HSt
  simp only [List.cons_append, List.nil_append]
  iapply (wp_start m ρ (todo := [8]) (ready := []) 16 (by decide) (dev16_eq c)) $$ HSt
  iintro HSt
  simp only [List.cons_append, List.nil_append]
  iapply (wp_read m ρ 6 (by decide) (sub_slot 6 ![0, 6, 0, 0, 0, 0, 0] inb_S2x9x2x2x128x8x64_S1x1x1x1x128x8x64_0_6_0_0_0_0_0 rfl rfl)) $$ HSt
  iintro HSt
  iapply (wp_read m ρ 15 (by decide) (sub_slot 15 ![1, 6, 0, 0, 0, 0, 0] inb_S2x9x2x2x128x8x64_S1x1x1x1x128x8x64_1_6_0_0_0_0_0 rfl rfl)) $$ HSt
  iintro HSt
  rw [wp_ret]
  imodintro
  iapply Hk; iexact HSt

/-- Stretch 29 of the kernel. It loads from slots 6 and 15. -/
theorem part29 {K : Dev nD × CI → ℕ} {c : Dev nD}  {Φ : (Σ' (v673 : FVec F S8x128x1 .f32) (v682 : FVec F S8x128x1 .f32) (v687 : FVec F S8x128x64 .f32), FVec F S256x8x64 .bf16) → sProp 𝕄} :
    St m ρ K c [8] [] [7, 16] [1, 10, 2, 11, 3, 12, 4, 13, 5, 14, 6, 15, 7, 16] [0, 1, 10, 2, 11, 3, 12, 4, 13, 5, 14, 6, 15] []
      ⊢ iprop((St m ρ K c [8] [] [7, 16] [1, 10, 2, 11, 3, 12, 4, 13, 5, 14, 6, 15, 7, 16] [0, 1, 10, 2, 11, 3, 12, 4, 13, 5, 14, 6, 15] [] -∗ Φ ⟨(w673 m ρ c), (w682 m ρ c), (w687 m ρ c), (w692 m ρ c)⟩)
          -∗ wp frame (wpE (defs₀ (F := F)) 𝒱₀ (c : Thread nD τ) none) Set.univ
              (k0_part29 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w84 m ρ c) (w577 m ρ c) (w586 m ρ c) (w591 m ρ c) (w662 m ρ c)) Φ) := by
  rw [k0_part29_eq_skeleton]
  unfold k0_part29_skel
  simp only [Prog.lift, Prog.bind_op, Prog.bind_ret, Prog.pure_eq_ret]
  simp only [w673, w682, w687, w692, l663, l665, l688, l690, ld]
  iintro HSt Hk
  iapply (wp_read m ρ 6 (by decide) (sub_slot 6 ![0, 6, 1, 0, 0, 0, 0] inb_S2x9x2x2x128x8x64_S1x1x1x1x128x8x64_0_6_1_0_0_0_0 rfl rfl)) $$ HSt
  iintro HSt
  iapply (wp_read m ρ 15 (by decide) (sub_slot 15 ![1, 6, 1, 0, 0, 0, 0] inb_S2x9x2x2x128x8x64_S1x1x1x1x128x8x64_1_6_1_0_0_0_0 rfl rfl)) $$ HSt
  iintro HSt
  iapply (wp_read m ρ 6 (by decide) (sub_slot 6 ![0, 6, 0, 1, 0, 0, 0] inb_S2x9x2x2x128x8x64_S1x1x1x1x128x8x64_0_6_0_1_0_0_0 rfl rfl)) $$ HSt
  iintro HSt
  iapply (wp_read m ρ 15 (by decide) (sub_slot 15 ![1, 6, 0, 1, 0, 0, 0] inb_S2x9x2x2x128x8x64_S1x1x1x1x128x8x64_1_6_0_1_0_0_0 rfl rfl)) $$ HSt
  iintro HSt
  rw [wp_ret]
  imodintro
  iapply Hk; iexact HSt

/-- Stretch 30 of the kernel. It loads from slots 6 and 15. -/
theorem part30 {K : Dev nD × CI → ℕ} {c : Dev nD} (v21 : BitVec 32) {Φ : (Σ' (v703 : FVec F S8x128x1 .f32) (v712 : FVec F S8x128x1 .f32), FVec F S8x128x64 .f32) → sProp 𝕄} :
    St m ρ K c [8] [] [7, 16] [1, 10, 2, 11, 3, 12, 4, 13, 5, 14, 6, 15, 7, 16] [0, 1, 10, 2, 11, 3, 12, 4, 13, 5, 14, 6, 15] []
      ⊢ iprop((St m ρ K c [8] [] [7, 16] [1, 10, 2, 11, 3, 12, 4, 13, 5, 14, 6, 15, 7, 16] [0, 1, 10, 2, 11, 3, 12, 4, 13, 5, 14, 6, 15] [] -∗ Φ ⟨(w703 m ρ c), (w712 m ρ c), (w717 m ρ c)⟩)
          -∗ wp frame (wpE (defs₀ (F := F)) 𝒱₀ (c : Thread nD τ) none) Set.univ
              (k0_part30 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 (w87 m ρ c) (w607 m ρ c) (w616 m ρ c) (w621 m ρ c) (w692 m ρ c)) Φ) := by
  rw [k0_part30_eq_skeleton]
  unfold k0_part30_skel
  simp only [Prog.lift, Prog.bind_op, Prog.bind_ret, Prog.pure_eq_ret]
  simp only [w703, w712, w717, l693, l695, ld]
  iintro HSt Hk
  iapply (wp_read m ρ 6 (by decide) (sub_slot 6 ![0, 6, 1, 1, 0, 0, 0] inb_S2x9x2x2x128x8x64_S1x1x1x1x128x8x64_0_6_1_1_0_0_0 rfl rfl)) $$ HSt
  iintro HSt
  iapply (wp_read m ρ 15 (by decide) (sub_slot 15 ![1, 6, 1, 1, 0, 0, 0] inb_S2x9x2x2x128x8x64_S1x1x1x1x128x8x64_1_6_1_1_0_0_0 rfl rfl)) $$ HSt
  iintro HSt
  rw [wp_ret]
  imodintro
  iapply Hk; iexact HSt

/-- Stretch 31 of the kernel. It waits for slots 7 and 16. -/
theorem part31 {K : Dev nD × CI → ℕ} {c : Dev nD} (v21 : BitVec 32) (v40 : BitVec 32) {Φ : PUnit → sProp 𝕄} :
    St m ρ K c [8] [] [7, 16] [1, 10, 2, 11, 3, 12, 4, 13, 5, 14, 6, 15, 7, 16] [0, 1, 10, 2, 11, 3, 12, 4, 13, 5, 14, 6, 15] []
      ⊢ iprop((St m ρ K c [8] [8, 17] [] [1, 10, 2, 11, 3, 12, 4, 13, 5, 14, 6, 15, 7, 16] [0, 1, 10, 2, 11, 3, 12, 4, 13, 5, 14, 6, 15, 7, 16] [] -∗ Φ ⟨⟩)
          -∗ wp frame (wpE (defs₀ (F := F)) 𝒱₀ (c : Thread nD τ) none) Set.univ
              (k0_part31 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 v40) Φ) := by
  rw [k0_part31_eq_skeleton]
  unfold k0_part31_skel
  simp only [Prog.lift, Prog.bind_op, Prog.bind_ret, Prog.pure_eq_ret]
  iintro HSt Hk
  iapply (wp_recv m ρ (infl := [16]) 7 8 (by decide) rfl (by decide) rfl) $$ HSt
  iintro HSt
  simp only [List.cons_append, List.nil_append]
  iapply (wp_recv m ρ (infl := []) 16 17 (by decide) rfl (by decide) rfl) $$ HSt
  iintro HSt
  simp only [List.cons_append, List.nil_append]
  rw [wp_ret]
  imodintro
  iapply Hk; iexact HSt

/-- Stretch 32 of the kernel. It starts the copy into slot 8 and loads from slots 7 and 16. -/
theorem part32 {K : Dev nD × CI → ℕ} {c : Dev nD}  {Φ : (Σ' (v753 : FVec F S256x8x64 .bf16) (v759 : FVec F S8x128x1 .f32) (v761 : FVec F S8x128x1 .f32), FVec F S8x128x256 .f32) → sProp 𝕄} :
    St m ρ K c [8] [8, 17] [] [1, 10, 2, 11, 3, 12, 4, 13, 5, 14, 6, 15, 7, 16] [0, 1, 10, 2, 11, 3, 12, 4, 13, 5, 14, 6, 15, 7, 16] []
      ⊢ iprop((St m ρ K c [] [17] [8] [1, 10, 2, 11, 3, 12, 4, 13, 5, 14, 6, 15, 7, 16, 8] [0, 1, 10, 2, 11, 3, 12, 4, 13, 5, 14, 6, 15, 7, 16] [] -∗ Φ ⟨(w753 m ρ c), (w759 m ρ c), (w761 m ρ c), (w763 m ρ c)⟩)
          -∗ wp frame (wpE (defs₀ (F := F)) 𝒱₀ (c : Thread nD τ) none) Set.univ
              (k0_part32 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c (w84 m ρ c) (w673 m ρ c)) Φ) := by
  rw [k0_part32_eq_skeleton]
  unfold k0_part32_skel
  simp only [Prog.lift, Prog.bind_op, Prog.bind_ret, Prog.pure_eq_ret]
  simp only [w753, w759, w761, w763, l744, l746, l749, l751, ld]
  iintro HSt Hk
  iapply (wp_start m ρ (todo := []) (ready := [17]) 8 (by decide) (dev17_eq c)) $$ HSt
  iintro HSt
  simp only [List.cons_append, List.nil_append]
  iapply (wp_read m ρ 7 (by decide) (sub_slot 7 ![0, 7, 0, 0, 0, 0, 0] inb_S2x9x2x2x128x8x64_S1x1x1x1x128x8x64_0_7_0_0_0_0_0 rfl rfl)) $$ HSt
  iintro HSt
  iapply (wp_read m ρ 16 (by decide) (sub_slot 16 ![1, 7, 0, 0, 0, 0, 0] inb_S2x9x2x2x128x8x64_S1x1x1x1x128x8x64_1_7_0_0_0_0_0 rfl rfl)) $$ HSt
  iintro HSt
  iapply (wp_read m ρ 7 (by decide) (sub_slot 7 ![0, 7, 1, 0, 0, 0, 0] inb_S2x9x2x2x128x8x64_S1x1x1x1x128x8x64_0_7_1_0_0_0_0 rfl rfl)) $$ HSt
  iintro HSt
  iapply (wp_read m ρ 16 (by decide) (sub_slot 16 ![1, 7, 1, 0, 0, 0, 0] inb_S2x9x2x2x128x8x64_S1x1x1x1x128x8x64_1_7_1_0_0_0_0 rfl rfl)) $$ HSt
  iintro HSt
  rw [wp_ret]
  imodintro
  iapply Hk; iexact HSt

/-- Stretch 33 of the kernel. It loads from slots 7 and 16. -/
theorem part33 {K : Dev nD × CI → ℕ} {c : Dev nD}  {Φ : (Σ' (v768 : FVec F S8x128x1 .f32) (v773 : FVec F S8x128x64 .f32) (v783 : FVec F S256x8x64 .bf16) (v786 : FVec F S8x128x256 .f32) (v789 : FVec F S8x128x1 .f32), FVec F S8x128x1 .f32) → sProp 𝕄} :
    St m ρ K c [] [17] [8] [1, 10, 2, 11, 3, 12, 4, 13, 5, 14, 6, 15, 7, 16, 8] [0, 1, 10, 2, 11, 3, 12, 4, 13, 5, 14, 6, 15, 7, 16] []
      ⊢ iprop((St m ρ K c [] [17] [8] [1, 10, 2, 11, 3, 12, 4, 13, 5, 14, 6, 15, 7, 16, 8] [0, 1, 10, 2, 11, 3, 12, 4, 13, 5, 14, 6, 15, 7, 16] [] -∗ Φ ⟨(w768 m ρ c), (w773 m ρ c), (w783 m ρ c), (w786 m ρ c), (w789 m ρ c), (w790 m ρ c)⟩)
          -∗ wp frame (wpE (defs₀ (F := F)) 𝒱₀ (c : Thread nD τ) none) Set.univ
              (k0_part33 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w87 m ρ c) (w682 m ρ c) (w687 m ρ c) (w703 m ρ c) (w753 m ρ c) (w761 m ρ c) (w763 m ρ c)) Φ) := by
  rw [k0_part33_eq_skeleton]
  unfold k0_part33_skel
  simp only [Prog.lift, Prog.bind_op, Prog.bind_ret, Prog.pure_eq_ret]
  simp only [w768, w773, w783, w786, w789, w790, l774, l776, l779, l781, ld]
  iintro HSt Hk
  iapply (wp_read m ρ 7 (by decide) (sub_slot 7 ![0, 7, 0, 1, 0, 0, 0] inb_S2x9x2x2x128x8x64_S1x1x1x1x128x8x64_0_7_0_1_0_0_0 rfl rfl)) $$ HSt
  iintro HSt
  iapply (wp_read m ρ 16 (by decide) (sub_slot 16 ![1, 7, 0, 1, 0, 0, 0] inb_S2x9x2x2x128x8x64_S1x1x1x1x128x8x64_1_7_0_1_0_0_0 rfl rfl)) $$ HSt
  iintro HSt
  iapply (wp_read m ρ 7 (by decide) (sub_slot 7 ![0, 7, 1, 1, 0, 0, 0] inb_S2x9x2x2x128x8x64_S1x1x1x1x128x8x64_0_7_1_1_0_0_0 rfl rfl)) $$ HSt
  iintro HSt
  iapply (wp_read m ρ 16 (by decide) (sub_slot 16 ![1, 7, 1, 1, 0, 0, 0] inb_S2x9x2x2x128x8x64_S1x1x1x1x128x8x64_1_7_1_1_0_0_0 rfl rfl)) $$ HSt
  iintro HSt
  rw [wp_ret]
  imodintro
  iapply Hk; iexact HSt

/-- Stretch 34 of the kernel. It waits for slot 8 and loads from slot 8. -/
theorem part34 {K : Dev nD × CI → ℕ} {c : Dev nD} (v21 : BitVec 32) {Φ : (Σ' (v798 : FVec F S8x128x1 .f32) (v803 : FVec F S8x128x64 .f32), FVec F S128x8x64 .bf16) → sProp 𝕄} :
    St m ρ K c [] [17] [8] [1, 10, 2, 11, 3, 12, 4, 13, 5, 14, 6, 15, 7, 16, 8] [0, 1, 10, 2, 11, 3, 12, 4, 13, 5, 14, 6, 15, 7, 16] []
      ⊢ iprop((St m ρ K c [] [17, 9] [] [1, 10, 2, 11, 3, 12, 4, 13, 5, 14, 6, 15, 7, 16, 8] [0, 1, 10, 2, 11, 3, 12, 4, 13, 5, 14, 6, 15, 7, 16, 8] [] -∗ Φ ⟨(w798 m ρ c), (w803 m ρ c), (w813 m ρ c)⟩)
          -∗ wp frame (wpE (defs₀ (F := F)) 𝒱₀ (c : Thread nD τ) none) Set.univ
              (k0_part34 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 v21 (w712 m ρ c) (w717 m ρ c) (w783 m ρ c) (w786 m ρ c) (w789 m ρ c) (w790 m ρ c)) Φ) := by
  rw [k0_part34_eq_skeleton]
  unfold k0_part34_skel
  simp only [Prog.lift, Prog.bind_op, Prog.bind_ret, Prog.pure_eq_ret]
  simp only [w798, w803, w813, l812, ld]
  iintro HSt Hk
  iapply (wp_recv m ρ (infl := []) 8 9 (by decide) rfl (by decide) rfl) $$ HSt
  iintro HSt
  simp only [List.cons_append, List.nil_append]
  iapply (wp_read m ρ 8 (by decide) (sub_slot 8 ![0, 8, 0, 0, 0, 0, 0] inb_S2x9x2x2x128x8x64_S1x1x1x1x128x8x64_0_8_0_0_0_0_0 rfl rfl)) $$ HSt
  iintro HSt
  rw [wp_ret]
  imodintro
  iapply Hk; iexact HSt

/-- Stretch 35 of the kernel. It loads from slot 8. -/
theorem part35 {K : Dev nD × CI → ℕ} {c : Dev nD}  {Φ : (Σ' (v830 : FVec F S8x128x1 .f32) (v835 : FVec F S8x128x64 .f32) (v839 : FVec F S128x8x64 .bf16) (v847 : FVec F S8x128x1 .f32) (v850 : FVec F S8x128x128 .f32), FVec F S8x128x1 .f32) → sProp 𝕄} :
    St m ρ K c [] [17, 9] [] [1, 10, 2, 11, 3, 12, 4, 13, 5, 14, 6, 15, 7, 16, 8] [0, 1, 10, 2, 11, 3, 12, 4, 13, 5, 14, 6, 15, 7, 16, 8] []
      ⊢ iprop((St m ρ K c [] [17, 9] [] [1, 10, 2, 11, 3, 12, 4, 13, 5, 14, 6, 15, 7, 16, 8] [0, 1, 10, 2, 11, 3, 12, 4, 13, 5, 14, 6, 15, 7, 16, 8] [] -∗ Φ ⟨(w830 m ρ c), (w835 m ρ c), (w839 m ρ c), (w847 m ρ c), (w850 m ρ c), (w851 m ρ c)⟩)
          -∗ wp frame (wpE (defs₀ (F := F)) 𝒱₀ (c : Thread nD τ) none) Set.univ
              (k0_part35 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w84 m ρ c) (w87 m ρ c) (w759 m ρ c) (w768 m ρ c) (w773 m ρ c) (w789 m ρ c) (w798 m ρ c) (w813 m ρ c)) Φ) := by
  rw [k0_part35_eq_skeleton]
  unfold k0_part35_skel
  simp only [Prog.lift, Prog.bind_op, Prog.bind_ret, Prog.pure_eq_ret]
  simp only [w830, w835, w839, w847, w850, w851, l814, l836, l838, ld]
  iintro HSt Hk
  iapply (wp_read m ρ 8 (by decide) (sub_slot 8 ![0, 8, 1, 0, 0, 0, 0] inb_S2x9x2x2x128x8x64_S1x1x1x1x128x8x64_0_8_1_0_0_0_0 rfl rfl)) $$ HSt
  iintro HSt
  iapply (wp_read m ρ 8 (by decide) (sub_slot 8 ![0, 8, 0, 1, 0, 0, 0] inb_S2x9x2x2x128x8x64_S1x1x1x1x128x8x64_0_8_0_1_0_0_0 rfl rfl)) $$ HSt
  iintro HSt
  iapply (wp_read m ρ 8 (by decide) (sub_slot 8 ![0, 8, 1, 1, 0, 0, 0] inb_S2x9x2x2x128x8x64_S1x1x1x1x128x8x64_0_8_1_1_0_0_0 rfl rfl)) $$ HSt
  iintro HSt
  rw [wp_ret]
  imodintro
  iapply Hk; iexact HSt

end Cert.KernelIdealProof

end
-- ==== Proof.KernelIdeal.PartsC.lean ====
/-
# The stretches of the kernel, one rule each

A stretch takes the device's state before it to the state after it, and passes on the named values.
-/
module

public import proofs.«01_k».proof.Proof.KernelIdeal.Dev

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Stretch 37 of the kernel. It waits until the copies into slots 1, 10 and 2 have left. -/
theorem part37 {K : Dev nD × CI → ℕ} {c : Dev nD}  {Φ : PUnit → sProp 𝕄} :
    St m ρ K c [] [17, 9] [] [1, 10, 2, 11, 3, 12, 4, 13, 5, 14, 6, 15, 7, 16, 8] [0, 1, 10, 2, 11, 3, 12, 4, 13, 5, 14, 6, 15, 7, 16, 8] []
      ⊢ iprop((St m ρ K c [] [17, 9] [] [11, 3, 12, 4, 13, 5, 14, 6, 15, 7, 16, 8] [0, 1, 10, 2, 11, 3, 12, 4, 13, 5, 14, 6, 15, 7, 16, 8] [1, 10, 2] -∗ Φ ⟨⟩)
          -∗ wp frame (wpE (defs₀ (F := F)) 𝒱₀ (c : Thread nD τ) none) Set.univ
              (k0_part37 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 ) Φ) := by
  rw [k0_part37_eq_skeleton]
  unfold k0_part37_skel
  simp only [Prog.lift, Prog.bind_op, Prog.bind_ret, Prog.pure_eq_ret]
  iintro HSt Hk
  iapply (wp_sent m ρ (out := [10, 2, 11, 3, 12, 4, 13, 5, 14, 6, 15, 7, 16, 8]) 1 (by decide) 0 rfl) $$ HSt
  iintro HSt
  iapply (wp_sent m ρ (out := [2, 11, 3, 12, 4, 13, 5, 14, 6, 15, 7, 16, 8]) 10 (by decide) 0 rfl) $$ HSt
  iintro HSt
  iapply (wp_sent m ρ (out := [11, 3, 12, 4, 13, 5, 14, 6, 15, 7, 16, 8]) 2 (by decide) 1 rfl) $$ HSt
  iintro HSt
  rw [wp_ret]
  imodintro
  iapply Hk; iexact HSt

/-- Stretch 38 of the kernel. It waits until the copies into slots 11 and 3 have left. -/
theorem part38 {K : Dev nD × CI → ℕ} {c : Dev nD}  {Φ : PUnit → sProp 𝕄} :
    St m ρ K c [] [17, 9] [] [11, 3, 12, 4, 13, 5, 14, 6, 15, 7, 16, 8] [0, 1, 10, 2, 11, 3, 12, 4, 13, 5, 14, 6, 15, 7, 16, 8] [1, 10, 2]
      ⊢ iprop((St m ρ K c [] [17, 9] [] [12, 4, 13, 5, 14, 6, 15, 7, 16, 8] [0, 1, 10, 2, 11, 3, 12, 4, 13, 5, 14, 6, 15, 7, 16, 8] [1, 10, 2, 11, 3] -∗ Φ ⟨⟩)
          -∗ wp frame (wpE (defs₀ (F := F)) 𝒱₀ (c : Thread nD τ) none) Set.univ
              (k0_part38 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 ) Φ) := by
  rw [k0_part38_eq_skeleton]
  unfold k0_part38_skel
  simp only [Prog.lift, Prog.bind_op, Prog.bind_ret, Prog.pure_eq_ret]
  iintro HSt Hk
  iapply (wp_sent m ρ (out := [3, 12, 4, 13, 5, 14, 6, 15, 7, 16, 8]) 11 (by decide) 10 rfl) $$ HSt
  iintro HSt
  iapply (wp_sent m ρ (out := [12, 4, 13, 5, 14, 6, 15, 7, 16, 8]) 3 (by decide) 2 rfl) $$ HSt
  iintro HSt
  rw [wp_ret]
  imodintro
  iapply Hk; iexact HSt

/-- Stretch 39 of the kernel. It waits until the copies into slots 12 and 4 have left. -/
theorem part39 {K : Dev nD × CI → ℕ} {c : Dev nD}  {Φ : PUnit → sProp 𝕄} :
    St m ρ K c [] [17, 9] [] [12, 4, 13, 5, 14, 6, 15, 7, 16, 8] [0, 1, 10, 2, 11, 3, 12, 4, 13, 5, 14, 6, 15, 7, 16, 8] [1, 10, 2, 11, 3]
      ⊢ iprop((St m ρ K c [] [17, 9] [] [13, 5, 14, 6, 15, 7, 16, 8] [0, 1, 10, 2, 11, 3, 12, 4, 13, 5, 14, 6, 15, 7, 16, 8] [1, 10, 2, 11, 3, 12, 4] -∗ Φ ⟨⟩)
          -∗ wp frame (wpE (defs₀ (F := F)) 𝒱₀ (c : Thread nD τ) none) Set.univ
              (k0_part39 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 ) Φ) := by
  rw [k0_part39_eq_skeleton]
  unfold k0_part39_skel
  simp only [Prog.lift, Prog.bind_op, Prog.bind_ret, Prog.pure_eq_ret]
  iintro HSt Hk
  iapply (wp_sent m ρ (out := [4, 13, 5, 14, 6, 15, 7, 16, 8]) 12 (by decide) 11 rfl) $$ HSt
  iintro HSt
  iapply (wp_sent m ρ (out := [13, 5, 14, 6, 15, 7, 16, 8]) 4 (by decide) 3 rfl) $$ HSt
  iintro HSt
  rw [wp_ret]
  imodintro
  iapply Hk; iexact HSt

/-- Stretch 40 of the kernel. It waits until the copies into slots 13 and 5 have left. -/
theorem part40 {K : Dev nD × CI → ℕ} {c : Dev nD}  {Φ : PUnit → sProp 𝕄} :
    St m ρ K c [] [17, 9] [] [13, 5, 14, 6, 15, 7, 16, 8] [0, 1, 10, 2, 11, 3, 12, 4, 13, 5, 14, 6, 15, 7, 16, 8] [1, 10, 2, 11, 3, 12, 4]
      ⊢ iprop((St m ρ K c [] [17, 9] [] [14, 6, 15, 7, 16, 8] [0, 1, 10, 2, 11, 3, 12, 4, 13, 5, 14, 6, 15, 7, 16, 8] [1, 10, 2, 11, 3, 12, 4, 13, 5] -∗ Φ ⟨⟩)
          -∗ wp frame (wpE (defs₀ (F := F)) 𝒱₀ (c : Thread nD τ) none) Set.univ
              (k0_part40 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 ) Φ) := by
  rw [k0_part40_eq_skeleton]
  unfold k0_part40_skel
  simp only [Prog.lift, Prog.bind_op, Prog.bind_ret, Prog.pure_eq_ret]
  iintro HSt Hk
  iapply (wp_sent m ρ (out := [5, 14, 6, 15, 7, 16, 8]) 13 (by decide) 12 rfl) $$ HSt
  iintro HSt
  iapply (wp_sent m ρ (out := [14, 6, 15, 7, 16, 8]) 5 (by decide) 4 rfl) $$ HSt
  iintro HSt
  rw [wp_ret]
  imodintro
  iapply Hk; iexact HSt

/-- Stretch 41 of the kernel. It waits until the copies into slots 14, 6 and 15 have left. -/
theorem part41 {K : Dev nD × CI → ℕ} {c : Dev nD}  {Φ : PUnit → sProp 𝕄} :
    St m ρ K c [] [17, 9] [] [14, 6, 15, 7, 16, 8] [0, 1, 10, 2, 11, 3, 12, 4, 13, 5, 14, 6, 15, 7, 16, 8] [1, 10, 2, 11, 3, 12, 4, 13, 5]
      ⊢ iprop((St m ρ K c [] [17, 9] [] [7, 16, 8] [0, 1, 10, 2, 11, 3, 12, 4, 13, 5, 14, 6, 15, 7, 16, 8] [1, 10, 2, 11, 3, 12, 4, 13, 5, 14, 6, 15] -∗ Φ ⟨⟩)
          -∗ wp frame (wpE (defs₀ (F := F)) 𝒱₀ (c : Thread nD τ) none) Set.univ
              (k0_part41 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 ) Φ) := by
  rw [k0_part41_eq_skeleton]
  unfold k0_part41_skel
  simp only [Prog.lift, Prog.bind_op, Prog.bind_ret, Prog.pure_eq_ret]
  iintro HSt Hk
  iapply (wp_sent m ρ (out := [6, 15, 7, 16, 8]) 14 (by decide) 13 rfl) $$ HSt
  iintro HSt
  iapply (wp_sent m ρ (out := [15, 7, 16, 8]) 6 (by decide) 5 rfl) $$ HSt
  iintro HSt
  iapply (wp_sent m ρ (out := [7, 16, 8]) 15 (by decide) 14 rfl) $$ HSt
  iintro HSt
  rw [wp_ret]
  imodintro
  iapply Hk; iexact HSt

/-- Stretch 42 of the kernel. It waits until the copies into slots 7 and 16 have left. -/
theorem part42 {K : Dev nD × CI → ℕ} {c : Dev nD}  {Φ : PUnit → sProp 𝕄} :
    St m ρ K c [] [17, 9] [] [7, 16, 8] [0, 1, 10, 2, 11, 3, 12, 4, 13, 5, 14, 6, 15, 7, 16, 8] [1, 10, 2, 11, 3, 12, 4, 13, 5, 14, 6, 15]
      ⊢ iprop((St m ρ K c [] [17, 9] [] [8] [0, 1, 10, 2, 11, 3, 12, 4, 13, 5, 14, 6, 15, 7, 16, 8] [1, 10, 2, 11, 3, 12, 4, 13, 5, 14, 6, 15, 7, 16] -∗ Φ ⟨⟩)
          -∗ wp frame (wpE (defs₀ (F := F)) 𝒱₀ (c : Thread nD τ) none) Set.univ
              (k0_part42 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 ) Φ) := by
  rw [k0_part42_eq_skeleton]
  unfold k0_part42_skel
  simp only [Prog.lift, Prog.bind_op, Prog.bind_ret, Prog.pure_eq_ret]
  iintro HSt Hk
  iapply (wp_sent m ρ (out := [16, 8]) 7 (by decide) 6 rfl) $$ HSt
  iintro HSt
  iapply (wp_sent m ρ (out := [8]) 16 (by decide) 15 rfl) $$ HSt
  iintro HSt
  rw [wp_ret]
  imodintro
  iapply Hk; iexact HSt

end Cert.KernelIdealProof

end
-- ==== Proof.KernelIdeal.Ends.lean ====
/-
# The first stretches and the one that stores the result

The barrier: a device hands each neighbour the slots of its scratch buffer that this neighbour fills, and gets from each
the slots it fills itself. Then it stores its own key and value block in slot `(0, 0)`, which then holds what the slot's
contents are to be, and issues the first copy. The last stretch stores the two batch rows of the result block.
-/
module

public import proofs.«01_k».proof.Proof.KernelIdeal.Dev

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Fin
variable {K : Dev nD × CI → ℕ} {c : Dev nD}

/-- A slot of the device's own buffer, at whatever contents. -/
def ownR (c : Dev nD) (j : Fin 18) : sProp 𝕄 := iprop(∃ f, sl c j fullShare f)

/-- The opening: the device's and its neighbours' numbers are computed; no memory is touched. -/
theorem part1 {Φ : (Σ' (d0 : Dev nD) (v2 : BitVec 32) (v21 : BitVec 32) (v22 : BitVec 32) (v23 : BitVec 1) (v26 : BitVec 32) (v27 : BitVec 1) (v30 : BitVec 32), BitVec 32) → sProp 𝕄} :
    iprop(∀ (v2 : BitVec 32) (v21 : BitVec 32) (v22 : BitVec 32) (v23 : BitVec 1) (v26 : BitVec 32) (v27 : BitVec 1) (v30 : BitVec 32) (b : BitVec 32), Φ ⟨c, v2, v21, v22, v23, v26, v27, v30, b⟩)
      ⊢ wp frame (wpE (defs₀ (F := F)) 𝒱₀ (c : Thread nD τ) none) Set.univ
              (k0_part1 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2) Φ := by
  rw [k0_part1_eq_skeleton]
  unfold k0_part1_skel
  simp only [Prog.lift, Prog.bind_op, Prog.bind_ret, Prog.pure_eq_ret, wp_deviceId]
  iintro Hk
  rw [wp_ret]
  imodintro
  iapply Hk

/-! ## The contents of slot `(0, 0)` -/

theorem half_inb (h : Fin 2) : ∀ a, (![0, 0, h.val, 0, 0, 0, 0] : Fin 7 → Nat) a + S1x1x1x2x128x8x64.size a ≤ S2x9x2x2x128x8x64.size a := by
  revert h; decide
/-- The key half (0) or the value half (1) of slot `(0, 0)`. -/
abbrev halfR (h : Fin 2) : Rect S2x9x2x2x128x8x64 :=
  Rect.unit (s := S2x9x2x2x128x8x64) ![0, 0, h.val, 0, 0, 0, 0] S1x1x1x2x128x8x64.size (half_inb h)

/-- An entry of the own slot, by its half: keys or values. -/
theorem half_emb (h : Fin 2) (i : S2x9x2x2x128x8x64.Idx) (hi : i ∈ slot 0) (h2 : (i 2).val = h.val) : (halfR h).emb (inSlot i) = i := by
  have h0 : 9 * (i 0).val + (i 1).val = 0 := congrArg Fin.val (mem_slot.mp hi)
  funext a
  fin_cases a
  · exact Fin.ext (by show 0 + 1 * 0 = (i 0).val; omega)
  · exact Fin.ext (by show 0 + 1 * 0 = (i 1).val; omega)
  · exact Fin.ext (by show h.val + 1 * 0 = (i 2).val; omega)
  · exact Fin.ext (by show 0 + 1 * (i 3).val = (i 3).val; omega)
  · exact Fin.ext (by show 0 + 1 * (i 4).val = (i 4).val; omega)
  · exact Fin.ext (by show 0 + 1 * (i 5).val = (i 5).val; omega)
  · exact Fin.ext (by show 0 + 1 * (i 6).val = (i 6).val; omega)

/-- The half of an entry. -/
theorem mem_half {h : Fin 2} {i : S2x9x2x2x128x8x64.Idx} (hi : i ∈ (halfR h).set) : i ∈ slot 0 ∧ (i 2).val = h.val := by
  rw [Rect.mem_set_unit] at hi
  have a0 : 0 ≤ (i 0).val ∧ (i 0).val < 0 + 1 := hi 0
  have a1 : 0 ≤ (i 1).val ∧ (i 1).val < 0 + 1 := hi 1
  have a2 : h.val ≤ (i 2).val ∧ (i 2).val < h.val + 1 := hi 2
  refine ⟨mem_slot.mpr (Fin.ext ?_), by omega⟩
  show 9 * (i 0).val + (i 1).val = 0
  omega

/-- A half lies in the own slot. -/
theorem half_sub (h : Fin 2) : (halfR h).set ⊆ slot 0 := fun _ hi => (mem_half hi).1

/-- A half, as the store sees it. -/
theorem half_set (h : Fin 2) : ((cM : Memref sig .tc .vmem S2x9x2x2x128x8x64 .bf16).access (halfR h)).set = (halfR h).set := by
  refine (View.set_slice _ _).trans ?_
  show ((halfR h).set).map (Function.Embedding.refl _) = _
  rw [Finset.map_refl]

omit [FloatOps F] in
theorem half_write (h : Fin 2) (f : Buf (Elt F) (cLoc c)) (w : S1x1x1x2x128x8x64.Idx → Elt F .bf16) (i : S2x9x2x2x128x8x64.Idx) (hi : i ∈ slot 0) (h2 : (i 2).val = h.val) :
    ((cM : Memref sig .tc .vmem S2x9x2x2x128x8x64 .bf16).access (halfR h)).write (Elt F) f w Finset.univ i = w (inSlot i) := by
  have e := View.write_emb_of_mem (v := (cM : Memref sig .tc .vmem S2x9x2x2x128x8x64 .bf16).access (halfR h)) (Val := Elt F) f w (Finset.mem_univ (inSlot i))
  rw [show ((cM : Memref sig .tc .vmem S2x9x2x2x128x8x64 .bf16).access (halfR h)).emb (inSlot i) = i from half_emb h i hi h2] at e
  exact e

omit [FloatOps F] in
theorem half_write_off (h : Fin 2) (f : Buf (Elt F) (cLoc c)) (w : S1x1x1x2x128x8x64.Idx → Elt F .bf16) (i : S2x9x2x2x128x8x64.Idx) (h2 : (i 2).val ≠ h.val) :
    ((cM : Memref sig .tc .vmem S2x9x2x2x128x8x64 .bf16).access (halfR h)).write (Elt F) f w Finset.univ i = f i :=
  View.write_of_not_mem _ _ _ (by rw [View.setOn_univ, half_set]; exact fun hi => h2 (mem_half hi).2)

/-- After both stores slot `(0, 0)` holds the device's own blocks. -/
theorem own_filled (f : Buf (Elt F) (cLoc c)) (i : S2x9x2x2x128x8x64.Idx) (hi : i ∈ slot 0) :
    ((cM : Memref sig .tc .vmem S2x9x2x2x128x8x64 .bf16).access (halfR 1)).write (Elt F)
      (((cM : Memref sig .tc .vmem S2x9x2x2x128x8x64 .bf16).access (halfR 0)).write (Elt F) f (kOwn m ρ c) Finset.univ) (vOwn m ρ c) Finset.univ i = commF m ρ c i := by
  have ho : origin (slotOf i) c = c := by rw [mem_slot.mp hi]; rfl
  unfold commF
  rw [ho]
  have hlt : (i 2).val < 2 := (i 2).isLt
  by_cases h : (i 2).val = 0
  · rw [if_pos h]
    exact (half_write_off (c := c) 1 _ _ i (by rw [h]; decide)).trans (half_write (c := c) 0 _ _ i hi h)
  · rw [if_neg h]
    exact half_write (c := c) 1 _ _ i hi (by show (i 2).val = 1; omega)

/-- What slot `(0, 0)` holds between the two stores, out of any contents. -/
abbrev firstF (c : Dev nD) (f : Buf (Elt F) (cLoc c)) : Buf (Elt F) (cLoc c) :=
  ((cM : Memref sig .tc .vmem S2x9x2x2x128x8x64 .bf16).access (halfR 0)).write (Elt F) f (kOwn m ρ c) Finset.univ

omit [FloatOps F] in
/-- A slot of the device's own, as its predecessor's to fill in the first stream. -/
theorem own_up (c : Dev nD) : ∀ j : Fin 18, j ∈ ([1, 2, 3, 4, 5, 6, 7, 8] : List (Fin 18)) → ((ownR c j : sProp 𝕄) ⊢ iprop(∃ f, sl (tgt j (prv c)) j fullShare f)) := by
  intro j hj
  have e : tgt j (prv c) = c := (show ∀ j : Fin 18, j ∈ ([1, 2, 3, 4, 5, 6, 7, 8] : List (Fin 18)) → ∀ c, tgt j (prv c) = c by decide +kernel) j hj c
  rw [e]; exact BI.Entails.refl _
omit [FloatOps F] in
/-- A slot of the device's own, as its successor's to fill in the second stream. -/
theorem own_down (c : Dev nD) : ∀ j : Fin 18, j ∈ ([10, 11, 12, 13, 14, 15, 16] : List (Fin 18)) → ((ownR c j : sProp 𝕄) ⊢ iprop(∃ f, sl (tgt j (nxt c)) j fullShare f)) := by
  intro j hj
  have e : tgt j (nxt c) = c := (show ∀ j : Fin 18, j ∈ ([10, 11, 12, 13, 14, 15, 16] : List (Fin 18)) → ∀ c, tgt j (nxt c) = c by decide +kernel) j hj c
  rw [e]; exact BI.Entails.refl _

omit [FloatOps F] in
theorem bar_up (c : Dev nD) : (bigL (ownR c) [1, 2, 3, 4, 5, 6, 7, 8] : sProp 𝕄) ⊢ barPay (prv c) true :=
  bigL_mono [1, 2, 3, 4, 5, 6, 7, 8] (fun j hj => own_up c j hj)
omit [FloatOps F] in
theorem bar_down (c : Dev nD) : (bigL (ownR c) [10, 11, 12, 13, 14, 15, 16] : sProp 𝕄) ⊢ barPay (nxt c) false :=
  bigL_mono [10, 11, 12, 13, 14, 15, 16] (fun j hj => own_down c j hj)
omit [FloatOps F] in
/-- What the barrier brings: every slot of the neighbours that the device fills. -/
theorem bar_land (c : Dev nD) : (iprop(barPay c false ∗ barPay c true) : sProp 𝕄) ⊢ bigL (landR c) hops :=
  (bigL_append (landR c) [10, 11, 12, 13, 14, 15, 16] [1, 2, 3, 4, 5, 6, 7, 8]).trans
    (bigL_perm (landR c) (l := [10, 11, 12, 13, 14, 15, 16] ++ [1, 2, 3, 4, 5, 6, 7, 8]) (l' := hops) (by decide))

/-- Both neighbours are signalled and waited for, then the own keys are stored in the own slot. -/
theorem part2 {v2 v21 v22 v26 v30 b : BitVec 32} {v23 v27 : BitVec 1} {Φ : (Σ' (v40 : BitVec 32), FVec F S2x128x8x64 .bf16) → sProp 𝕄} :
    iprop(records m ρ K ∗ levAts L lv ∗ (∃ W, owes (c : Thread nD τ) (O₀ c) W) ∗ atPos ER (barCell c) 0 ∅ 0 ∗ cred (tallyAt (barCell c) () 2)
        ∗ dutyTok ER (barCell (prv c)) 0 true ∗ dutyTok ER (barCell (nxt c)) 0 false ∗ bigL (ownR c) [1, 2, 3, 4, 5, 6, 7, 8] ∗ bigL (ownR c) [10, 11, 12, 13, 14, 15, 16]
        ∗ ownR c 0 ∗ ((c : Thread nD τ).loc cc0_stg3_0 ↦{fullShare} kstg m ρ c) ∗ ((c : Thread nD τ).loc cc0_stg4_0 ↦{fullShare} vstg m ρ c))
      ⊢ iprop((∀ v40 : BitVec 32, ((∃ W, owes (c : Thread nD τ) (ow c hops) W) ∗ bigL (landR c) hops ∗ semVal (barCell c) 0 ∗ (∃ f, sl c 0 fullShare (firstF m ρ c f))
            ∗ ((c : Thread nD τ).loc cc0_stg3_0 ↦{fullShare} kstg m ρ c) ∗ ((c : Thread nD τ).loc cc0_stg4_0 ↦{fullShare} vstg m ρ c)) -∗ Φ ⟨v40, k0_pay2 (vstg m ρ c)⟩)
          -∗ wp frame (wpE (defs₀ (F := F)) 𝒱₀ (c : Thread nD τ) none) Set.univ
              (k0_part2 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v2 v21 v22 v23 v26 v27 v30 b) Φ) := by
  rw [k0_part2_eq_skeleton]
  unfold k0_part2_skel
  simp only [semSignalWord, semWaitWord, Prog.lift, Prog.bind_op, Prog.bind_ret, Prog.pure_eq_ret]
  simp only [dev1_eq c, dev2_eq c]
  iintro ⟨#HR, #Hlev, ⟨%W, HO⟩, HatB, HcB, HtP, HtN, Hup, Hdn, Hz, HK, HV⟩ Hk
  unfold O₀
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP Hup]
  · isplitr; · iapply (inv_bar m ρ K (prv c)); iexact HR
    isplitl [HO]; · iexact HO
    isplitl [HtP]; · iexact HtP
    isplitl [Hup]
    · rw [payload_bar]
      iapply (bar_up c); iexact Hup
    · iapply (reached_bar m ρ K (prv c)); iexact HR
  iintro HO
  unfold O₁
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (ow c hops) rfl)
    $$ [HO HtN Hdn]
  · isplitr; · iapply (inv_bar m ρ K (nxt c)); iexact HR
    isplitl [HO]; · iexact HO
    isplitl [HtN]; · iexact HtN
    isplitl [Hdn]
    · rw [payload_bar]
      iapply (bar_down c); iexact Hdn
    · iapply (reached_bar m ρ K (nxt c)); iexact HR
  iintro HO
  iapply (Rounds.wp_wait_rest_token 𝒱₀ ER (ringRd m ρ) (c : Thread nD τ) none (κ := K (c, none))
      (wpE_semWait_eq 𝒱₀ (c : Thread nD τ) none Set.univ) (Set.mem_univ _) () (O := ow c hops) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  ihave Hp := (bar_land c) $$ Hp
  imod (Rounds.cell_close ER (ringRd m ρ) (Set.mem_univ (K (c, none))) (fun h => h) (R := 0 + 1) (duties_later m ρ (barCell c))) $$ [HatB] with HzB
  · isplitr; · iapply (inv_bar m ρ K c); iexact HR
    iexact HatB
  unfold ownR sl
  icases Hz with ⟨%f, Hz⟩
  iapply (wp_load 𝒱₀ (c : Thread nD τ) none Set.univ (m := kM) (S := Finset.univ) (Finset.subset_univ _)) $$ HK
  iintro HK
  iapply (wp_load 𝒱₀ (c : Thread nD τ) none Set.univ (m := cM) (S := slot 0) (q := fullShare) (f := f)
    (by unfold View.setOn; rw [show (cM : Memref sig .tc .vmem S2x9x2x2x128x8x64 .bf16).view.emb = Function.Embedding.refl _ from rfl, Finset.map_refl]; exact half_sub 0)) $$ Hz
  iintro Hz
  rw [k_read _ (kstg m ρ c)]
  iapply (wp_store 𝒱₀ (c : Thread nD τ) none Set.univ (m := cM) (r := halfR 0) (Mk := Finset.univ) (S := slot 0) (f := f)
    (by rw [View.setOn_univ, half_set]; exact half_sub 0)) $$ Hz
  iintro Hz
  iapply (wp_load 𝒱₀ (c : Thread nD τ) none Set.univ (m := vM) (S := Finset.univ) (Finset.subset_univ _)) $$ HV
  iintro HV
  rw [v_read _ (vstg m ρ c)]
  rw [wp_ret]
  imodintro
  iapply Hk
  isplitl [HO]; · iexists _; iexact HO
  isplitl [Hp]; · iexact Hp
  isplitl [HzB]; · iexact HzB
  isplitl [Hz]; · iexists f; iexact Hz
  isplitl [HK] <;> iassumption

/-- Slot `(0, 0)`, filled, in three shares: lent to the first copy of each stream, and kept. -/
theorem slot0_split (c : Dev nD) : sl c 0 fullShare (commF m ρ c) ⊣⊢ iprop(lent m ρ c 1 ∗ lent m ρ c 10 ∗ kept m ρ c 0) := by
  unfold lent kept sl
  rw [show src 1 = 0 from rfl, show src 10 = 0 from rfl, show shr 1 = fullShare.left from rfl, show shr 10 = fullShare.right.left from rfl,
    show rshr 0 = fullShare.right.right from rfl]
  have h1 := pointsTo_share (Ix := Unit) (Name := ℕ) (U := UU) (Lvl := ℕ) (ℓ := cLoc c) (I := slot 0) (f := commF m ρ c) (PosShare.mem_left_op_right fullShare)
  have h2 := pointsTo_share (Ix := Unit) (Name := ℕ) (U := UU) (Lvl := ℕ) (ℓ := cLoc c) (I := slot 0) (f := commF m ρ c) (PosShare.mem_left_op_right fullShare.right)
  exact ⟨h1.1.trans (sep_mono_right h2.1), (sep_mono_right h2.2).trans h1.2⟩

/-- The own slot, filled, is the shares that the first two copies borrow and the share kept for reading. -/
theorem own_split (c : Dev nD) (f : Buf (Elt F) (cLoc c)) :
    ((cLoc c ↦[slot 0]{fullShare} ((cM : Memref sig .tc .vmem S2x9x2x2x128x8x64 .bf16).access (halfR 1)).write (Elt F) (firstF m ρ c f) (k0_pay3 (k0_pay2 (vstg m ρ c))) Finset.univ : sProp 𝕄))
      ⊢ iprop(lent m ρ c 1 ∗ lent m ρ c 10 ∗ kept m ρ c 0) :=
  (Entails.of_eq (pointsTo_congr fun i hi => own_filled m ρ f i hi)).trans (slot0_split m ρ c).1

/-- The own values are stored in the own slot, and the first copy starts. -/
theorem part3 {v21 v40 : BitVec 32} {Φ : PUnit → sProp 𝕄} :
    iprop(records m ρ K ∗ levAts L lv ∗ (∃ W, owes (c : Thread nD τ) (ow c hops) W) ∗ bigL (todoR c) hops ∗ bigL (landR c) hops
        ∗ semVal (recvCell c 0) 0 ∗ (∃ f, sl c 0 fullShare (firstF m ρ c f)))
      ⊢ iprop((St m ρ K c [10, 2, 11, 3, 12, 4, 13, 5, 14, 6, 15, 7, 16, 8] [10] [1] [1] [0] [] -∗ Φ ⟨⟩)
          -∗ wp frame (wpE (defs₀ (F := F)) 𝒱₀ (c : Thread nD τ) none) Set.univ
              (k0_part3 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 c v21 v40 (k0_pay2 (vstg m ρ c))) Φ) := by
  rw [k0_part3_eq_skeleton]
  unfold k0_part3_skel
  simp only [Prog.lift, Prog.bind_op, Prog.bind_ret, Prog.pure_eq_ret]
  iintro ⟨#HR, #Hlev, HO, Htodo, Hland, Hz0, ⟨%f, Hz⟩⟩ Hk
  unfold sl
  iapply (wp_load 𝒱₀ (c : Thread nD τ) none Set.univ (m := cM) (S := slot 0) (q := fullShare) (f := firstF m ρ c f)
    (by unfold View.setOn; rw [show (cM : Memref sig .tc .vmem S2x9x2x2x128x8x64 .bf16).view.emb = Function.Embedding.refl _ from rfl, Finset.map_refl]; exact half_sub 1)) $$ Hz
  iintro Hz
  iapply (wp_store 𝒱₀ (c : Thread nD τ) none Set.univ (m := cM) (r := halfR 1) (Mk := Finset.univ) (S := slot 0) (f := firstF m ρ c f)
    (by rw [View.setOn_univ, half_set]; exact half_sub 1)) $$ Hz
  iintro Hz
  ihave Hz := (own_split m ρ c f) $$ Hz
  icases Hz with ⟨H1, H10, H0⟩
  ihave HSt : St m ρ K c [1, 10, 2, 11, 3, 12, 4, 13, 5, 14, 6, 15, 7, 16, 8] [1, 10] [] [] [0] [] $$ [HO Htodo Hland Hz0 H1 H10 H0]
  · unfold St
    isplitr; · iexact HR
    isplitr; · iexact Hlev
    isplitl [HO]; · iexact HO
    isplitl [Htodo]; · iexact Htodo
    isplitl [Hland]; · iexact Hland
    isplitl [H1 H10]
    · rw [bigL_cons, bigL_cons]
      isplitl [H1]; · iexact H1
      isplitl [H10]; · iexact H10
      unfold bigL; iempintro
    isplitr; · unfold bigL; iempintro
    isplitr; · unfold bigL; iempintro
    isplitl [H0 Hz0]
    · rw [bigL_cons]
      isplitl [H0 Hz0]
      · unfold gotR; isplitl [H0] <;> iassumption
      unfold bigL; iempintro
    unfold bigL; iempintro
  iapply (wp_start m ρ (todo := [10, 2, 11, 3, 12, 4, 13, 5, 14, 6, 15, 7, 16, 8]) (ready := [10]) 1 (by decide) (dev3_eq c)) $$ HSt
  iintro HSt
  rw [wp_ret]
  imodintro
  iapply Hk; iexact HSt

/-! ## The result block -/

/-- The place of a result element within its batch row. -/
def inRow (i : S2x128x512.Idx) : S1x128x512.Idx := fun a => match a with
  | 0 => (0 : Fin 1) | 1 => (i 1 : Fin 128) | 2 => (i 2 : Fin 512)
/-- The result block device `c` stores. -/
def outV (c : Dev nD) : (cc0_stg5_0 : Ref sig .tc).ty.Contents (Elt F) := fun (i : S2x128x512.Idx) =>
  if (i 0).val = 0 then o0 m ρ c (inRow i) else o1 m ρ c (inRow i)

/-- A batch row lies inside the result. -/
theorem row_inb (h : Fin 2) : ∀ a, (![h.val, 0, 0] : Fin 3 → Nat) a + S1x128x512.size a ≤ S2x128x512.size a := by
  revert h; decide
abbrev rowR (h : Fin 2) : Rect S2x128x512 := Rect.unit (s := S2x128x512) ![h.val, 0, 0] S1x128x512.size (row_inb h)

/-- An entry of the result, by its batch row. -/
theorem row_emb (h : Fin 2) (i : S2x128x512.Idx) (h0 : (i 0).val = h.val) : (rowR h).emb (inRow i) = i := by
  funext a
  fin_cases a
  · exact Fin.ext (by show h.val + 1 * 0 = (i 0).val; omega)
  · exact Fin.ext (by show 0 + 1 * (i 1).val = (i 1).val; omega)
  · exact Fin.ext (by show 0 + 1 * (i 2).val = (i 2).val; omega)

omit [FloatOps F] in
theorem row_write (h : Fin 2) (f : (cc0_stg5_0 : Ref sig .tc).ty.Contents (Elt F)) (w : S1x128x512.Idx → Elt F .f32) (i : S2x128x512.Idx) (h0 : (i 0).val = h.val) :
    ((oM : Memref sig .tc .vmem S2x128x512 .f32).access (rowR h)).write (Elt F) f w Finset.univ i = w (inRow i) := by
  have e := View.write_emb_of_mem (v := (oM : Memref sig .tc .vmem S2x128x512 .f32).access (rowR h)) (Val := Elt F) f w (Finset.mem_univ (inRow i))
  rw [show ((oM : Memref sig .tc .vmem S2x128x512 .f32).access (rowR h)).emb (inRow i) = i from row_emb h i h0] at e
  exact e

omit [FloatOps F] in
theorem row_write_off (h : Fin 2) (f : (cc0_stg5_0 : Ref sig .tc).ty.Contents (Elt F)) (w : S1x128x512.Idx → Elt F .f32) (i : S2x128x512.Idx) (h0 : (i 0).val ≠ h.val) :
    ((oM : Memref sig .tc .vmem S2x128x512 .f32).access (rowR h)).write (Elt F) f w Finset.univ i = f i := by
  refine View.write_of_not_mem _ _ _ ?_
  rw [View.setOn_univ, show ((oM : Memref sig .tc .vmem S2x128x512 .f32).access (rowR h)).set = (rowR h).set from
    (View.set_slice _ _).trans (by show ((rowR h).set).map (Function.Embedding.refl _) = _; rw [Finset.map_refl])]
  intro hi
  rw [Rect.mem_set_unit] at hi
  have a0 : h.val ≤ (i 0).val ∧ (i 0).val < h.val + 1 := hi 0
  exact h0 (by omega)

/-- Two stores, one for each batch row, write the whole result. -/
theorem out_written (f : (cc0_stg5_0 : Ref sig .tc).ty.Contents (Elt F)) :
    ((oM : Memref sig .tc .vmem S2x128x512 .f32).access (rowR 1)).write (Elt F)
      (((oM : Memref sig .tc .vmem S2x128x512 .f32).access (rowR 0)).write (Elt F) f (o0 m ρ c) Finset.univ) (o1 m ρ c) Finset.univ = outV m ρ c := by
  funext (i : S2x128x512.Idx)
  unfold outV
  have hlt : (i 0).val < 2 := (i 0).isLt
  by_cases h : (i 0).val = 0
  · rw [if_pos h]
    exact (row_write_off 1 _ _ i (by rw [h]; decide)).trans (row_write 0 _ _ i h)
  · rw [if_neg h]
    exact row_write 1 _ _ i (by show (i 0).val = 1; omega)

/-- The result is stored, a batch row at a time. -/
theorem part36 {f : (cc0_stg5_0 : Ref sig .tc).ty.Contents (Elt F)} {Φ : PUnit → sProp 𝕄} :
    iprop(((c : Thread nD τ).loc cc0_stg2_0 ↦{fullShare} wostg m ρ c) ∗ ((c : Thread nD τ).loc cc0_stg5_0 ↦{fullShare} f))
      ⊢ iprop((((c : Thread nD τ).loc cc0_stg2_0 ↦{fullShare} wostg m ρ c) ∗ ((c : Thread nD τ).loc cc0_stg5_0 ↦{fullShare} outV m ρ c) -∗ Φ ⟨⟩)
          -∗ wp frame (wpE (defs₀ (F := F)) 𝒱₀ (c : Thread nD τ) none) Set.univ
              (k0_part36 xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2 (w803 m ρ c) (w830 m ρ c) (w835 m ρ c) (w839 m ρ c) (w847 m ρ c) (w850 m ρ c) (w851 m ρ c)) Φ) := by
  rw [k0_part36_eq_skeleton]
  unfold k0_part36_skel
  simp only [Prog.lift, Prog.bind_op, Prog.bind_ret, Prog.pure_eq_ret]
  iintro ⟨Hwo, Ho⟩ Hk
  iapply (wp_load 𝒱₀ (c : Thread nD τ) none Set.univ (m := woM) (S := Finset.univ) (Finset.subset_univ _)) $$ Hwo
  iintro Hwo
  rw [wo_read _ (wostg m ρ c)]
  iapply (wp_load 𝒱₀ (c : Thread nD τ) none Set.univ (m := oM) (S := Finset.univ) (Finset.subset_univ _)) $$ Ho
  iintro Ho
  iapply (wp_store 𝒱₀ (c : Thread nD τ) none Set.univ (m := oM) (r := rowR 0) (Mk := Finset.univ) (S := Finset.univ) (Finset.subset_univ _)) $$ Ho
  iintro Ho
  iapply (wp_load 𝒱₀ (c : Thread nD τ) none Set.univ (m := oM) (S := Finset.univ) (Finset.subset_univ _)) $$ Ho
  iintro Ho
  iapply (wp_store 𝒱₀ (c : Thread nD τ) none Set.univ (m := oM) (r := rowR 1) (Mk := Finset.univ) (S := Finset.univ) (Finset.subset_univ _)) $$ Ho
  iintro Ho
  rw [wp_ret]
  imodintro
  iapply Hk
  isplitl [Hwo]; · iexact Hwo
  rw [← out_written m ρ f]
  iexact Ho

end Fin

end Cert.KernelIdealProof

end
-- ==== Proof.KernelIdeal.Body.lean ====
/-
# The kernel's body on one device

What the body starts from (`Φ₀`), what it leaves (`Φ₁`), the pipeline's data, and the body obligation: the stretches'
rules in program order.
-/
module

public import proofs.«01_k».proof.Proof.KernelIdeal.PartsA
public import proofs.«01_k».proof.Proof.KernelIdeal.PartsB
public import Idealize.ShloMosaic.Lib.Ring
public import proofs.«01_k».proof.Proof.KernelIdeal.PartsC
public import proofs.«01_k».proof.Proof.KernelIdeal.Ends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Further conjunctions along a list -/

omit [FloatOps F] in
theorem bigL_unsep (Φ Ψ : Fin 18 → sProp 𝕄) (js : List (Fin 18)) : bigL (fun j => iprop(Φ j ∗ Ψ j)) js ⊢ iprop(bigL Φ js ∗ bigL Ψ js) := by
  induction js with
  | nil => show iprop(emp) ⊢ iprop(emp ∗ emp); iintro -; isplitl <;> iempintro
  | cons k ks ih =>
    show iprop((Φ k ∗ Ψ k) ∗ bigL (fun j => iprop(Φ j ∗ Ψ j)) ks) ⊢ iprop((Φ k ∗ bigL Φ ks) ∗ (Ψ k ∗ bigL Ψ ks))
    iintro ⟨⟨H1, H2⟩, H⟩
    ihave H' := ih $$ H
    icases H' with ⟨H3, H4⟩
    isplitl [H1 H3]; · isplitl [H1] <;> iassumption
    isplitl [H2] <;> iassumption

omit [FloatOps F] in
theorem bigL_map (Φ : Fin 18 → sProp 𝕄) (g : Fin 18 → Fin 18) (js : List (Fin 18)) : bigL Φ (js.map g) = bigL (fun j => Φ (g j)) js := by
  induction js with
  | nil => rfl
  | cons k ks ih => show iprop(Φ (g k) ∗ bigL Φ (ks.map g)) = iprop(Φ (g k) ∗ bigL (fun j => Φ (g j)) ks); rw [ih]

/-! ## The scratch buffer by slots -/

theorem slot_disjoint : ∀ b b' : Fin 18, b ≠ b' → Disjoint (slot b) (slot b') := fun b b' h =>
  Finset.disjoint_left.mpr fun i hi hi' => h ((mem_slot.mp hi).symm.trans (mem_slot.mp hi'))
/-- The slots are the whole buffer. -/
theorem slot_cover : (Finset.univ : Finset (Fin 18)).biUnion slot = Finset.univ :=
  Finset.eq_univ_iff_forall.mpr fun i => Finset.mem_biUnion.mpr ⟨slotOf i, Finset.mem_univ _, mem_slot.mpr rfl⟩

/-- The slots that no copy fills: the device's own, and the two last of the second stream. -/
def idle : List (Fin 18) := [0, 9, 17]

omit [FloatOps F] in
theorem bigL_idle (Φ : Fin 18 → sProp 𝕄) : bigL Φ idle = iprop(Φ 0 ∗ Φ 9 ∗ Φ 17 ∗ emp) := rfl

omit [FloatOps F] in
theorem scr_split (c : Dev nD) (f : Buf (Elt F) (cLoc c)) :
    (cLoc c ↦{fullShare} f : sProp 𝕄) ⊢ iprop(bigL (ownR c) idle ∗ bigL (ownR c) [1, 2, 3, 4, 5, 6, 7, 8] ∗ bigL (ownR c) [10, 11, 12, 13, 14, 15, 16]) := by
  rw [Ring.pointsTo_blocks slot slot_disjoint slot_cover f]
  have h1 : (bigSep Finset.univ fun b : Fin 18 => (cLoc c ↦[slot b]{fullShare} f : sProp 𝕄)) ⊢ bigSep Finset.univ (ownR c) :=
    bigSep_mono fun b _ => show (cLoc c ↦[slot b]{fullShare} f : sProp 𝕄) ⊢ iprop(∃ g, cLoc c ↦[slot b]{fullShare} g) from by iintro H; iexists f; iexact H
  refine h1.trans ((bigL_univ (ownR c) (idle ++ ([1, 2, 3, 4, 5, 6, 7, 8] ++ [10, 11, 12, 13, 14, 15, 16])) (by decide) (by decide)).trans ?_)
  exact (bigL_split _ _ _).trans (sep_mono_right (bigL_split _ _ _))

/-- The slots, listed once each. -/
theorem idle_hops_nodup : (idle ++ hops).Nodup := by decide
/-- And all of them. -/
theorem idle_hops_all : ∀ j, j ∈ idle ++ hops := by decide

omit [FloatOps F] in
theorem blocks_join {ℓ : Loc nD τ sig} (I : Fin 18 → Finset (Idx ℓ)) (hd : ∀ b b' : Fin 18, b ≠ b' → Disjoint (I b) (I b'))
    (hc : Finset.univ.biUnion I = Finset.univ) (f₀ : Buf (Elt F) ℓ) :
    (bigSep Finset.univ fun b : Fin 18 => iprop(∃ g : Buf (Elt F) ℓ, ℓ ↦[I b]{fullShare} g) : sProp 𝕄) ⊢ iprop(∃ f, ℓ ↦{fullShare} f) :=
  Ring.pointsTo_blocks_join_exists I hd hc (q := fullShare) f₀

omit [FloatOps F] in
theorem scr_join (c : Dev nD) (f₀ : Buf (Elt F) (cLoc c)) :
    (iprop(bigL (ownR c) idle ∗ bigL (ownR c) hops) : sProp 𝕄) ⊢ iprop(∃ f, cLoc c ↦{fullShare} f) := by
  have h1 : bigSep Finset.univ (ownR c) ⊢ (bigSep Finset.univ fun b : Fin 18 => iprop(∃ g : Buf (Elt F) (cLoc c), cLoc c ↦[slot b]{fullShare} g) : sProp 𝕄) :=
    bigSep_mono fun b _ => show ownR c b ⊢ iprop(∃ g : Buf (Elt F) (cLoc c), cLoc c ↦[slot b]{fullShare} g) from BI.Entails.refl _
  have h2 := h1.trans (blocks_join (ℓ := cLoc c) (fun j => slot j) slot_disjoint (by exact slot_cover) f₀)
  exact (bigL_append (ownR c) idle hops).trans ((bigL_univ' (ownR c) (idle ++ hops) idle_hops_nodup idle_hops_all).trans h2)

/-- The slot after. -/
def sc (j : Fin 18) : Fin 18 := ⟨(j.val + 1) % 18, Nat.mod_lt _ (by decide)⟩
/-- The slot a landed block is sent on to. -/
theorem sc_val : ∀ j ∈ hops, (sc j).val = j.val + 1 := by decide

/-- All the shares of the filled slots come together again. -/
theorem shares_join (c : Dev nD) :
    iprop(bigL (kept m ρ c) hops ∗ kept m ρ c 0 ∗ bigL (lent m ρ c) hops ∗ bigL (lent m ρ c) [17, 9]) ⊢ iprop(bigL (ownR c) hops ∗ ownR c 0) := by
  iintro ⟨HK, H0, HL, HL'⟩
  ihave H := (bigL_append (lent m ρ c) hops [17, 9]) $$ [HL HL']
  · isplitl [HL] <;> iassumption
  ihave H := (bigL_perm (lent m ρ c) (l := hops ++ [17, 9]) (l' := [1, 10] ++ hops.map sc) (by decide)) $$ H
  ihave H := (bigL_split (lent m ρ c) [1, 10] (hops.map sc)) $$ H
  icases H with ⟨Hs, H⟩
  ihave H := (Entails.of_eq (bigL_map (lent m ρ c) sc hops)) $$ H
  ihave H := (bigL_sep (kept m ρ c) (fun j => lent m ρ c (sc j)) hops) $$ [HK H]
  · isplitl [HK] <;> iassumption
  isplitl [H]
  · iapply (bigL_mono (Φ := fun j => iprop(kept m ρ c j ∗ lent m ρ c (sc j))) (Ψ := ownR c) hops (fun j hj => show iprop(kept m ρ c j ∗ lent m ρ c (sc j)) ⊢ ownR c j from by
      iintro H
      ihave H := ((kept_lent m ρ c j (sc j) (hops_ne j hj).1 (hops_ne j hj).2 (sc_val j hj)).2) $$ H
      unfold ownR recvPay
      iexists _; iexact H)) $$ H
  · ihave Hs := (Entails.of_eq (show bigL (lent m ρ c) [1, 10] = iprop(lent m ρ c 1 ∗ (lent m ρ c 10 ∗ emp)) from rfl)) $$ Hs
    icases Hs with ⟨H1, H10, -⟩
    ihave H := ((slot0_split m ρ c).2) $$ [H1 H10 H0]
    · isplitl [H1]; · iexact H1
      isplitl [H10] <;> iassumption
    unfold ownR
    iexists _; iexact H

/-! ## Where the body starts and ends -/

theorem cfg0_N : cfg0.N = 1 := by decide
def t₀ : Fin cfg0.N := ⟨0, by rw [cfg0_N]; decide⟩
/-- The grid has one step. -/
theorem fin_N (t : Fin cfg0.N) : t = t₀ := by
  obtain ⟨t, ht⟩ := t; have := cfg0_N; exact Fin.ext (by simp only [t₀]; omega)

/-- For a copy to issue: the positions at its two cells and the tokens of the two duties it pays. -/
def ghostR (c : Dev nD) (j : Fin 18) : sProp 𝕄 :=
  iprop(atPos ER (sendCell c j) 0 ∅ 0 ∗ atPos ER (recvCell c j) 0 ∅ 0 ∗ dutyTok ER (sendCell c j) 0 false ∗ dutyTok ER (recvCell (tgt j c) j) 0 false)
/-- For a slot no copy fills: the positions at its two cells. -/
def idleR (c : Dev nD) (j : Fin 18) : sProp 𝕄 := iprop(atPos ER (sendCell c j) 0 ∅ 0 ∗ atPos ER (recvCell c j) 0 ∅ 0)
def credR (c : Dev nD) (j : Fin 18) : sProp 𝕄 := cred (tallyAt (recvCell c j) () N)

/-- The ring's ghost state a device starts from. -/
def ghost (K : Dev nD × CI → ℕ) (c : Dev nD) : sProp 𝕄 :=
  iprop(records m ρ K ∗ atPos ER (barCell c) 0 ∅ 0 ∗ dutyTok ER (barCell (prv c)) 0 true ∗ dutyTok ER (barCell (nxt c)) 0 false
    ∗ bigL (ghostR c) hops ∗ bigL (idleR c) idle)

def start (c : Dev nD) : sProp 𝕄 :=
  iprop((∃ K, ghost m ρ K c) ∗ cred (tallyAt (barCell c) () 2) ∗ bigL (credR c) hops ∗ levAts L lv)

def Φ₀ (c : Dev nD) : sProp 𝕄 := iprop(start m ρ c ∗ ∃ f, cLoc c ↦{fullShare} f)
def Φ₁ (c : Dev nD) : sProp 𝕄 :=
  iprop((∃ f, cLoc c ↦{fullShare} f) ∗ semVal (barCell c) 0 ∗ bigL (fun j => semVal (sendCell c j) 0) (idle ++ hops) ∗ bigL (fun j => semVal (recvCell c j) 0) (idle ++ hops))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => kstg m ρ c
    | ⟨4, _⟩ => vstg m ρ c
    | ⟨5, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CI → ℕ) (c : Dev nD) : sProp 𝕄 :=
  iprop((ghost m ρ K c ∗ cred (tallyAt (barCell c) () 2) ∗ bigL (credR c) hops ∗ levAts L lv ∗ ∃ f, cLoc c ↦{fullShare} f)
    ∗ (∃ W, owes (c : Thread nD τ) (O₀ c) W)
    ∗ ((c : Thread nD τ).loc cc0_stg0_0 ↦{fullShare} xstg m ρ c) ∗ ((c : Thread nD τ).loc cc0_stg1_0 ↦{fullShare} wqstg m ρ c)
    ∗ ((c : Thread nD τ).loc cc0_stg2_0 ↦{fullShare} wostg m ρ c) ∗ ((c : Thread nD τ).loc cc0_stg3_0 ↦{fullShare} kstg m ρ c)
    ∗ ((c : Thread nD τ).loc cc0_stg4_0 ↦{fullShare} vstg m ρ c) ∗ (∃ f, (c : Thread nD τ).loc cc0_stg5_0 ↦{fullShare} f))

def bodyPost (c : Dev nD) : sProp 𝕄 :=
  iprop(Φ₁ c ∗ (∃ W, owes (c : Thread nD τ) 0 W)
    ∗ ((c : Thread nD τ).loc cc0_stg0_0 ↦{fullShare} xstg m ρ c) ∗ ((c : Thread nD τ).loc cc0_stg1_0 ↦{fullShare} wqstg m ρ c)
    ∗ ((c : Thread nD τ).loc cc0_stg2_0 ↦{fullShare} wostg m ρ c) ∗ ((c : Thread nD τ).loc cc0_stg3_0 ↦{fullShare} kstg m ρ c)
    ∗ ((c : Thread nD τ).loc cc0_stg4_0 ↦{fullShare} vstg m ρ c) ∗ ((c : Thread nD τ).loc cc0_stg5_0 ↦{fullShare} outV m ρ c))

/-- The counters of an idle slot's two cells, closed. -/
theorem idle_close (K : Dev nD × CI → ℕ) (c : Dev nD) (j : Fin 18) (hj : j ∉ hops) :
    iprop(records m ρ K ∗ idleR c j) ⊢ |={Set.univ}=> iprop(semVal (sendCell c j) 0 ∗ semVal (recvCell c j) 0) := by
  unfold idleR
  iintro ⟨#HR, HaS, HaR⟩
  imod (Rounds.cell_close ER (ringRd m ρ) (Set.mem_univ (K (c, some (false, j)))) (fun h => h) (R := 0) (duties_send_none m ρ c j hj)) $$ [HaS] with HzS
  · isplitr; · iapply (inv_send m ρ K c j); iexact HR
    iexact HaS
  imod (Rounds.cell_close ER (ringRd m ρ) (Set.mem_univ (K (c, some (true, j)))) (fun h => h) (R := 0) (duties_recv_none m ρ c j hj)) $$ [HaR] with HzR
  · isplitr; · iapply (inv_recv m ρ K c j); iexact HR
    iexact HaR
  imodintro
  isplitl [HzS] <;> iassumption

omit [FloatOps F] in
theorem todo_intro (c : Dev nD) : (iprop(bigL (ghostR c) hops ∗ bigL (credR c) hops) : sProp 𝕄) ⊢ bigL (todoR c) hops :=
  (bigL_sep (ghostR c) (credR c) hops).trans (bigL_mono hops fun j _ => show iprop(ghostR c j ∗ credR c j) ⊢ todoR c j from by
    unfold ghostR credR todoR
    iintro ⟨⟨H1, H2, H3, H4⟩, H5⟩
    isplitl [H1]; · iexact H1
    isplitl [H2]; · iexact H2
    isplitl [H3]; · iexact H3
    isplitl [H4] <;> iassumption)

/-- The end of the body: the slots come together, all counters are zero. -/
theorem finish (K : Dev nD × CI → ℕ) (c : Dev nD) (f₀ : Buf (Elt F) (cLoc c)) :
    iprop(St m ρ K c [] [17, 9] [] [] (0 :: hops) hops ∗ ownR c 9 ∗ ownR c 17 ∗ semVal (barCell c) 0
        ∗ semVal (sendCell c 0) 0 ∗ (semVal (sendCell c 9) 0 ∗ semVal (recvCell c 9) 0) ∗ semVal (sendCell c 17) 0 ∗ semVal (recvCell c 17) 0)
      ⊢ iprop(Φ₁ c ∗ ∃ W, owes (c : Thread nD τ) 0 W) := by
  unfold St Φ₁
  rw [bigL_cons (gotR m ρ c)]
  iintro ⟨⟨-, -, HO, -, -, HL, -, -, ⟨H0, Hgot⟩, Hfin⟩, H9, H17, HzB, Hs0, ⟨Hs9, Hr9⟩, Hs17, Hr17⟩
  ihave Hgot := (show bigL (gotR m ρ c) hops ⊢ iprop(bigL (kept m ρ c) hops ∗ bigL (fun j => semVal (recvCell c j) 0) hops) from bigL_unsep (kept m ρ c) (fun j => semVal (recvCell c j) 0) hops) $$ Hgot
  ihave Hfin := (show bigL (finR m ρ c) hops ⊢ iprop(bigL (lent m ρ c) hops ∗ bigL (fun j => semVal (sendCell c j) 0) hops) from bigL_unsep (lent m ρ c) (fun j => semVal (sendCell c j) 0) hops) $$ Hfin
  icases Hgot with ⟨HK, HzR⟩
  icases Hfin with ⟨HL', HzS⟩
  unfold gotR
  icases H0 with ⟨H0, Hr0⟩
  ihave H := (shares_join m ρ c) $$ [HK H0 HL HL']
  · isplitl [HK]; · iexact HK
    isplitl [H0]; · iexact H0
    isplitl [HL'] <;> iassumption
  icases H with ⟨Hh, H0⟩
  isplitr [HO]
  · isplitl [Hh H0 H9 H17]
    · iapply (scr_join c f₀)
      isplitl [H0 H9 H17]
      · rw [bigL_idle]
        isplitl [H0]; · iexact H0
        isplitl [H9]; · iexact H9
        isplitl [H17]; · iexact H17
        iempintro
      iexact Hh
    isplitl [HzB]; · iexact HzB
    isplitl [HzS Hs0 Hs9 Hs17]
    · iapply (bigL_append (fun j => semVal (sendCell c j) 0) idle hops)
      isplitl [Hs0 Hs9 Hs17]
      · rw [bigL_idle]
        isplitl [Hs0]; · iexact Hs0
        isplitl [Hs9]; · iexact Hs9
        isplitl [Hs17]; · iexact Hs17
        iempintro
      iexact HzS
    · iapply (bigL_append (fun j => semVal (recvCell c j) 0) idle hops)
      isplitl [Hr0 Hr9 Hr17]
      · rw [bigL_idle]
        isplitl [Hr0]; · iexact Hr0
        isplitl [Hr9]; · iexact Hr9
        isplitl [Hr17]; · iexact Hr17
        iempintro
      iexact HzR
  iexact HO

set_option maxHeartbeats 1600000 in
/-- The body, stretch by stretch, from `bodyPre` to `bodyPost`. -/
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2) Kt := by
  rw [cc0_body_eq_skeleton]
  unfold cc0_body_skel
  unfold bodyPre ghost
  iintro ⟨⟨⟨⟨#HR, HatB, HtP, HtN, Hg, Hid⟩, HcB, Hcr, #Hlev, ⟨%f0, Hscr⟩⟩, HO, Hx, Hwq, Hwo, HK, HV, ⟨%fo, Ho⟩⟩, Hk⟩
  ihave Hsl := (scr_split c f0) $$ Hscr
  icases Hsl with ⟨Hidle, Hup, Hdn⟩
  ihave Htodo := (todo_intro c) $$ [Hg Hcr]
  · isplitl [Hg] <;> iassumption
  ihave Hidle := (Entails.of_eq (bigL_idle (ownR c))) $$ Hidle
  ihave Hid := (Entails.of_eq (bigL_idle (idleR c))) $$ Hid
  icases Hidle with ⟨Ho0, Ho9, Ho17, -⟩
  icases Hid with ⟨Hi0, Hi9, Hi17, -⟩
  imod (idle_close m ρ K c 0 (by decide)) $$ [Hi0] with ⟨Hs0, Hr0⟩
  · isplitr; · iexact HR
    iexact Hi0
  imod (idle_close m ρ K c 9 (by decide)) $$ [Hi9] with Hz9
  · isplitr; · iexact HR
    iexact Hi9
  imod (idle_close m ρ K c 17 (by decide)) $$ [Hi17] with Hz17
  · isplitr; · iexact HR
    iexact Hi17
  rw [wp_bind]
  iapply (part1 (c := c))
  iintro %v2 %v21 %v22 %v23 %v26 %v27 %v30 %b
  dsimp only
  rw [wp_bind]
  iapply (part2 m ρ (K := K) (c := c)) $$ [HO HatB HcB HtP HtN Hup Hdn Ho0 HK HV]
  · isplitr; · iexact HR
    isplitr; · iexact Hlev
    isplitl [HO]; · iexact HO
    isplitl [HatB]; · iexact HatB
    isplitl [HcB]; · iexact HcB
    isplitl [HtP]; · iexact HtP
    isplitl [HtN]; · iexact HtN
    isplitl [Hup]; · iexact Hup
    isplitl [Hdn]; · iexact Hdn
    isplitl [Ho0]; · iexact Ho0
    isplitl [HK] <;> iassumption
  iintro %v40 ⟨HO, Hland, HzB, Hz, HK, HV⟩
  dsimp only
  rw [wp_bind]
  iapply (part3 m ρ (K := K) (c := c)) $$ [HO Htodo Hland Hr0 Hz]
  · isplitr; · iexact HR
    isplitr; · iexact Hlev
    isplitl [HO]; · iexact HO
    isplitl [Htodo]; · iexact Htodo
    isplitl [Hland]; · iexact Hland
    isplitl [Hr0] <;> iassumption
  iintro HSt
  try dsimp only
  rw [wp_bind]
  iapply (part4 m ρ (K := K) (c := c)) $$ [HSt Hx Hwq]
  · isplitl [HSt]; · iexact HSt
    isplitl [Hx] <;> iassumption
  iintro ⟨HSt, Hx, Hwq⟩
  try dsimp only
  rw [wp_bind]
  iapply (part5 m ρ (K := K) (c := c)) $$ HSt
  iintro HSt
  try dsimp only
  rw [wp_bind]
  iapply (part6 m ρ (K := K) (c := c)) $$ HSt
  iintro HSt
  try dsimp only
  rw [wp_bind]
  iapply (part7 m ρ (K := K) (c := c)) $$ HSt
  iintro HSt
  try dsimp only
  rw [wp_bind]
  iapply (part8 m ρ (K := K) (c := c)) $$ HSt
  iintro HSt
  try dsimp only
  rw [wp_bind]
  iapply (part9 m ρ (K := K) (c := c)) $$ HSt
  iintro HSt
  try dsimp only
  rw [wp_bind]
  iapply (part10 m ρ (K := K) (c := c)) $$ HSt
  iintro HSt
  try dsimp only
  rw [wp_bind]
  iapply (part11 m ρ (K := K) (c := c)) $$ HSt
  iintro HSt
  try dsimp only
  rw [wp_bind]
  iapply (part12 m ρ (K := K) (c := c)) $$ HSt
  iintro HSt
  try dsimp only
  rw [wp_bind]
  iapply (part13 m ρ (K := K) (c := c)) $$ HSt
  iintro HSt
  try dsimp only
  rw [wp_bind]
  iapply (part14 m ρ (K := K) (c := c)) $$ HSt
  iintro HSt
  try dsimp only
  rw [wp_bind]
  iapply (part15 m ρ (K := K) (c := c)) $$ HSt
  iintro HSt
  try dsimp only
  rw [wp_bind]
  iapply (part16 m ρ (K := K) (c := c)) $$ HSt
  iintro HSt
  try dsimp only
  rw [wp_bind]
  iapply (part17 m ρ (K := K) (c := c)) $$ HSt
  iintro HSt
  try dsimp only
  rw [wp_bind]
  iapply (part18 m ρ (K := K) (c := c)) $$ HSt
  iintro %c1_i32_604 HSt
  try dsimp only
  rw [wp_bind]
  iapply (part19 m ρ (K := K) (c := c)) $$ HSt
  iintro %c1_i32_643 HSt
  try dsimp only
  rw [wp_bind]
  iapply (part20 m ρ (K := K) (c := c)) $$ HSt
  iintro HSt
  try dsimp only
  rw [wp_bind]
  iapply (part21 m ρ (K := K) (c := c)) $$ HSt
  iintro HSt
  try dsimp only
  rw [wp_bind]
  iapply (part22 m ρ (K := K) (c := c)) $$ HSt
  iintro HSt
  try dsimp only
  rw [wp_bind]
  iapply (part23 m ρ (K := K) (c := c)) $$ HSt
  iintro HSt
  try dsimp only
  rw [wp_bind]
  iapply (part24 m ρ (K := K) (c := c)) $$ HSt
  iintro HSt
  try dsimp only
  rw [wp_bind]
  iapply (part25 m ρ (K := K) (c := c)) $$ HSt
  iintro HSt
  try dsimp only
  rw [wp_bind]
  iapply (part26 m ρ (K := K) (c := c)) $$ HSt
  iintro HSt
  try dsimp only
  rw [wp_bind]
  iapply (part27 m ρ (K := K) (c := c)) $$ HSt
  iintro HSt
  try dsimp only
  rw [wp_bind]
  iapply (part28 m ρ (K := K) (c := c)) $$ HSt
  iintro HSt
  try dsimp only
  rw [wp_bind]
  iapply (part29 m ρ (K := K) (c := c)) $$ HSt
  iintro HSt
  try dsimp only
  rw [wp_bind]
  iapply (part30 m ρ (K := K) (c := c)) $$ HSt
  iintro HSt
  try dsimp only
  rw [wp_bind]
  iapply (part31 m ρ (K := K) (c := c)) $$ HSt
  iintro HSt
  try dsimp only
  rw [wp_bind]
  iapply (part32 m ρ (K := K) (c := c)) $$ HSt
  iintro HSt
  try dsimp only
  rw [wp_bind]
  iapply (part33 m ρ (K := K) (c := c)) $$ HSt
  iintro HSt
  try dsimp only
  rw [wp_bind]
  iapply (part34 m ρ (K := K) (c := c)) $$ HSt
  iintro HSt
  try dsimp only
  rw [wp_bind]
  iapply (part35 m ρ (K := K) (c := c)) $$ HSt
  iintro HSt
  try dsimp only
  rw [wp_bind]
  iapply (part36 m ρ (c := c) (f := fo)) $$ [Hwo Ho]
  · isplitl [Hwo] <;> iassumption
  iintro ⟨Hwo, Ho⟩
  try dsimp only
  rw [wp_bind]
  iapply (part37 m ρ (K := K) (c := c)) $$ HSt
  iintro HSt
  try dsimp only
  rw [wp_bind]
  iapply (part38 m ρ (K := K) (c := c)) $$ HSt
  iintro HSt
  try dsimp only
  rw [wp_bind]
  iapply (part39 m ρ (K := K) (c := c)) $$ HSt
  iintro HSt
  try dsimp only
  rw [wp_bind]
  iapply (part40 m ρ (K := K) (c := c)) $$ HSt
  iintro HSt
  try dsimp only
  rw [wp_bind]
  iapply (part41 m ρ (K := K) (c := c)) $$ HSt
  iintro HSt
  try dsimp only
  rw [wp_bind]
  iapply (part42 m ρ (K := K) (c := c)) $$ HSt
  iintro HSt
  try dsimp only
  simp only [Prog.lift, Prog.bind_op, Prog.bind_ret, Prog.pure_eq_ret]
  iapply (wp_sent m ρ (out := []) 8 (by decide) 7 rfl) $$ HSt
  iintro HSt
  rw [wp_ret]
  imodintro
  iapply Hk
  unfold bodyPost
  ihave H := (finish m ρ K c f0) $$ [HSt Ho9 Ho17 HzB Hs0 Hz9 Hz17]
  · isplitl [HSt]; · iexact HSt
    isplitl [Ho9]; · iexact Ho9
    isplitl [Ho17]; · iexact Ho17
    isplitl [HzB]; · iexact HzB
    isplitl [Hs0]; · iexact Hs0
    isplitl [Hz9] <;> iassumption
  icases H with ⟨HΦ, HO⟩
  isplitl [HΦ]; · iexact HΦ
  isplitl [HO]; · iexact HO
  isplitl [Hx]; · iexact Hx
  isplitl [Hwq]; · iexact Hwq
  isplitl [Hwo]; · iexact Hwo
  isplitl [HK]; · iexact HK
  isplitl [HV] <;> iassumption

def bodyPre' (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost' (c : Dev nD) : sProp 𝕄 :=
  iprop(Φ₁ c ∗ (dats m ρ 0 c).owesAt () t₀.succ ∗ stg c cc0_stg0_0 (xstg m ρ c) ∗ stg c cc0_stg1_0 (wqstg m ρ c)
    ∗ stg c cc0_stg2_0 (wostg m ρ c) ∗ stg c cc0_stg3_0 (kstg m ρ c) ∗ stg c cc0_stg4_0 (vstg m ρ c) ∗ stg c cc0_stg5_0 (outV m ρ c))

section Before
variable (c : Dev nD)
/-- What window 0 holds when the body starts. -/
theorem before_0 (d) : (dats m ρ 0 c).before (0 : Fin 6) t₀ d = xstg m ρ c := by unfold Dat.before; rw [if_pos (fetch0_0 t₀)]; rfl
/-- What window 1 holds when the body starts. -/
theorem before_1 (d) : (dats m ρ 0 c).before (1 : Fin 6) t₀ d = wqstg m ρ c := by unfold Dat.before; rw [if_pos (fetch0_1 t₀)]; rfl
/-- What window 2 holds when the body starts. -/
theorem before_2 (d) : (dats m ρ 0 c).before (2 : Fin 6) t₀ d = wostg m ρ c := by unfold Dat.before; rw [if_pos (fetch0_2 t₀)]; rfl
/-- What window 3 holds when the body starts. -/
theorem before_3 (d) : (dats m ρ 0 c).before (3 : Fin 6) t₀ d = kstg m ρ c := by unfold Dat.before; rw [if_pos (fetch0_3 t₀)]; rfl
/-- What window 4 holds when the body starts. -/
theorem before_4 (d) : (dats m ρ 0 c).before (4 : Fin 6) t₀ d = vstg m ρ c := by unfold Dat.before; rw [if_pos (fetch0_4 t₀)]; rfl
end Before

omit [FloatOps F] in
theorem stg_intro (c : Dev nD) (b : Ref sig .tc) (X : b.ty.Contents (Elt F)) : ((((c : Thread nD τ).loc b) ↦{fullShare} X) : sProp 𝕄) ⊢ stg c b X := by
  iintro H; iexists X; isplitr; · (ipureintro; rfl)
  iexact H
omit [FloatOps F] in
theorem stg_elim (c : Dev nD) (b : Ref sig .tc) (X : b.ty.Contents (Elt F)) : (stg c b X : sProp 𝕄) ⊢ (((c : Thread nD τ).loc b) ↦{fullShare} X) := by
  iintro ⟨%f, %h, H⟩; subst h; iexact H

set_option maxRecDepth 8000 in
/-- The body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body xM (Memref.isWhole_whole _) wqM (Memref.isWhole_whole _) woM (Memref.isWhole_whole _) kM (Memref.isWhole_whole _) vM (Memref.isWhole_whole _) oM (Memref.isWhole_whole _) cM (Memref.isWhole_whole _) cc0_scratch1 cc0_scratch2) (fun _ => bodyPost' m ρ c)
  unfold bodyPre' Φ₀ start
  simp only [before_0, before_1, before_2, before_3, before_4]
  iintro ⟨⟨⟨⟨%K, Hg⟩, HcB, Hcr, Hlev⟩, Hscr⟩, Ho, ⟨%d0, Hx⟩, ⟨%d1, Hwq⟩, ⟨%d2, Hwo⟩, ⟨%d3, HK⟩, ⟨%d4, HV⟩, ⟨%d5, %fo, %hfo, Hout⟩⟩
  ihave Hx := (stg_elim c _ _) $$ Hx
  ihave Hwq := (stg_elim c _ _) $$ Hwq
  ihave Hwo := (stg_elim c _ _) $$ Hwo
  ihave HK := (stg_elim c _ _) $$ HK
  ihave HV := (stg_elim c _ _) $$ HV
  unfold Dat.owesAt Pipeline.owesWithin
  icases Ho with ⟨%W, %hW, HO⟩
  rw [show (dats m ρ 0 c).owed t₀.castSucc = O₀ c from rfl]
  iapply (sound_body m ρ K c fun _ => bodyPost' m ρ c)
  isplitr []
  · unfold bodyPre
    isplitl [Hg HcB Hcr Hlev Hscr]
    · isplitl [Hg]; · iexact Hg
      isplitl [HcB]; · iexact HcB
      isplitl [Hcr]; · iexact Hcr
      isplitl [Hlev] <;> iassumption
    isplitl [HO]; · iexists W; iexact HO
    isplitl [Hx]; · iexact Hx
    isplitl [Hwq]; · iexact Hwq
    isplitl [Hwo]; · iexact Hwo
    isplitl [HK]; · iexact HK
    isplitl [HV]; · iexact HV
    iexists fo; iexact Hout
  · unfold bodyPost bodyPost' Dat.owesAt Pipeline.owesWithin
    rw [show (dats m ρ 0 c).owed t₀.succ = 0 from rfl]
    iintro ⟨HΦ, ⟨%W', HO⟩, Hx, Hwq, Hwo, HK, HV, Hout⟩
    isplitl [HΦ]; · iexact HΦ
    isplitl [HO]
    · iexists W'
      isplitr; · ipureintro; exact fun _ _ => Or.inl trivial
      iexact HO
    isplitl [Hx]; · iapply (stg_intro c cc0_stg0_0 _); iexact Hx
    isplitl [Hwq]; · iapply (stg_intro c cc0_stg1_0 _); iexact Hwq
    isplitl [Hwo]; · iapply (stg_intro c cc0_stg2_0 _); iexact Hwo
    isplitl [HK]; · iapply (stg_intro c cc0_stg3_0 _); iexact HK
    isplitl [HV]; · iapply (stg_intro c cc0_stg4_0 _); iexact HV
    iapply (stg_intro c cc0_stg5_0 _); iexact Hout

end Cert.KernelIdealProof

end
-- ==== Proof.KernelIdeal.Launch.lean ====
/-
# The launch: the kernel's run from any memory

The ring's ghost state is minted, dealt around the ring and put under the cells' invariants; each device then runs its
body, and `run_main` says what the launch leaves.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own (scoped) semaphores: send and receive, by slot. -/
abbrev osem (k : Bool × Fin 18) : SemLoc sig := csem (some k)

set_option maxRecDepth 4000 in
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Different indices, different semaphores. -/
theorem csem_injective : Function.Injective csem := by decide
/-- Different indices, different cells. -/
theorem kcell_injective : Function.Injective kcell := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- The duty tokens as minted: each device's barrier's two, and one for each send and receive cell. -/
def tokN : Bool ⊕ (Bool × Fin 18) → CI × Bool
  | .inl b => (none, b)
  | .inr k => (some k, false)
/-- Different tokens, different numbers. -/
theorem tokN_injective : Function.Injective tokN := by decide
def tokOf (cj : Dev nD × (Bool ⊕ (Bool × Fin 18))) : GSem nD τ sig × ℕ × Bool := (kcell (cj.1, (tokN cj.2).1), 0, (tokN cj.2).2)
/-- Different indices, different tokens. -/
theorem tokOf_injective : Function.Injective tokOf := by
  rintro ⟨c, j⟩ ⟨c', j'⟩ h
  have h1 := kcell_injective (congrArg Prod.fst h)
  have h2 : (tokN j).2 = (tokN j').2 := congrArg (fun x : GSem nD τ sig × ℕ × Bool => x.2.2) h
  have h3 : c = c' := congrArg Prod.fst h1
  have h4 : (tokN j).1 = (tokN j').1 := congrArg Prod.snd h1
  rw [h3, tokN_injective (Prod.ext h4 h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ (bigSep Finset.univ fun j : Fin 18 => dutyTok ER (sendCell c j) 0 false)
    ∗ bigSep Finset.univ fun j : Fin 18 => dutyTok ER (recvCell c j) 0 false)

/-- What the launch element deals device `c`. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_pair (Φ : Bool × Fin 18 → sProp 𝕄) :
    bigSep Finset.univ Φ = iprop((bigSep Finset.univ fun j => Φ (false, j)) ∗ bigSep Finset.univ fun j => Φ (true, j)) := by
  rw [bigSep_univ_prod]
  exact bigSep_univ_eq_bigSepL [false, true] (by decide) (by decide) _

omit [FloatOps F] in
theorem bigSep_CI (Φ : CI → sProp 𝕄) : bigSep Finset.univ Φ = iprop(Φ none ∗ bigSep Finset.univ fun k => Φ (some k)) := by
  have e : (Finset.univ : Finset CI) = insert none (Finset.univ.map Function.Embedding.some) := by decide
  rw [e, bigSep_insert (by decide), bigSep_map]; rfl

omit [FloatOps F] in
theorem bigSep_sum (Φ : Bool ⊕ (Bool × Fin 18) → sProp 𝕄) :
    bigSep Finset.univ Φ = iprop(Φ (.inl false) ∗ Φ (.inl true) ∗ bigSep Finset.univ fun k => Φ (.inr k)) := by
  have e : (Finset.univ : Finset (Bool ⊕ (Bool × Fin 18))) = insert (.inl false) (insert (.inl true) (Finset.univ.map Function.Embedding.inr)) := by decide
  rw [e, bigSep_insert (by decide), bigSep_insert (by decide), bigSep_map]
  rfl

/-- The ring's tokens, from nothing. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_sum, bigSep_pair]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Bool × Fin 18 => semVal (kcell (c, some k)) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨HS, HB⟩
  isplitl [HB]; · iexact HB
  iexact HS

/-- The cells of device `c` go under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok ER (barCell (nxt c)) 0 false ∗ dutyTok ER (barCell (prv c)) 0 true
    ∗ (bigSep Finset.univ fun j : Fin 18 => dutyTok ER (sendCell c j) 0 false)
    ∗ bigSep Finset.univ fun j : Fin 18 => dutyTok ER (recvCell (tgt j c) j) 0 false)
def linear (c : Dev nD) : sProp 𝕄 :=
  iprop((bigSep Finset.univ fun k : CI => atPos ER (kcell (c, k)) 0 ∅ 0) ∗ payToks c)

omit [FloatOps F] in
/-- A conjunction over all slots, by the idle and the filled ones. -/
theorem by_hops (Φ : Fin 18 → sProp 𝕄) : bigSep Finset.univ Φ ⊢ iprop(bigL Φ idle ∗ bigL Φ hops) :=
  (bigL_univ Φ (idle ++ hops) idle_hops_nodup idle_hops_all).trans (bigL_split Φ idle hops)

/-- One device's part of the tokens. -/
theorem ghost_intro (K : Dev nD × CI → ℕ) (c : Dev nD) : iprop(records m ρ K ∗ linear c) ⊢ G' m ρ c := by
  unfold linear payToks G' ghost
  rw [bigSep_CI, bigSep_pair]
  iintro ⟨HR, ⟨HaB, HaS, HaV⟩, HtN, HtP, HtS, HtV⟩
  iexists K
  isplitl [HR]; · iexact HR
  isplitl [HaB]; · iexact HaB
  isplitl [HtP]; · iexact HtP
  isplitl [HtN]; · iexact HtN
  ihave HaS := (show (bigSep Finset.univ fun j : Fin 18 => atPos ER (kcell (c, some (false, j))) 0 ∅ 0)
      ⊢ iprop(bigL (fun j => atPos ER (sendCell c j) 0 ∅ 0) idle ∗ bigL (fun j => atPos ER (sendCell c j) 0 ∅ 0) hops) from by_hops _) $$ HaS
  ihave HaV := (show (bigSep Finset.univ fun j : Fin 18 => atPos ER (kcell (c, some (true, j))) 0 ∅ 0)
      ⊢ iprop(bigL (fun j => atPos ER (recvCell c j) 0 ∅ 0) idle ∗ bigL (fun j => atPos ER (recvCell c j) 0 ∅ 0) hops) from by_hops _) $$ HaV
  ihave HtS := (by_hops fun j => dutyTok ER (sendCell c j) 0 false) $$ HtS
  ihave HtV := (by_hops fun j => dutyTok ER (recvCell (tgt j c) j) 0 false) $$ HtV
  icases HaS with ⟨HaSi, HaS⟩
  icases HaV with ⟨HaVi, HaV⟩
  icases HtS with ⟨-, HtS⟩
  icases HtV with ⟨-, HtV⟩
  isplitr [HaSi HaVi]
  · iapply (bigL_sep (fun j => atPos ER (sendCell c j) 0 ∅ 0)
      (fun j => iprop(atPos ER (recvCell c j) 0 ∅ 0 ∗ dutyTok ER (sendCell c j) 0 false ∗ dutyTok ER (recvCell (tgt j c) j) 0 false)) hops)
    isplitl [HaS]; · iexact HaS
    iapply (bigL_sep (fun j => atPos ER (recvCell c j) 0 ∅ 0)
      (fun j => iprop(dutyTok ER (sendCell c j) 0 false ∗ dutyTok ER (recvCell (tgt j c) j) 0 false)) hops)
    isplitl [HaV]; · iexact HaV
    iapply (bigL_sep (fun j => dutyTok ER (sendCell c j) 0 false) (fun j => dutyTok ER (recvCell (tgt j c) j) 0 false) hops)
    isplitl [HtS] <;> iassumption
  · iapply (bigL_sep (fun j => atPos ER (sendCell c j) 0 ∅ 0) (fun j => atPos ER (recvCell c j) 0 ∅ 0) idle)
    isplitl [HaSi] <;> iassumption

omit [FloatOps F] in
theorem bigSep_swap (Φ : Dev nD → Fin 18 → sProp 𝕄) :
    (bigSep Finset.univ fun c => bigSep Finset.univ fun j => Φ c j) = bigSep Finset.univ fun j => bigSep Finset.univ fun c => Φ c j := by
  rw [← bigSep_univ_prod (fun x : Dev nD × Fin 18 => Φ x.1 x.2), ← bigSep_univ_prod (fun x : Fin 18 × Dev nD => Φ x.2 x.1),
    bigSep_univ_equiv (Equiv.prodComm (Fin 18) (Dev nD)) (fun x : Dev nD × Fin 18 => Φ x.1 x.2)]
  rfl

omit [FloatOps F] in
theorem recv_around : (bigSep Finset.univ fun c : Dev nD => bigSep Finset.univ fun j : Fin 18 => (dutyTok ER (recvCell c j) 0 false : sProp 𝕄))
    = bigSep Finset.univ fun c : Dev nD => bigSep Finset.univ fun j : Fin 18 => dutyTok ER (recvCell (tgt j c) j) 0 false := by
  rw [bigSep_swap, bigSep_swap fun (c : Dev nD) (j : Fin 18) => dutyTok ER (recvCell (tgt j c) j) 0 false]
  exact bigSep_congr fun j _ => bigSep_univ_equiv (tgtE j) (fun c : Dev nD => (dutyTok ER (recvCell c j) 0 false : sProp 𝕄))

omit [FloatOps F] in
/-- The tokens dealt around the ring: each to the device that pays the duty. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_around,
    bigSep_univ_equiv ring (fun c : Dev nD => (dutyTok ER (barCell c) 0 false : sProp 𝕄)),
    bigSep_univ_equiv ring.symm (fun c : Dev nD => (dutyTok ER (barCell c) 0 true : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens, device by device. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (show iprop((bigSep Finset.univ fun c : Dev nD => bigSep Finset.univ fun k : CI => atPos ER (kcell (c, k)) 0 ∅ 0) ∗ bigSep Finset.univ payToks)
        = (bigSep Finset.univ linear : sProp 𝕄) from
      (bigSep_sep' Finset.univ (fun c : Dev nD => bigSep Finset.univ fun k : CI => (atPos ER (kcell (c, k)) 0 ∅ 0 : sProp 𝕄)) payToks).symm))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_eq_iff {a b : Dev nD} {i j : CI} : kcell (a, i) = kcell (b, j) ↔ a = b ∧ i = j :=
  ⟨fun h => ⟨congrArg Prod.fst (kcell_injective h), congrArg Prod.snd (kcell_injective h)⟩, fun ⟨h1, h2⟩ => by rw [h1, h2]⟩
/-- Barrier cells differ by device. -/
theorem bar_eq_iff {a b : Dev nD} : barCell a = barCell b ↔ a = b :=
  (kcell_eq_iff (i := none) (j := none)).trans ⟨fun h => h.1, fun h => ⟨h, rfl⟩⟩
/-- Receive cells differ by device and slot. -/
theorem recv_eq_iff {a b : Dev nD} {i j : Fin 18} : recvCell a i = recvCell b j ↔ a = b ∧ i = j :=
  (kcell_eq_iff (i := some (true, i)) (j := some (true, j))).trans
    ⟨fun h => ⟨h.1, congrArg Prod.snd (Option.some.inj h.2)⟩, fun h => ⟨h.1, by rw [h.2]⟩⟩
/-- A barrier cell is no receive cell. -/
theorem bar_ne_recv (a b : Dev nD) (j : Fin 18) : barCell a ≠ recvCell b j := fun h =>
  absurd (kcell_eq_iff (i := none) (j := some (true, j)) |>.mp h).2 (by decide +revert)

/-- Copies owe nothing to a barrier cell. -/
theorem ow_bar (d c : Dev nD) (js : List (Fin 18)) : ow d js (barCell c) () = 0 := by
  induction js with
  | nil => rfl
  | cons k ks ih => unfold ow; rw [Pi.add_apply, Finsupp.add_apply, ih, tallyAt_ne_cell (bar_ne_recv _ _ _)]; rfl

/-- What device `d` owes device `c`'s barrier cell. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, ow_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- What copies owe to a receive cell. -/
theorem ow_recv (d c : Dev nD) (j : Fin 18) (js : List (Fin 18)) (hn : js.Nodup) :
    ow d js (recvCell c j) () = if j ∈ js ∧ d = (tgtE j).symm c then N else 0 := by
  induction js with
  | nil => rw [if_neg (fun h => absurd h.1 List.not_mem_nil)]; rfl
  | cons k ks ih =>
    unfold ow
    rw [Pi.add_apply, Finsupp.add_apply, ih (List.nodup_cons.mp hn).2, tallyAt_apply]
    have hk := (List.nodup_cons.mp hn).1
    by_cases e : j = k
    · subst e
      rw [if_neg (fun h => hk h.1), Nat.zero_add]
      refine if_congr ?_ rfl rfl
      rw [recv_eq_iff]
      exact ⟨fun h => ⟨List.mem_cons_self, by rw [h.1.1]; exact ((tgtE j).symm_apply_apply d).symm⟩,
        fun h => ⟨⟨by rw [h.2]; exact ((tgtE j).apply_symm_apply c).symm, rfl⟩, rfl⟩⟩
    · rw [if_neg (fun h : recvCell c j = recvCell (tgt k d) k ∧ () = () => e (recv_eq_iff.mp h.1).2), Nat.add_zero]
      refine if_congr ?_ rfl rfl
      exact and_congr_left fun _ => ⟨fun h => List.mem_cons_of_mem _ h, fun h => (List.mem_cons.mp h).resolve_left e⟩

/-- No two copies fill the same slot. -/
theorem hops_nodup : hops.Nodup := by decide

/-- What device `d` owes a receive cell of device `c`. -/
theorem owed_recv (d c : Dev nD) (j : Fin 18) (hj : j ∈ hops) : O₀ d (recvCell c j) () = if d = (tgtE j).symm c then N else 0 := by
  unfold O₀ O₁
  rw [Pi.add_apply, Finsupp.add_apply, Pi.add_apply, Finsupp.add_apply, tallyAt_ne_cell (bar_ne_recv _ _ _).symm, tallyAt_ne_cell (bar_ne_recv _ _ _).symm,
    Finsupp.zero_apply, Nat.add_zero, Nat.add_zero, ow_recv d c j hops hops_nodup]
  exact if_congr ⟨fun h => h.2, fun h => ⟨hj, h⟩⟩ rfl rfl

/-- The credits a barrier cell is owed in all. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

/-- The credit a receive cell is owed in all. -/
theorem launch_recv (c : Dev nD) (j : Fin 18) (hj : j ∈ hops) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ ((tgtE j).symm c) fun _ => N,
    if_pos (Finset.mem_univ _)]

omit [FloatOps F] in
theorem take_recv (Ψ : SemLoc sig → sProp 𝕄) (js : List (Fin 18)) (hn : js.Nodup) :
    ∀ S : Finset (SemLoc sig), (∀ j ∈ js, SemLoc.dma (recvQ j) ∈ S) → (bigSep S Ψ ⊢ bigL (fun j => Ψ (.dma (recvQ j))) js) := by
  induction js with
  | nil => intro S _; show _ ⊢ iprop(emp); iintro -; iempintro
  | cons k ks ih =>
    intro S h
    rw [bigSep_erase (h k List.mem_cons_self)]
    exact sep_mono_right (ih (List.nodup_cons.mp hn).2 _ fun j hj => Finset.mem_erase.mpr
      ⟨fun e => (List.nodup_cons.mp hn).1 (by
        have : j = k := congrArg Prod.snd (Option.some.inj (csem_injective (a₁ := some (true, j)) (a₂ := some (true, k)) e))
        exact this ▸ hj), h j (List.mem_cons_of_mem _ hj)⟩)

omit [FloatOps F] in
theorem creds (c : Dev nD) :
    (Pipeline.launchCred O₀ c : sProp 𝕄) ⊢ iprop(cred (tallyAt (barCell c) () 2) ∗ bigL (credR c) hops) := by
  unfold Pipeline.launchCred
  rw [bigSep_univ_at _ (SemLoc.reg barS), launch_bar]
  refine sep_mono_right ((take_recv _ hops hops_nodup _ fun j _ => Finset.mem_erase.mpr ⟨(by intro h; cases h), Finset.mem_univ _⟩).trans
    (bigL_mono hops fun j hj => ?_))
  rw [launch_recv c j hj]
  exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- What a device has at its start. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

omit [FloatOps F] in
theorem all_slots (Φ : Fin 18 → sProp 𝕄) : bigL Φ (idle ++ hops) ⊢ bigSep Finset.univ Φ := bigL_univ' Φ (idle ++ hops) idle_hops_nodup idle_hops_all

/-- What a device has at its end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_pair]
  unfold Φ₁
  iintro ⟨Hr, HzB, HzS, HzV⟩
  isplitl [HzB]; · iexact HzB
  isplitl [HzS HzV]
  · isplitl [HzS]
    · iapply (all_slots fun j => semVal (sendCell c j) 0); iexact HzS
    · iapply (all_slots fun j => semVal (recvCell c j) 0); iexact HzV
  iexact Hr

/-- The pipeline's waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of window `w` after the run, on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, at any float values: every weakly fair execution of the sixteen kernels
    terminates, and every final state has each device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays hold after the run what they held. -/
theorem finalA_in (c : Dev nD) (w : Fin 6) (hw : w.val < 5) : finalA m ρ c w = (s₀ m ρ).mem ((cfg0.win w).arr.view.loc (c : Thread nD τ)) := by
  refine (dats (F := F) m ρ 0 c).arrAt_in w ?_ _
  fin_cases w <;> first | rfl | exact absurd hw (by decide)

end Cert.KernelIdealProof

end
-- ==== Proof.KernelIdeal.Frames.lean ====
/-
# What a run leaves in the argument arrays and in the result array
-/
module

public import proofs.«01_k».proof.Proof.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every run ends with the argument arrays as they were, the result array at the computed contents, and all counters
    at zero. -/
theorem run_args : θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1 c (5 : Fin 6),
      (h.1 c (0 : Fin 6)).trans (finalA_in m ρ c (0 : Fin 6) (by decide)),
      (h.1 c (1 : Fin 6)).trans (finalA_in m ρ c (1 : Fin 6) (by decide)),
      (h.1 c (3 : Fin 6)).trans (finalA_in m ρ c (3 : Fin 6) (by decide)),
      (h.1 c (4 : Fin 6)).trans (finalA_in m ρ c (4 : Fin 6) (by decide)),
      (h.1 c (2 : Fin 6)).trans (finalA_in m ρ c (2 : Fin 6) (by decide))⟩, h.2⟩)
    (run_main m ρ)

end Cert.KernelIdealProof

end
-- ==== Proof.Value.Reads.lean ====
/-
# What the kernel reads

The blocks staged on a device are its argument buffers; the scratch slots hold the key and value blocks of the devices they
come from; the result buffer ends as the two rows stored. Each read at an index.
-/
module

public import proofs.«01_k».proof.Proof.KernelIdeal.Frames
public import Idealize.ShloMosaic.Lib.Pointwise

@[expose] public section

set_option maxRecDepth 16384

noncomputable section

namespace Cert.KernelIdealValue

open Cert.KernelIdeal Cert.KernelIdeal.Gen Cert.KernelIdealProof Idealize.ShloMosaic Idealize.ShloMosaic.TcCoe

variable (m : (ℓ : Loc nD τ sig) → Buf (Elt Ideal) ℓ) (ρ : Dev nD → PrngReg) (c : Dev nD)

/-- The kernel's first input is the first argument. -/
theorem xstg_eq : xstg m ρ c = m ((c : Thread nD τ).loc main_arg0) :=
  Memref.read_access_unit_zero (Elt Ideal) main_arg0 (funext fun a => by fin_cases a <;> decide) (fun a => by fin_cases a <;> decide) _
/-- The query weights are the second argument. -/
theorem wqstg_eq : wqstg m ρ c = m ((c : Thread nD τ).loc main_arg1) :=
  Memref.read_access_unit_zero (Elt Ideal) main_arg1 (funext fun a => by fin_cases a <;> decide) (fun a => by fin_cases a <;> decide) _
/-- The keys are the third argument. -/
theorem kstg_eq : kstg m ρ c = m ((c : Thread nD τ).loc main_arg2) :=
  Memref.read_access_unit_zero (Elt Ideal) main_arg2 (funext fun a => by fin_cases a <;> decide) (fun a => by fin_cases a <;> decide) _
/-- The values are the fourth argument. -/
theorem vstg_eq : vstg m ρ c = m ((c : Thread nD τ).loc main_arg3) :=
  Memref.read_access_unit_zero (Elt Ideal) main_arg3 (funext fun a => by fin_cases a <;> decide) (fun a => by fin_cases a <;> decide) _
/-- The output weights are the fifth argument. -/
theorem wostg_eq : wostg m ρ c = m ((c : Thread nD τ).loc main_arg4) :=
  Memref.read_access_unit_zero (Elt Ideal) main_arg4 (funext fun a => by fin_cases a <;> decide) (fun a => by fin_cases a <;> decide) _

/-- The result buffer ends as the block stored. -/
theorem finalA_out : finalA m ρ c (5 : Fin 6) = outV m ρ c := by
  have e : (win0_5.blk (0 : Fin 1)).view.read (Elt Ideal) (finalA m ρ c (5 : Fin 6)) = outV m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt Ideal) main_v1 (funext fun a => by fin_cases a <;> decide) (fun a => by fin_cases a <;> decide) _).symm.trans e

/-- The keys in a device's own slot are its third argument. -/
theorem kOwn_apply (b : Fin 2) (j : Fin 128) (h : Fin 8) (d : Fin 64) :
    kOwn m ρ c (ix7 0 0 0 b j h d) = kstg m ρ c (ix4 b j h d) := by
  unfold kOwn
  pointwise [k0_pay1]

/-- The values in a device's own slot are its fourth argument. -/
theorem vOwn_apply (b : Fin 2) (j : Fin 128) (h : Fin 8) (d : Fin 64) :
    vOwn m ρ c (ix7 0 0 0 b j h d) = vstg m ρ c (ix4 b j h d) := by
  unfold vOwn
  pointwise [k0_pay2, k0_pay3]

/-- The place inside its slot of an entry of the buffer. -/
theorem inSlot_ix (s : Fin 2) (r : Fin 9) (kv b : Fin 2) (j : Fin 128) (h : Fin 8) (d : Fin 64) :
    inSlot (ix7 s r kv b j h d) = ix7 0 0 0 b j h d := by
  funext a; fin_cases a <;> rfl

/-- A load from a slot reads the own block of the device the slot's contents come from. -/
theorem ld_apply (off : Fin 7 → Nat) (hb : ∀ a, off a + S1x1x1x1x128x8x64.size a ≤ S2x9x2x2x128x8x64.size a)
    (s : Fin 2) (r : Fin 9) (kv b : Fin 2) (ho : off = ![s.val, r.val, kv.val, b.val, 0, 0, 0]) (j : Fin 128) (h : Fin 8) (d : Fin 64) :
    ld m ρ c off hb (ix7 0 0 0 0 j h d) = commF m ρ c (ix7 s r kv b j h d) := by
  subst ho
  refine congrArg (commF m ρ c) (funext fun a => ?_)
  fin_cases a <;> refine Fin.ext ?_
  all_goals first | rfl | exact (Nat.zero_add _).trans (Nat.one_mul _)

/-- A key block read out of slot `(s, r)`, batch row `b`: that of the device the slot comes from. -/
theorem ld_key (off : Fin 7 → Nat) (hb : ∀ a, off a + S1x1x1x1x128x8x64.size a ≤ S2x9x2x2x128x8x64.size a)
    (s : Fin 2) (r : Fin 9) (b : Fin 2) (ho : off = ![s.val, r.val, 0, b.val, 0, 0, 0]) (j : Fin 128) (h : Fin 8) (d : Fin 64) :
    ld m ρ c off hb (ix7 0 0 0 0 j h d)
      = m ((origin ⟨9 * s.val + r.val, by omega⟩ c : Thread nD τ).loc main_arg2) (ix4 b j h d) := by
  rw [ld_apply m ρ c off hb s r 0 b ho, ← kstg_eq m ρ, ← kOwn_apply]
  exact congrArg (kOwn m ρ _) (inSlot_ix s r 0 b j h d)

/-- A load of a slot's values. -/
theorem ld_value (off : Fin 7 → Nat) (hb : ∀ a, off a + S1x1x1x1x128x8x64.size a ≤ S2x9x2x2x128x8x64.size a)
    (s : Fin 2) (r : Fin 9) (b : Fin 2) (ho : off = ![s.val, r.val, 1, b.val, 0, 0, 0]) (j : Fin 128) (h : Fin 8) (d : Fin 64) :
    ld m ρ c off hb (ix7 0 0 0 0 j h d)
      = m ((origin ⟨9 * s.val + r.val, by omega⟩ c : Thread nD τ).loc main_arg3) (ix4 b j h d) := by
  rw [ld_apply m ρ c off hb s r 1 b ho, ← vstg_eq m ρ, ← vOwn_apply]
  exact congrArg (vOwn m ρ _) (inSlot_ix s r 1 b j h d)

/-- The queries of the two batch rows. -/
theorem q0_apply (x : Vec Ideal S2x128x512 .bf16) (wq : Vec Ideal S512x512 .bf16) (i : Fin 128) (h : Fin 8) (d : Fin 64) :
    k0_pay5 x wq (ix3 i h d) = ∑ e : Fin 512, x (ix3 0 i e) * wq (ix2 e ⟨h.val * 64 + d.val, by omega⟩) := by
  pointwise [k0_pay5, k0_pay4]
  have e0 : ∀ hh, (⟨i.val / 128, hh⟩ : Fin 2) = 0 := fun hh => Fin.ext (by show i.val / 128 = 0; omega)
  have e1 : ∀ hh, (⟨i.val % 128, hh⟩ : Fin 128) = i := fun hh => Fin.ext (by show i.val % 128 = i.val; omega)
  simp only [e0, e1]

/-- The query of batch row 1, at an index. -/
theorem q1_apply (x : Vec Ideal S2x128x512 .bf16) (wq : Vec Ideal S512x512 .bf16) (i : Fin 128) (h : Fin 8) (d : Fin 64) :
    k0_pay6 x wq (ix3 i h d) = ∑ e : Fin 512, x (ix3 1 i e) * wq (ix2 e ⟨h.val * 64 + d.val, by omega⟩) := by
  pointwise [k0_pay6, k0_pay4]
  have e0 : ∀ hh, (⟨(128 + i.val) / 128, hh⟩ : Fin 2) = 1 := fun hh => Fin.ext (by show (128 + i.val) / 128 = 1; omega)
  simp only [e0]

end Cert.KernelIdealValue

end
-- ==== Proof.Value.Softmax.lean ====
/-
# The running softmax over the extended reals

A running maximum `m`, denominator `l` and numerator `a`, taken over the keys block by block, are at every moment the
maximum, the sum of exponentials and the weighted sum of exponentials of all the keys seen so far, each with the maximum so
far subtracted. No score or value is assumed finite.
-/
module

public import Idealize.ShloMosaic.PureOps.Ideal
public import Idealize.ShloMosaic.PureOps.Ideal.Laws

@[expose] public section

namespace Cert.Softmax

open Idealize.ShloMosaic

/-! ## The exponential -/

theorem exp_nonneg (x : EReal) : 0 ≤ Ideal.exp x := by
  induction x with
  | bot => exact le_refl _
  | top => exact le_top
  | coe r => exact EReal.coe_nonneg.mpr (Real.exp_pos r).le

/-- The factor that carries sums from a maximum to a later one is never infinite. -/
theorem factor_ne_top {m m' : EReal} (h : m ≤ m') : Ideal.exp (m - m') ≠ ⊤ := by
  induction m with
  | bot => simp
  | top =>
    obtain rfl : m' = ⊤ := top_le_iff.mp h
    simp [sub_eq_add_neg]
  | coe r =>
    induction m' with
    | bot => exact absurd h (by simp)
    | top => simp
    | coe r' => rw [← EReal.coe_sub, Ideal.exp_coe]; exact EReal.coe_ne_top _

/-- An exponential taken against a maximum, carried to a later maximum, is the exponential against that one. -/
theorem exp_mul {x m m' : EReal} (h : x ≤ m) (h' : m ≤ m') : Ideal.exp (x - m) * Ideal.exp (m - m') = Ideal.exp (x - m') := by
  induction m with
  | bot =>
    obtain rfl : x = ⊥ := le_bot_iff.mp h
    simp
  | top =>
    obtain rfl : m' = ⊤ := top_le_iff.mp h'
    simp [sub_eq_add_neg]
  | coe r =>
    induction m' with
    | bot => exact absurd h' (by simp)
    | top => simp [sub_eq_add_neg]
    | coe r' =>
      induction x with
      | bot => simp
      | top => exact absurd h (by simp)
      | coe y =>
        rw [← EReal.coe_sub, ← EReal.coe_sub, ← EReal.coe_sub, Ideal.exp_coe, Ideal.exp_coe, Ideal.exp_coe, ← EReal.coe_mul, ← Real.exp_add]
        congr 2; ring

/-- A finite nonnegative factor goes into a sum. -/
theorem sum_mul_factor {ι : Type} (T : Finset ι) (g : ι → EReal) {c : EReal} (h0 : 0 ≤ c) (h1 : c ≠ ⊤) :
    (∑ k ∈ T, g k) * c = ∑ k ∈ T, g k * c := by
  classical
  induction T using Finset.induction_on with
  | empty => simp
  | insert a s ha ih => rw [Finset.sum_insert ha, Finset.sum_insert ha, EReal.right_distrib_of_nonneg_of_ne_top h0 h1, ih]

/-! ## The running state -/

variable {ι : Type} [DecidableEq ι]

/-- `m`, `l` and `a` are the maximum, the denominator and the numerator of the softmax over the keys `T`, for scores `s` and
    values `v`. -/
structure Holds (T : Finset ι) (s v : ι → EReal) (m l a : EReal) : Prop where
  max_eq : m = T.sup s
  den_eq : l = ∑ k ∈ T, Ideal.exp (s k - m)
  num_eq : a = ∑ k ∈ T, Ideal.exp (s k - m) * v k

/-- Before any key: the maximum is −∞, the sums are zero. -/
theorem Holds.empty (s v : ι → EReal) : Holds ∅ s v ⊥ 0 0 := ⟨rfl, rfl, rfl⟩

/-- Folding `max` from −∞ is the supremum. -/
theorem fold_max {n : Nat} (f : Fin n → EReal) : (Finset.univ : Finset (Fin n)).fold max ⊥ f = Finset.univ.sup f := rfl

/-- One block of fresh keys `f 0 … f (n-1)`: rescale both sums to the new maximum and add the block's terms. -/
theorem Holds.step {T : Finset ι} {s v : ι → EReal} {m l a : EReal} (H : Holds T s v m l a) {n : Nat} (f : Fin n → ι)
    (hf : Function.Injective f) (hd : ∀ k, f k ∉ T) {m' l' a' : EReal}
    (hm : m' = max m (Finset.univ.sup fun k => s (f k)))
    (hl : l' = l * Ideal.exp (m - m') + ∑ k, Ideal.exp (s (f k) - m'))
    (ha : a' = a * Ideal.exp (m - m') + ∑ k, Ideal.exp (s (f k) - m') * v (f k)) :
    Holds (T ∪ Finset.univ.image f) s v m' l' a' := by
  have hmm : m ≤ m' := hm ▸ le_max_left _ _
  have hle : ∀ k ∈ T, s k ≤ m := fun k hk => H.max_eq ▸ Finset.le_sup hk
  have hdis : Disjoint T (Finset.univ.image f) := by
    rw [Finset.disjoint_left]
    intro k hk hk'
    obtain ⟨j, -, rfl⟩ := Finset.mem_image.mp hk'
    exact hd j hk
  have h0 := exp_nonneg (m - m')
  have h1 := factor_ne_top hmm
  refine ⟨?_, ?_, ?_⟩
  · rw [hm, H.max_eq, Finset.sup_union, Finset.sup_image]; rfl
  · rw [hl, H.den_eq, sum_mul_factor T _ h0 h1, Finset.sum_union hdis, Finset.sum_image fun _ _ _ _ h => hf h]
    exact congrArg (· + _) (Finset.sum_congr rfl fun k hk => exp_mul (hle k hk) hmm)
  · rw [ha, H.num_eq, sum_mul_factor T _ h0 h1, Finset.sum_union hdis, Finset.sum_image fun _ _ _ _ h => hf h]
    refine congrArg (· + _) (Finset.sum_congr rfl fun k hk => ?_)
    rw [mul_right_comm, exp_mul (hle k hk) hmm]

/-- The state over a set of keys is unique. -/
theorem Holds.unique {T : Finset ι} {s v : ι → EReal} {m l a m' l' a' : EReal} (H : Holds T s v m l a) (H' : Holds T s v m' l' a') :
    m = m' ∧ l = l' ∧ a = a' := by
  have e : m = m' := H.max_eq.trans H'.max_eq.symm
  subst e
  exact ⟨rfl, H.den_eq.trans H'.den_eq.symm, H.num_eq.trans H'.num_eq.symm⟩

end Cert.Softmax

end
-- ==== Proof.Value.Blocks.lean ====
/-
# One step of the kernel over a block of keys

The kernel meets the keys in blocks of 128 or of 256 rows. Each step is written here as a function of the queries, the
block's keys and values and the running maximum, denominator and numerator; each is then read at an index, as exact sums
and maxima over the block.
-/
module

public import proofs.«01_k».proof.Proof.Gen.KernelIdeal
public import proofs.«01_k».proof.Proof.Value.Softmax
public import Idealize.ShloMosaic.Lib.Pointwise

@[expose] public section

set_option maxRecDepth 16384

noncomputable section

namespace Cert.KernelIdealValue

open Cert.KernelIdeal Cert.KernelIdeal.Gen Idealize.ShloMosaic

/-! ## The operations -/

section Ops

variable {F : FTy → Type} [FloatOps F]

/-- A slot's block read out of the buffer, without its unit axes. -/
def squeeze (l : Vec F S1x1x1x1x128x8x64 .bf16) : FVec F S128x8x64 .bf16 := shapeCast S128x8x64 l shapeCasts_S1x1x1x1x128x8x64_S128x8x64

/-- Two blocks one after the other. -/
def both (a b : FVec F S128x8x64 .bf16) : FVec F S256x8x64 .bf16 :=
  concatenate S256x8x64 0 [⟨S128x8x64, a⟩, ⟨S128x8x64, b⟩] concatenates_S128x8x64_S128x8x64_S256x8x64_d0

/-- The scores of a block of 128 keys. -/
def sc1 (q k : FVec F S128x8x64 .bf16) : FVec F S8x128x128 .f32 :=
  mulf (matmul dot_S128x8x64_S128x8x64_S8x128x128_2_2_0_0_1_1 none q k (constant S8x128x128 .f32 0x00000000#32)) (broadcast S8x128x128 (Scalar.ofBits .f32 0x3E000000#32))
/-- The running maximum after it. -/
def mx1 (q k : FVec F S128x8x64 .bf16) (M : FVec F S8x128x1 .f32) : FVec F S8x128x1 .f32 :=
  maximumf M (shapeCast S8x128x1 (multiReduction .maximumf [2] S8x128 (sc1 q k) 0xFF800000#32 reduces_S8x128x128_S8x128 (.inl rfl) rfl) shapeCasts_S8x128_S8x128x1)
/-- The factor that carries the sums to the new maximum. -/
def al1 (q k : FVec F S128x8x64 .bf16) (M : FVec F S8x128x1 .f32) : FVec F S8x128x1 .f32 := exp (subf M (mx1 q k M))
/-- The exponentials of the block's scores. -/
def pr1 (q k : FVec F S128x8x64 .bf16) (M : FVec F S8x128x1 .f32) : FVec F S8x128x128 .f32 :=
  exp (subf (sc1 q k) (broadcastTo S8x128x128 (mx1 q k M) broadcasts_S8x128x1_S8x128x128))
/-- The running denominator after it. -/
def den1 (q k : FVec F S128x8x64 .bf16) (M L : FVec F S8x128x1 .f32) : FVec F S8x128x1 .f32 :=
  addf (mulf L (al1 q k M)) (shapeCast S8x128x1 (multiReduction .add [2] S8x128 (pr1 q k M) 0x00000000#32 reduces_S8x128x128_S8x128 (.inl rfl) rfl) shapeCasts_S8x128_S8x128x1)
/-- The running numerator after it. -/
def num1 (q k v : FVec F S128x8x64 .bf16) (M : FVec F S8x128x1 .f32) (A : FVec F S8x128x64 .f32) : FVec F S8x128x64 .f32 :=
  addf (mulf A (broadcastTo S8x128x64 (al1 q k M) broadcasts_S8x128x1_S8x128x64))
    (matmul dot_S8x128x128_S128x8x64_S8x128x64_2_0_1_2_0_1 none (truncf .bf16 (pr1 q k M) bitsLt_bf16_f32) v (constant S8x128x64 .f32 0x00000000#32))

/-- The same for a block of 256 keys. -/
def sc2 (q : FVec F S128x8x64 .bf16) (k : FVec F S256x8x64 .bf16) : FVec F S8x128x256 .f32 :=
  mulf (matmul dot_S128x8x64_S256x8x64_S8x128x256_2_2_0_0_1_1 none q k (constant S8x128x256 .f32 0x00000000#32)) (broadcast S8x128x256 (Scalar.ofBits .f32 0x3E000000#32))
/-- The running maximum after a block of 256 keys. -/
def mx2 (q : FVec F S128x8x64 .bf16) (k : FVec F S256x8x64 .bf16) (M : FVec F S8x128x1 .f32) : FVec F S8x128x1 .f32 :=
  maximumf M (shapeCast S8x128x1 (multiReduction .maximumf [2] S8x128 (sc2 q k) 0xFF800000#32 reduces_S8x128x256_S8x128 (.inl rfl) rfl) shapeCasts_S8x128_S8x128x1)
/-- The factor that carries the sums to it. -/
def al2 (q : FVec F S128x8x64 .bf16) (k : FVec F S256x8x64 .bf16) (M : FVec F S8x128x1 .f32) : FVec F S8x128x1 .f32 := exp (subf M (mx2 q k M))
/-- The exponentials of the block's scores. -/
def pr2 (q : FVec F S128x8x64 .bf16) (k : FVec F S256x8x64 .bf16) (M : FVec F S8x128x1 .f32) : FVec F S8x128x256 .f32 :=
  exp (subf (sc2 q k) (broadcastTo S8x128x256 (mx2 q k M) broadcasts_S8x128x1_S8x128x256))
/-- The running denominator after it. -/
def den2 (q : FVec F S128x8x64 .bf16) (k : FVec F S256x8x64 .bf16) (M L : FVec F S8x128x1 .f32) : FVec F S8x128x1 .f32 :=
  addf (mulf L (al2 q k M)) (shapeCast S8x128x1 (multiReduction .add [2] S8x128 (pr2 q k M) 0x00000000#32 reduces_S8x128x256_S8x128 (.inl rfl) rfl) shapeCasts_S8x128_S8x128x1)
/-- The running numerator after it. -/
def num2 (q : FVec F S128x8x64 .bf16) (k v : FVec F S256x8x64 .bf16) (M : FVec F S8x128x1 .f32) (A : FVec F S8x128x64 .f32) : FVec F S8x128x64 .f32 :=
  addf (mulf A (broadcastTo S8x128x64 (al2 q k M) broadcasts_S8x128x1_S8x128x64))
    (matmul dot_S8x128x256_S256x8x64_S8x128x64_2_0_1_2_0_1 none (truncf .bf16 (pr2 q k M) bitsLt_bf16_f32) v (constant S8x128x64 .f32 0x00000000#32))

/-- The quotient, heads side by side, times the output weights. -/
def fin (L : FVec F S8x128x1 .f32) (A : FVec F S8x128x64 .f32) (wo : Vec F S512x512 .bf16) : FVec F S1x128x512 .f32 :=
  shapeCast S1x128x512 (matmul dot_S128x512_S512x512_S128x512_1_0_0_1_n_n none
    (truncf .bf16 (shapeCast S128x512 (transpose S128x8x64 [1, 0, 2] (divf A (broadcastTo S8x128x64 L broadcasts_S8x128x1_S8x128x64)) transposes_S8x128x64_p1_0_2_S128x8x64) shapeCasts_S128x8x64_S128x512) bitsLt_bf16_f32)
    (shapeCast S512x512 wo shapeCasts_S512x512_S512x512) (constant S128x512 .f32 0x00000000#32)) shapeCasts_S128x512_S1x128x512

end Ops

/-! ## Read at an index -/

/-- The factor the scores are scaled by. -/
abbrev scale : EReal := Ideal.ofBits .f32 0x3E000000#32

/-- The float word for minus infinity is the least extended real. -/
theorem ofBits_neg_inf : Ideal.ofBits .f32 0xFF800000#32 = ⊥ := by simp [Ideal.ofBits, Ideal.ieee]

/-- A score is the product of query and key over the 64 coordinates, scaled. -/
theorem sc1_apply (q k : FVec Ideal S128x8x64 .bf16) (h : Fin 8) (i j : Fin 128) :
    sc1 q k (ix3 h i j) = (∑ d : Fin 64, q (ix3 i h d) * k (ix3 j h d)) * scale := by
  pointwise [sc1]

/-- The new maximum is that of the old one and the block's scores. -/
theorem mx1_apply (q k : FVec Ideal S128x8x64 .bf16) (M : FVec Ideal S8x128x1 .f32) (h : Fin 8) (i : Fin 128) :
    mx1 q k M (ix3 h i 0) = max (M (ix3 h i 0)) (Finset.univ.sup fun j : Fin 128 => sc1 q k (ix3 h i j)) := by
  pointwise [mx1, ofBits_neg_inf]
  rfl

/-- The new denominator is the old one, rescaled, and the sum of the block's exponentials. -/
theorem den1_apply (q k : FVec Ideal S128x8x64 .bf16) (M L : FVec Ideal S8x128x1 .f32) (h : Fin 8) (i : Fin 128) :
    den1 q k M L (ix3 h i 0) = L (ix3 h i 0) * Ideal.exp (M (ix3 h i 0) - mx1 q k M (ix3 h i 0))
      + ∑ j : Fin 128, Ideal.exp (sc1 q k (ix3 h i j) - mx1 q k M (ix3 h i 0)) := by
  pointwise [den1, al1, pr1]

/-- The new numerator is the old one, rescaled, and the sum of the block's exponentials times its values. -/
theorem num1_apply (q k v : FVec Ideal S128x8x64 .bf16) (M : FVec Ideal S8x128x1 .f32) (A : FVec Ideal S8x128x64 .f32) (h : Fin 8) (i : Fin 128) (d : Fin 64) :
    num1 q k v M A (ix3 h i d) = A (ix3 h i d) * Ideal.exp (M (ix3 h i 0) - mx1 q k M (ix3 h i 0))
      + ∑ j : Fin 128, Ideal.exp (sc1 q k (ix3 h i j) - mx1 q k M (ix3 h i 0)) * v (ix3 j h d) := by
  pointwise [num1, al1, pr1]

/-- The score of one of 256 keys. -/
theorem sc2_apply (q : FVec Ideal S128x8x64 .bf16) (k : FVec Ideal S256x8x64 .bf16) (h : Fin 8) (i : Fin 128) (j : Fin 256) :
    sc2 q k (ix3 h i j) = (∑ d : Fin 64, q (ix3 i h d) * k (ix3 j h d)) * scale := by
  pointwise [sc2]

/-- The new maximum after 256 keys. -/
theorem mx2_apply (q : FVec Ideal S128x8x64 .bf16) (k : FVec Ideal S256x8x64 .bf16) (M : FVec Ideal S8x128x1 .f32) (h : Fin 8) (i : Fin 128) :
    mx2 q k M (ix3 h i 0) = max (M (ix3 h i 0)) (Finset.univ.sup fun j : Fin 256 => sc2 q k (ix3 h i j)) := by
  pointwise [mx2, ofBits_neg_inf]
  rfl

/-- The new denominator after 256 keys. -/
theorem den2_apply (q : FVec Ideal S128x8x64 .bf16) (k : FVec Ideal S256x8x64 .bf16) (M L : FVec Ideal S8x128x1 .f32) (h : Fin 8) (i : Fin 128) :
    den2 q k M L (ix3 h i 0) = L (ix3 h i 0) * Ideal.exp (M (ix3 h i 0) - mx2 q k M (ix3 h i 0))
      + ∑ j : Fin 256, Ideal.exp (sc2 q k (ix3 h i j) - mx2 q k M (ix3 h i 0)) := by
  pointwise [den2, al2, pr2]

/-- The new numerator after 256 keys. -/
theorem num2_apply (q : FVec Ideal S128x8x64 .bf16) (k v : FVec Ideal S256x8x64 .bf16) (M : FVec Ideal S8x128x1 .f32) (A : FVec Ideal S8x128x64 .f32) (h : Fin 8) (i : Fin 128) (d : Fin 64) :
    num2 q k v M A (ix3 h i d) = A (ix3 h i d) * Ideal.exp (M (ix3 h i 0) - mx2 q k M (ix3 h i 0))
      + ∑ j : Fin 256, Ideal.exp (sc2 q k (ix3 h i j) - mx2 q k M (ix3 h i 0)) * v (ix3 j h d) := by
  pointwise [num2, al2, pr2]

/-- Dropping the unit axes keeps the entries. -/
theorem squeeze_apply (l : Vec Ideal S1x1x1x1x128x8x64 .bf16) (j : Fin 128) (h : Fin 8) (d : Fin 64) :
    squeeze l (ix3 j h d) = l (ix7 0 0 0 0 j h d) := by
  pointwise [squeeze]

/-- Of two joined blocks the first 128 rows are the first block, the rest the second. -/
theorem both_apply (a b : FVec Ideal S128x8x64 .bf16) (j : Fin 256) (h : Fin 8) (d : Fin 64) :
    both a b (ix3 j h d) = if hj : j.val < 128 then a (ix3 ⟨j.val, hj⟩ h d) else b (ix3 ⟨j.val - 128, by omega⟩ h d) := by
  pointwise [both]

/-- The stored row: the quotients, by column `64 h + d`, times the output weights. -/
theorem fin_apply (L : FVec Ideal S8x128x1 .f32) (A : FVec Ideal S8x128x64 .f32) (wo : Vec Ideal S512x512 .bf16) (i : Fin 128) (e : Fin 512) :
    fin L A wo (ix3 0 i e) = ∑ t : Fin 512, Ideal.div (A (ix3 ⟨t.val / 64, by omega⟩ i ⟨t.val % 64, by omega⟩)) (L (ix3 ⟨t.val / 64, by omega⟩ i 0)) * wo (ix2 t e) := by
  pointwise [fin]

end Cert.KernelIdealValue

end
-- ==== Proof.Value.Spec.lean ====
/-
# Attention over the whole arrays

The common meaning of the kernel and the reference, from the whole arrays over the extended reals: the projected queries,
the scaled scores, the softmax over all 2048 keys, the output projection. Keys and query rows are named by the device whose
block holds them and the row within it.
-/
module

public import proofs.«01_k».proof.Proof.Value.Softmax
public import Idealize.ShloMosaic.Lib.Pointwise

@[expose] public section

noncomputable section

namespace Cert.Attention

open Idealize.ShloMosaic Cert.Softmax

/-- The factor the scores are scaled by. -/
abbrev scale : EReal := Ideal.ofBits .f32 0x3E000000#32

/-- Row `p.2` of device `p.1`'s block, as a row of the whole array. -/
def row (p : Fin 16 × Fin 128) : Fin 2048 := ⟨p.1.val * 128 + p.2.val, by omega⟩

/-- Different device or row: different row of the whole array. -/
theorem row_inj : Function.Injective row := by
  rintro ⟨a, b⟩ ⟨a', b'⟩ h
  have e : a.val * 128 + b.val = a'.val * 128 + b'.val := congrArg Fin.val h
  exact Prod.ext (Fin.ext (by show a.val = a'.val; omega)) (Fin.ext (by show b.val = b'.val; omega))

/-- The whole argument arrays. -/
structure Args where
  x : (⟨3, ![2, 2048, 512]⟩ : Shape).Idx → EReal
  wq : (⟨2, ![512, 512]⟩ : Shape).Idx → EReal
  k : (⟨4, ![2, 2048, 8, 64]⟩ : Shape).Idx → EReal
  v : (⟨4, ![2, 2048, 8, 64]⟩ : Shape).Idx → EReal
  wo : (⟨2, ![512, 512]⟩ : Shape).Idx → EReal

variable (A : Args) (b : Fin 2)

/-- The projected query of row `R`, head `h`, at coordinate `d`. -/
def query (R : Fin 2048) (h : Fin 8) (d : Fin 64) : EReal := ∑ e : Fin 512, A.x (ix3 b R e) * A.wq (ix2 e ⟨h.val * 64 + d.val, by omega⟩)

/-- The scaled score of key `p` for query row `R`. -/
def score (R : Fin 2048) (h : Fin 8) (p : Fin 16 × Fin 128) : EReal := (∑ d : Fin 64, query A b R h d * A.k (ix4 b (row p) h d)) * scale

/-- The value of key `p` at coordinate `d`. -/
def value (h : Fin 8) (d : Fin 64) (p : Fin 16 × Fin 128) : EReal := A.v (ix4 b (row p) h d)

/-- The softmax's maximum, denominator and numerator over all keys. -/
def top (R : Fin 2048) (h : Fin 8) : EReal := Finset.univ.sup (score A b R h)
/-- The denominator: the sum of the exponentials. -/
def den (R : Fin 2048) (h : Fin 8) : EReal := ∑ p, Ideal.exp (score A b R h p - top A b R h)
/-- The numerator: the sum of the exponentials times the values. -/
def num (R : Fin 2048) (h : Fin 8) (d : Fin 64) : EReal := ∑ p, Ideal.exp (score A b R h p - top A b R h) * value A b h d p

/-- These three are the state of the running softmax over all keys. -/
theorem holds (R : Fin 2048) (h : Fin 8) (d : Fin 64) :
    Holds Finset.univ (score A b R h) (value A b h d) (top A b R h) (den A b R h) (num A b R h d) := ⟨rfl, rfl, rfl⟩

/-- The result at row `R`, column `e`. -/
def out (R : Fin 2048) (e : Fin 512) : EReal :=
  ∑ t : Fin 512, Ideal.div (num A b R ⟨t.val / 64, by omega⟩ ⟨t.val % 64, by omega⟩) (den A b R ⟨t.val / 64, by omega⟩) * A.wo (ix2 t e)

end Cert.Attention

end
-- ==== Proof.Value.Steps.lean ====
/-
# A step of the kernel keeps the softmax state

If the running maximum, denominator and numerator are those of the softmax over the keys of the devices `D`, then after a
step over the block of a device not in `D`, or over the blocks of two such devices, they are those over the larger set.
-/
module

public import proofs.«01_k».proof.Proof.Value.Blocks
public import proofs.«01_k».proof.Proof.Value.Spec

@[expose] public section

set_option maxRecDepth 16384

noncomputable section

namespace Cert.KernelIdealValue

open Cert.KernelIdeal Cert.KernelIdeal.Gen Idealize.ShloMosaic Cert.Softmax Cert.Attention

variable (A : Args) (b : Fin 2) (c : Fin 16)

/-- The state over the keys of the devices `D`, for every head, query row of device `c` and coordinate. -/
def St (D : Finset (Fin 16)) (M L : FVec Ideal S8x128x1 .f32) (N : FVec Ideal S8x128x64 .f32) : Prop :=
  ∀ (h : Fin 8) (i : Fin 128) (d : Fin 64),
    Holds (D ×ˢ Finset.univ) (score A b (row (c, i)) h) (value A b h d) (M (ix3 h i 0)) (L (ix3 h i 0)) (N (ix3 h i d))

/-- `q` is the queries of device `c`'s rows. -/
def IsQ (q : FVec Ideal S128x8x64 .bf16) : Prop :=
  ∀ (i : Fin 128) (h : Fin 8) (d : Fin 64), q (ix3 i h d) = query A b (row (c, i)) h d
/-- `k` is device `o`'s block of keys. -/
def IsK (o : Fin 16) (k : FVec Ideal S128x8x64 .bf16) : Prop :=
  ∀ (j : Fin 128) (h : Fin 8) (d : Fin 64), k (ix3 j h d) = A.k (ix4 b (row (o, j)) h d)
/-- `v` is device `o`'s block of values. -/
def IsV (o : Fin 16) (v : FVec Ideal S128x8x64 .bf16) : Prop :=
  ∀ (j : Fin 128) (h : Fin 8) (d : Fin 64), v (ix3 j h d) = A.v (ix4 b (row (o, j)) h d)

variable {A b c}

/-- The start: no keys, maximum −∞, sums zero. -/
theorem St.start {M L : FVec Ideal S8x128x1 .f32} {N : FVec Ideal S8x128x64 .f32} (hM : ∀ h i, M (ix3 h i 0) = (⊥ : EReal))
    (hL : ∀ h i, L (ix3 h i 0) = (0 : EReal)) (hN : ∀ h i d, N (ix3 h i d) = (0 : EReal)) : St A b c ∅ M L N := by
  intro h i d
  rw [hM, hL, hN, Finset.empty_product]
  exact Holds.empty _ _

/-- A step over the block of device `o`. -/
theorem St.step1 {D : Finset (Fin 16)} {M L : FVec Ideal S8x128x1 .f32} {N : FVec Ideal S8x128x64 .f32} (H : St A b c D M L N)
    {o : Fin 16} (ho : o ∉ D) {q k v : FVec Ideal S128x8x64 .bf16} (hq : IsQ A b c q) (hk : IsK A b o k) (hv : IsV A b o v) :
    St A b c (insert o D) (mx1 q k M) (den1 q k M L) (num1 q k v M N) := by
  intro h i d
  have hs : ∀ j : Fin 128, sc1 q k (ix3 h i j) = score A b (row (c, i)) h (o, j) := fun j => by
    rw [sc1_apply]
    exact congrArg (· * scale) (Finset.sum_congr rfl fun d _ => by rw [hq, hk])
  have hD : insert o D ×ˢ (Finset.univ : Finset (Fin 128)) = (D ×ˢ Finset.univ) ∪ Finset.univ.image fun j : Fin 128 => (o, j) := by
    ext ⟨x, y⟩
    simp only [Finset.mem_product, Finset.mem_insert, Finset.mem_univ, and_true, Finset.mem_union, Finset.mem_image, true_and, Prod.mk.injEq]
    constructor
    · rintro (rfl | hx)
      · exact Or.inr ⟨y, rfl, rfl⟩
      · exact Or.inl hx
    · rintro (hx | ⟨-, rfl, -⟩)
      · exact Or.inr hx
      · exact Or.inl rfl
  rw [hD]
  refine (H h i d).step (fun j : Fin 128 => (o, j)) (fun _ _ e => (Prod.mk.inj e).2) (fun j hj => ho (Finset.mem_product.mp hj).1) ?_ ?_ ?_
  · rw [mx1_apply]; simp only [hs]
  · rw [den1_apply]; simp only [hs]
  · rw [num1_apply]; simp only [hs]
    exact congrArg (_ + ·) (Finset.sum_congr rfl fun j _ => by rw [hv]; rfl)

/-- The key at place `j` of two blocks one after the other. -/
def pair (o o' : Fin 16) (j : Fin 256) : Fin 16 × Fin 128 := if hj : j.val < 128 then (o, ⟨j.val, hj⟩) else (o', ⟨j.val - 128, by omega⟩)

/-- A step over the blocks of devices `o` and `o'`. -/
theorem St.step2 {D : Finset (Fin 16)} {M L : FVec Ideal S8x128x1 .f32} {N : FVec Ideal S8x128x64 .f32} (H : St A b c D M L N)
    {o o' : Fin 16} (ho' : o' ∉ D) (ho : o ∉ insert o' D) {q k v k' v' : FVec Ideal S128x8x64 .bf16} (hq : IsQ A b c q)
    (hk : IsK A b o k) (hk' : IsK A b o' k') (hv : IsV A b o v) (hv' : IsV A b o' v') :
    St A b c (insert o (insert o' D)) (mx2 q (both k k') M) (den2 q (both k k') M L) (num2 q (both k k') (both v v') M N) := by
  have hne : o ≠ o' := fun e => ho (e ▸ Finset.mem_insert_self _ _)
  have hoD : o ∉ D := fun e => ho (Finset.mem_insert_of_mem e)
  intro h i d
  have hkk : ∀ (j : Fin 256) (d : Fin 64), both k k' (ix3 j h d) = A.k (ix4 b (row (pair o o' j)) h d) := fun j d => by
    rw [both_apply]; unfold pair
    split
    · exact hk _ _ _
    · exact hk' _ _ _
  have hvv : ∀ j : Fin 256, both v v' (ix3 j h d) = value A b h d (pair o o' j) := fun j => by
    rw [both_apply]; unfold pair value
    split
    · exact hv _ _ _
    · exact hv' _ _ _
  have hs : ∀ j : Fin 256, sc2 q (both k k') (ix3 h i j) = score A b (row (c, i)) h (pair o o' j) := fun j => by
    rw [sc2_apply]
    exact congrArg (· * scale) (Finset.sum_congr rfl fun d _ => by rw [hq, hkk])
  have hinj : Function.Injective (pair o o') := by
    intro j j' e
    unfold pair at e
    split at e <;> split at e
    · exact Fin.ext (Fin.mk.inj (Prod.mk.inj e).2)
    · exact absurd (Prod.mk.inj e).1 hne
    · exact absurd (Prod.mk.inj e).1.symm hne
    · have := Fin.mk.inj (Prod.mk.inj e).2
      exact Fin.ext (by omega)
  have hD : insert o (insert o' D) ×ˢ (Finset.univ : Finset (Fin 128)) = (D ×ˢ Finset.univ) ∪ Finset.univ.image (pair o o') := by
    ext ⟨x, y⟩
    simp only [Finset.mem_product, Finset.mem_insert, Finset.mem_univ, and_true, Finset.mem_union, Finset.mem_image, true_and]
    constructor
    · rintro (rfl | rfl | hx)
      · exact Or.inr ⟨⟨y.val, by omega⟩, by unfold pair; rw [dif_pos y.isLt]⟩
      · exact Or.inr ⟨⟨128 + y.val, by omega⟩, by
          unfold pair; rw [dif_neg (by show ¬ 128 + y.val < 128; omega)]
          exact Prod.ext rfl (Fin.ext (by show 128 + y.val - 128 = y.val; omega))⟩
      · exact Or.inl hx
    · rintro (hx | ⟨j, e⟩)
      · exact Or.inr (Or.inr hx)
      · unfold pair at e
        split at e
        · exact Or.inl (Prod.mk.inj e).1.symm
        · exact Or.inr (Or.inl (Prod.mk.inj e).1.symm)
  rw [hD]
  refine (H h i d).step (pair o o') hinj (fun j hj => ?_) ?_ ?_ ?_
  · have hx := (Finset.mem_product.mp hj).1
    unfold pair at hx
    split at hx
    · exact hoD hx
    · exact ho' hx
  · rw [mx2_apply]; simp only [hs]
  · rw [den2_apply]; simp only [hs]
  · rw [num2_apply]; simp only [hs]
    exact congrArg (_ + ·) (Finset.sum_congr rfl fun j _ => by rw [hvv])

/-- From the state over all keys, the stored row is the attention's. -/
theorem St.out {M L : FVec Ideal S8x128x1 .f32} {N : FVec Ideal S8x128x64 .f32} (H : St A b c Finset.univ M L N)
    {wo : Vec Ideal S512x512 .bf16} (hwo : wo = A.wo) (i : Fin 128) (e : Fin 512) :
    fin L N wo (ix3 0 i e) = out A b (row (c, i)) e := by
  rw [fin_apply]
  refine Finset.sum_congr rfl fun t _ => ?_
  have u := (H ⟨t.val / 64, by omega⟩ i ⟨t.val % 64, by omega⟩)
  rw [Finset.univ_product_univ] at u
  obtain ⟨-, e1, e2⟩ := u.unique (holds A b (row (c, i)) ⟨t.val / 64, by omega⟩ ⟨t.val % 64, by omega⟩)
  rw [e1, e2, hwo]

end Cert.KernelIdealValue

end
-- ==== Proof.Value.Chain.lean ====
/-
# The kernel's chain of steps

On each device and for each batch row, the values the kernel passes from stretch to stretch are the state of the softmax
over the keys of the devices whose blocks have come round so far; after the last step they are the state over all keys, and
the row stored is the attention's.
-/
module

public import proofs.«01_k».proof.Proof.Value.Reads
public import proofs.«01_k».proof.Proof.Value.Steps

@[expose] public section

set_option maxRecDepth 16384

noncomputable section

namespace Cert.KernelIdealValue

open Cert.KernelIdeal Cert.KernelIdeal.Gen Cert.KernelIdealProof Idealize.ShloMosaic Idealize.ShloMosaic.TcCoe Cert.Softmax Cert.Attention

/-! ## Which devices have been met -/

/-- The devices whose blocks device `c` has used after round `r`. -/
def met (c : Fin 16) : Nat → Finset (Fin 16)
  | 0 => {origin 0 c}
  | r + 1 => insert (prv^[r + 1] c) (insert (nxt^[r + 1] c) (met c r))

/-- The block of the device `r + 1` places on has not been met before. -/
theorem fresh_snd : ∀ c : Fin 16, ∀ r : Fin 7, nxt^[r.val + 1] c ∉ met c r.val := by decide +kernel
/-- Nor has that of the device `r + 1` places back, which is another one. -/
theorem fresh_fst : ∀ c : Fin 16, ∀ r : Fin 7, prv^[r.val + 1] c ∉ insert (nxt^[r.val + 1] c) (met c r.val) := by decide +kernel
/-- The device eight places back is met last, for the first time. -/
theorem fresh_last : ∀ c : Fin 16, prv^[8] c ∉ met c 7 := by decide +kernel
/-- With it every device has been met. -/
theorem met_all : ∀ c : Fin 16, insert (prv^[8] c) (met c 7) = Finset.univ := by decide +kernel

variable {m : (ℓ : Loc nD τ sig) → Buf (Elt Ideal) ℓ} (ρ : Dev nD → PrngReg) {A : Args}

/-- The devices' argument buffers are the blocks of the whole arrays. -/
structure Agrees (m : (ℓ : Loc nD τ sig) → Buf (Elt Ideal) ℓ) (A : Args) : Prop where
  x : ∀ (c : Dev nD) (b : Fin 2) (i : Fin 128) (e : Fin 512), m ((c : Thread nD τ).loc main_arg0) (ix3 b i e) = A.x (ix3 b (row (c, i)) e)
  wq : ∀ c : Dev nD, m ((c : Thread nD τ).loc main_arg1) = A.wq
  k : ∀ (c : Dev nD) (b : Fin 2) (j : Fin 128) (h : Fin 8) (d : Fin 64), m ((c : Thread nD τ).loc main_arg2) (ix4 b j h d) = A.k (ix4 b (row (c, j)) h d)
  v : ∀ (c : Dev nD) (b : Fin 2) (j : Fin 128) (h : Fin 8) (d : Fin 64), m ((c : Thread nD τ).loc main_arg3) (ix4 b j h d) = A.v (ix4 b (row (c, j)) h d)
  wo : ∀ c : Dev nD, m ((c : Thread nD τ).loc main_arg4) = A.wo

variable (H : Agrees m A) (c : Dev nD)

include H

/-- The queries of batch row 0 that the kernel computes. -/
theorem isQ0 : IsQ A 0 c (w84 m ρ c) := fun i h d => by
  refine (q0_apply _ _ i h d).trans (Finset.sum_congr rfl fun e _ => ?_)
  rw [xstg_eq, wqstg_eq]
  exact congrArg₂ (· * ·) (H.x c 0 i e) (congrFun (H.wq c) _)
/-- The queries of batch row 1. -/
theorem isQ1 : IsQ A 1 c (w87 m ρ c) := fun i h d => by
  refine (q1_apply _ _ i h d).trans (Finset.sum_congr rfl fun e _ => ?_)
  rw [xstg_eq, wqstg_eq]
  exact congrArg₂ (· * ·) (H.x c 1 i e) (congrFun (H.wq c) _)

/-- What is loaded of a slot's keys are the keys of the device whose block the slot holds. -/
theorem isK (off : Fin 7 → Nat) (hb : ∀ a, off a + S1x1x1x1x128x8x64.size a ≤ S2x9x2x2x128x8x64.size a)
    (s : Fin 2) (r : Fin 9) (b : Fin 2) (ho : off = ![s.val, r.val, 0, b.val, 0, 0, 0]) (o : Fin 16)
    (eo : origin ⟨9 * s.val + r.val, by omega⟩ c = o) : IsK A b o (squeeze (ld m ρ c off hb)) := fun j h d => by
  rw [squeeze_apply, ld_key m ρ c off hb s r b ho, eo]
  exact H.k o b j h d
/-- The same of its values. -/
theorem isV (off : Fin 7 → Nat) (hb : ∀ a, off a + S1x1x1x1x128x8x64.size a ≤ S2x9x2x2x128x8x64.size a)
    (s : Fin 2) (r : Fin 9) (b : Fin 2) (ho : off = ![s.val, r.val, 1, b.val, 0, 0, 0]) (o : Fin 16)
    (eo : origin ⟨9 * s.val + r.val, by omega⟩ c = o) : IsV A b o (squeeze (ld m ρ c off hb)) := fun j h d => by
  rw [squeeze_apply, ld_value m ρ c off hb s r b ho, eo]
  exact H.v o b j h d

/-! ## Batch row 0 -/

theorem state0_0 : St A 0 c (met c 0) (w103 m ρ c) (w112 m ρ c) (w117 m ρ c) :=
  (St.start (M := w88 (F := Ideal)) (L := w90 (F := Ideal)) (N := w92 (F := Ideal)) (fun _ _ => ofBits_neg_inf) (fun _ _ => Ideal.ofBits_zero_f32) (fun _ _ _ => Ideal.ofBits_zero_f32)).step1
    (Finset.notMem_empty _) (isQ0 ρ H c) (isK ρ H c _ _ 0 0 0 rfl _ rfl) (isV ρ H c _ _ 0 0 0 rfl _ rfl)

/-- Batch row 0: the state after round 1. -/
theorem state0_1 : St A 0 c (met c 1) (w193 m ρ c) (w202 m ρ c) (w207 m ρ c) :=
  (state0_0 ρ H c).step2 (fresh_snd c 0) (fresh_fst c 0) (isQ0 ρ H c)
    (isK ρ H c _ _ 0 1 0 rfl _ rfl) (isK ρ H c _ _ 1 1 0 rfl _ rfl) (isV ρ H c _ _ 0 1 0 rfl _ rfl) (isV ρ H c _ _ 1 1 0 rfl _ rfl)

/-- Batch row 0: the state after round 2. -/
theorem state0_2 : St A 0 c (met c 2) (w289 m ρ c) (w298 m ρ c) (w303 m ρ c) :=
  (state0_1 ρ H c).step2 (fresh_snd c 1) (fresh_fst c 1) (isQ0 ρ H c)
    (isK ρ H c _ _ 0 2 0 rfl _ rfl) (isK ρ H c _ _ 1 2 0 rfl _ rfl) (isV ρ H c _ _ 0 2 0 rfl _ rfl) (isV ρ H c _ _ 1 2 0 rfl _ rfl)

/-- Batch row 0: the state after round 3. -/
theorem state0_3 : St A 0 c (met c 3) (w385 m ρ c) (w394 m ρ c) (w399 m ρ c) :=
  (state0_2 ρ H c).step2 (fresh_snd c 2) (fresh_fst c 2) (isQ0 ρ H c)
    (isK ρ H c _ _ 0 3 0 rfl _ rfl) (isK ρ H c _ _ 1 3 0 rfl _ rfl) (isV ρ H c _ _ 0 3 0 rfl _ rfl) (isV ρ H c _ _ 1 3 0 rfl _ rfl)

/-- Batch row 0: the state after round 4. -/
theorem state0_4 : St A 0 c (met c 4) (w481 m ρ c) (w490 m ρ c) (w495 m ρ c) :=
  (state0_3 ρ H c).step2 (fresh_snd c 3) (fresh_fst c 3) (isQ0 ρ H c)
    (isK ρ H c _ _ 0 4 0 rfl _ rfl) (isK ρ H c _ _ 1 4 0 rfl _ rfl) (isV ρ H c _ _ 0 4 0 rfl _ rfl) (isV ρ H c _ _ 1 4 0 rfl _ rfl)

/-- Batch row 0: the state after round 5. -/
theorem state0_5 : St A 0 c (met c 5) (w577 m ρ c) (w586 m ρ c) (w591 m ρ c) :=
  (state0_4 ρ H c).step2 (fresh_snd c 4) (fresh_fst c 4) (isQ0 ρ H c)
    (isK ρ H c _ _ 0 5 0 rfl _ rfl) (isK ρ H c _ _ 1 5 0 rfl _ rfl) (isV ρ H c _ _ 0 5 0 rfl _ rfl) (isV ρ H c _ _ 1 5 0 rfl _ rfl)

/-- Batch row 0: the state after round 6. -/
theorem state0_6 : St A 0 c (met c 6) (w673 m ρ c) (w682 m ρ c) (w687 m ρ c) :=
  (state0_5 ρ H c).step2 (fresh_snd c 5) (fresh_fst c 5) (isQ0 ρ H c)
    (isK ρ H c _ _ 0 6 0 rfl _ rfl) (isK ρ H c _ _ 1 6 0 rfl _ rfl) (isV ρ H c _ _ 0 6 0 rfl _ rfl) (isV ρ H c _ _ 1 6 0 rfl _ rfl)

/-- Batch row 0: the state after round 7. -/
theorem state0_7 : St A 0 c (met c 7) (w759 m ρ c) (w768 m ρ c) (w773 m ρ c) :=
  (state0_6 ρ H c).step2 (fresh_snd c 6) (fresh_fst c 6) (isQ0 ρ H c)
    (isK ρ H c _ _ 0 7 0 rfl _ rfl) (isK ρ H c _ _ 1 7 0 rfl _ rfl) (isV ρ H c _ _ 0 7 0 rfl _ rfl) (isV ρ H c _ _ 1 7 0 rfl _ rfl)

/-- Batch row 0's stored row is the attention's. -/
theorem o0_apply (i : Fin 128) (e : Fin 512) : o0 m ρ c (ix3 0 i e) = out A 0 (row (c, i)) e := by
  have s := (state0_7 ρ H c).step1 (fresh_last c) (isQ0 ρ H c) (isK ρ H c _ inb_S2x9x2x2x128x8x64_S1x1x1x1x128x8x64_0_8_0_0_0_0_0 0 8 0 rfl _ rfl) (isV ρ H c _ inb_S2x9x2x2x128x8x64_S1x1x1x1x128x8x64_0_8_1_0_0_0_0 0 8 0 rfl _ rfl)
  rw [met_all] at s
  exact s.out ((wostg_eq m ρ c).trans (H.wo c)) i e

/-! ## Batch row 1 -/

theorem state1_0 : St A 1 c (met c 0) (w127 m ρ c) (w136 m ρ c) (w141 m ρ c) :=
  (St.start (M := w89 (F := Ideal)) (L := w91 (F := Ideal)) (N := w93 (F := Ideal)) (fun _ _ => ofBits_neg_inf) (fun _ _ => Ideal.ofBits_zero_f32) (fun _ _ _ => Ideal.ofBits_zero_f32)).step1
    (Finset.notMem_empty _) (isQ1 ρ H c) (isK ρ H c _ _ 0 0 1 rfl _ rfl) (isV ρ H c _ _ 0 0 1 rfl _ rfl)

/-- Batch row 1: the state after round 1. -/
theorem state1_1 : St A 1 c (met c 1) (w223 m ρ c) (w232 m ρ c) (w237 m ρ c) :=
  (state1_0 ρ H c).step2 (fresh_snd c 0) (fresh_fst c 0) (isQ1 ρ H c)
    (isK ρ H c _ _ 0 1 1 rfl _ rfl) (isK ρ H c _ _ 1 1 1 rfl _ rfl) (isV ρ H c _ _ 0 1 1 rfl _ rfl) (isV ρ H c _ _ 1 1 1 rfl _ rfl)

/-- Batch row 1: the state after round 2. -/
theorem state1_2 : St A 1 c (met c 2) (w319 m ρ c) (w328 m ρ c) (w333 m ρ c) :=
  (state1_1 ρ H c).step2 (fresh_snd c 1) (fresh_fst c 1) (isQ1 ρ H c)
    (isK ρ H c _ _ 0 2 1 rfl _ rfl) (isK ρ H c _ _ 1 2 1 rfl _ rfl) (isV ρ H c _ _ 0 2 1 rfl _ rfl) (isV ρ H c _ _ 1 2 1 rfl _ rfl)

/-- Batch row 1: the state after round 3. -/
theorem state1_3 : St A 1 c (met c 3) (w415 m ρ c) (w424 m ρ c) (w429 m ρ c) :=
  (state1_2 ρ H c).step2 (fresh_snd c 2) (fresh_fst c 2) (isQ1 ρ H c)
    (isK ρ H c _ _ 0 3 1 rfl _ rfl) (isK ρ H c _ _ 1 3 1 rfl _ rfl) (isV ρ H c _ _ 0 3 1 rfl _ rfl) (isV ρ H c _ _ 1 3 1 rfl _ rfl)

/-- Batch row 1: the state after round 4. -/
theorem state1_4 : St A 1 c (met c 4) (w511 m ρ c) (w520 m ρ c) (w525 m ρ c) :=
  (state1_3 ρ H c).step2 (fresh_snd c 3) (fresh_fst c 3) (isQ1 ρ H c)
    (isK ρ H c _ _ 0 4 1 rfl _ rfl) (isK ρ H c _ _ 1 4 1 rfl _ rfl) (isV ρ H c _ _ 0 4 1 rfl _ rfl) (isV ρ H c _ _ 1 4 1 rfl _ rfl)

/-- Batch row 1: the state after round 5. -/
theorem state1_5 : St A 1 c (met c 5) (w607 m ρ c) (w616 m ρ c) (w621 m ρ c) :=
  (state1_4 ρ H c).step2 (fresh_snd c 4) (fresh_fst c 4) (isQ1 ρ H c)
    (isK ρ H c _ _ 0 5 1 rfl _ rfl) (isK ρ H c _ _ 1 5 1 rfl _ rfl) (isV ρ H c _ _ 0 5 1 rfl _ rfl) (isV ρ H c _ _ 1 5 1 rfl _ rfl)

/-- Batch row 1: the state after round 6. -/
theorem state1_6 : St A 1 c (met c 6) (w703 m ρ c) (w712 m ρ c) (w717 m ρ c) :=
  (state1_5 ρ H c).step2 (fresh_snd c 5) (fresh_fst c 5) (isQ1 ρ H c)
    (isK ρ H c _ _ 0 6 1 rfl _ rfl) (isK ρ H c _ _ 1 6 1 rfl _ rfl) (isV ρ H c _ _ 0 6 1 rfl _ rfl) (isV ρ H c _ _ 1 6 1 rfl _ rfl)

/-- Batch row 1: the state after round 7. -/
theorem state1_7 : St A 1 c (met c 7) (w789 m ρ c) (w798 m ρ c) (w803 m ρ c) :=
  (state1_6 ρ H c).step2 (fresh_snd c 6) (fresh_fst c 6) (isQ1 ρ H c)
    (isK ρ H c _ _ 0 7 1 rfl _ rfl) (isK ρ H c _ _ 1 7 1 rfl _ rfl) (isV ρ H c _ _ 0 7 1 rfl _ rfl) (isV ρ H c _ _ 1 7 1 rfl _ rfl)

/-- Batch row 1's stored row is the attention's. -/
theorem o1_apply (i : Fin 128) (e : Fin 512) : o1 m ρ c (ix3 0 i e) = out A 1 (row (c, i)) e := by
  have s := (state1_7 ρ H c).step1 (fresh_last c) (isQ1 ρ H c) (isK ρ H c _ inb_S2x9x2x2x128x8x64_S1x1x1x1x128x8x64_0_8_0_1_0_0_0 0 8 1 rfl _ rfl) (isV ρ H c _ inb_S2x9x2x2x128x8x64_S1x1x1x1x128x8x64_0_8_1_1_0_0_0 0 8 1 rfl _ rfl)
  rw [met_all] at s
  exact s.out ((wostg_eq m ρ c).trans (H.wo c)) i e

/-- What device `c`'s result buffer ends as, at an index. -/
theorem result_apply (b : Fin 2) (i : Fin 128) (e : Fin 512) : finalA m ρ c (5 : Fin 6) (ix3 b i e) = out A b (row (c, i)) e := by
  rw [finalA_out]
  show outV m ρ c (ix3 b i e) = _
  have hin : inRow (ix3 b i e) = ix3 0 i e := by funext a; fin_cases a <;> rfl
  unfold outV
  rw [hin]
  fin_cases b
  · exact (if_pos rfl).trans (o0_apply ρ H c i e)
  · exact (if_neg (show ¬ (1 : Nat) = 0 from one_ne_zero)).trans (o1_apply ρ H c i e)

end Cert.KernelIdealValue

end
-- ==== Proof.Value.Reference.lean ====
/-
# The reference's value

The reference meets the keys in two chunks of 1024. Each chunk is one step of the running softmax, so that after both its
state is the one over all keys, and its result is the attention over the whole arrays.
-/
module

public import proofs.«01_k».proof.Proof.Gen.ReferenceIdeal
public import proofs.«01_k».proof.Proof.Value.Spec
public import Idealize.ShloMosaic.Lib.Pointwise

@[expose] public section

set_option maxRecDepth 16384

noncomputable section

namespace Cert.ReferenceIdealValue

open Cert.ReferenceIdeal Cert.ReferenceIdeal.Gen Idealize.ShloMosaic Idealize.ShloMosaic.TcCoe Cert.Softmax Cert.Attention

/-! ## The operations -/

section Ops

variable {F : FTy → Type} [FloatOps F]

/-- The projected queries. -/
def qR (x : FVec F S2x2048x512 .bf16) (wq : FVec F S512x512 .bf16) : FVec F S2x2048x8x64 .f32 :=
  shapeCast S2x2048x8x64 (Host.dotGeneral dot_S2x2048x512_S512x512_S2x2048x512_2_0_01_1_n_n none (extf .f32 x bitsLt_bf16_f32) (extf .f32 wq bitsLt_bf16_f32)) shapeCasts_S2x2048x512_S2x2048x8x64
/-- The first 1024 keys (or values). -/
def lo (k : FVec F S2x2048x8x64 .bf16) : FVec F S2x1024x8x64 .f32 :=
  extractStridedSlice S2x1024x8x64 ![0, 0, 0, 0] (extf .f32 k bitsLt_bf16_f32) slices_S2x2048x8x64_S2x1024x8x64_0_0_0_0
/-- The last 1024. -/
def hi (k : FVec F S2x2048x8x64 .bf16) : FVec F S2x1024x8x64 .f32 :=
  extractStridedSlice S2x1024x8x64 ![0, 1024, 0, 0] (extf .f32 k bitsLt_bf16_f32) slices_S2x2048x8x64_S2x1024x8x64_0_1024_0_0
/-- The scores of a chunk's keys. -/
def scR (q : FVec F S2x2048x8x64 .f32) (k : FVec F S2x1024x8x64 .f32) : FVec F S2x8x2048x1024 .f32 :=
  mulf (Host.dotGeneral dot_S2x2048x8x64_S2x1024x8x64_S2x8x2048x1024_3_3_1_1_02_02 none q k) (broadcastInDim S2x8x2048x1024 ![] bcast_S_S2x8x2048x1024 (constant S_ .f32 0x3E000000#32))
/-- The running maximum after the chunk. -/
def mxR (q : FVec F S2x2048x8x64 .f32) (k : FVec F S2x1024x8x64 .f32) (M : FVec F S2x8x2048x1 .f32) : FVec F S2x8x2048x1 .f32 :=
  maximumf M (broadcastInDim S2x8x2048x1 ![0, 1, 2] bcast_S2x8x2048_S2x8x2048x1_0_1_2
    (Host.reduce FloatOps.maximumf (scR q k) (constant S_ .f32 0xFF800000#32) reducesTo_S2x8x2048x1024_S2x8x2048_d3 h_S_))
/-- The factor that carries the sums to it. -/
def alR (q : FVec F S2x2048x8x64 .f32) (k : FVec F S2x1024x8x64 .f32) (M : FVec F S2x8x2048x1 .f32) : FVec F S2x8x2048x1 .f32 :=
  Host.exp (subf M (mxR q k M))
/-- The exponentials of the chunk's scores. -/
def prR (q : FVec F S2x2048x8x64 .f32) (k : FVec F S2x1024x8x64 .f32) (M : FVec F S2x8x2048x1 .f32) : FVec F S2x8x2048x1024 .f32 :=
  Host.exp (subf (scR q k) (broadcastInDim S2x8x2048x1024 ![0, 1, 2, 3] bcast_S2x8x2048x1_S2x8x2048x1024_0_1_2_3 (mxR q k M)))
/-- The running denominator after the chunk. -/
def denR (q : FVec F S2x2048x8x64 .f32) (k : FVec F S2x1024x8x64 .f32) (M L : FVec F S2x8x2048x1 .f32) : FVec F S2x8x2048x1 .f32 :=
  addf (mulf L (alR q k M)) (broadcastInDim S2x8x2048x1 ![0, 1, 2] bcast_S2x8x2048_S2x8x2048x1_0_1_2
    (Host.reduceAdd (prR q k M) (constant S_ .f32 0x00000000#32) reducesTo_S2x8x2048x1024_S2x8x2048_d3 h_S_))
/-- A column of one entry per row and head, spread over the 64 coordinates. -/
def wide (L : FVec F S2x8x2048x1 .f32) : FVec F S2x2048x8x64 .f32 :=
  broadcastInDim S2x2048x8x64 ![0, 1, 2, 3] bcast_S2x2048x8x1_S2x2048x8x64_0_1_2_3 (transpose S2x2048x8x1 [0, 2, 1, 3] L transposes_S2x8x2048x1_S2x2048x8x1_0_2_1_3)
/-- The running numerator after the chunk. -/
def numR (q : FVec F S2x2048x8x64 .f32) (k v : FVec F S2x1024x8x64 .f32) (M : FVec F S2x8x2048x1 .f32) (N : FVec F S2x2048x8x64 .f32) : FVec F S2x2048x8x64 .f32 :=
  addf (mulf N (wide (alR q k M))) (transpose S2x2048x8x64 [0, 3, 1, 2]
    (Host.dotGeneral dot_S2x1024x8x64_S2x8x2048x1024_S2x8x64x2048_1_3_3_2_02_01 none v (prR q k M)) transposes_S2x8x64x2048_S2x2048x8x64_0_3_1_2)
/-- The quotient, heads side by side, times the output weights. -/
def finR (L : FVec F S2x8x2048x1 .f32) (N : FVec F S2x2048x8x64 .f32) (wo : FVec F S512x512 .bf16) : FVec F S2x2048x512 .f32 :=
  Host.dotGeneral dot_S2x2048x512_S512x512_S2x2048x512_2_0_01_1_n_n none
    (shapeCast S2x2048x512 (Host.divf N (wide L)) shapeCasts_S2x2048x8x64_S2x2048x512) (extf .f32 wo bitsLt_bf16_f32)

/-- The maximum at the start. -/
def M0 : FVec F S2x8x2048x1 .f32 := broadcastInDim S2x8x2048x1 ![] bcast_S_S2x8x2048x1 (constant S_ .f32 0xFF800000#32)
/-- The denominator at the start. -/
def L0 : FVec F S2x8x2048x1 .f32 := broadcastInDim S2x8x2048x1 ![] bcast_S_S2x8x2048x1 (constant S_ .f32 0x00000000#32)
/-- The numerator at the start. -/
def N0 : FVec F S2x2048x8x64 .f32 := broadcastInDim S2x2048x8x64 ![] bcast_S_S2x2048x8x64 (constant S_ .f32 0x00000000#32)

/-- The whole reference, from its arguments. -/
def refOut (x : FVec F S2x2048x512 .bf16) (wq : FVec F S512x512 .bf16) (k v : FVec F S2x2048x8x64 .bf16) (wo : FVec F S512x512 .bf16) : FVec F S2x2048x512 .f32 :=
  finR (denR (qR x wq) (hi k) (mxR (qR x wq) (lo k) M0) (denR (qR x wq) (lo k) M0 L0))
    (numR (qR x wq) (hi k) (hi v) (mxR (qR x wq) (lo k) M0) (numR (qR x wq) (lo k) (lo v) M0 N0)) wo

end Ops

/-! ## Read at an index -/

theorem ofBits_neg_inf : Ideal.ofBits .f32 0xFF800000#32 = ⊥ := by simp [Ideal.ofBits, Ideal.ieee]

/-- A query is the row of `x` times its column of the weights. -/
theorem qR_apply (x : FVec Ideal S2x2048x512 .bf16) (wq : FVec Ideal S512x512 .bf16) (b : Fin 2) (R : Fin 2048) (h : Fin 8) (d : Fin 64) :
    qR x wq (ix4 b R h d) = ∑ e : Fin 512, x (ix3 b R e) * wq (ix2 e ⟨h.val * 64 + d.val, by omega⟩) := by
  pointwise [qR]

/-- Row `j` of the first chunk is row `j`. -/
theorem lo_apply (k : FVec Ideal S2x2048x8x64 .bf16) (b : Fin 2) (j : Fin 1024) (h : Fin 8) (d : Fin 64) :
    lo k (ix4 b j h d) = k (ix4 b ⟨j.val, by omega⟩ h d) := by
  pointwise [lo]
/-- Row `j` of the second chunk is row `1024 + j`. -/
theorem hi_apply (k : FVec Ideal S2x2048x8x64 .bf16) (b : Fin 2) (j : Fin 1024) (h : Fin 8) (d : Fin 64) :
    hi k (ix4 b j h d) = k (ix4 b ⟨1024 + j.val, by omega⟩ h d) := by
  pointwise [hi]

/-- A score is the product of query and key over the 64 coordinates, scaled. -/
theorem scR_apply (q : FVec Ideal S2x2048x8x64 .f32) (k : FVec Ideal S2x1024x8x64 .f32) (b : Fin 2) (h : Fin 8) (R : Fin 2048) (j : Fin 1024) :
    scR q k (ix4 b h R j) = (∑ d : Fin 64, q (ix4 b R h d) * k (ix4 b j h d)) * scale := by
  pointwise [scR]

/-- Result index `(b, h, R)` with key `j` put back is `(b, h, R, j)`. -/
theorem lift_last {n0 n1 n2 n : Nat} (hr : (⟨4, ![n0, n1, n2, n]⟩ : Shape).Reduces [3] (⟨3, ![n0, n1, n2]⟩ : Shape)) (b : Fin n0) (h : Fin n1) (R : Fin n2)
    (j : Fin n) : hr.lift (ix3 b h R) j = ix4 b h R j := by
  funext a
  apply Fin.ext
  fin_cases a <;> rfl

/-- The maximum over the last axis, from minus infinity, is the supremum over it. -/
theorem reduce_max_last {n0 n1 n2 n : Nat} (s : FVec Ideal ⟨4, ![n0, n1, n2, n]⟩ .f32) (h' : (⟨4, ![n0, n1, n2, n]⟩ : Shape).ReducesTo [3] (⟨3, ![n0, n1, n2]⟩ : Shape))
    (hr : (⟨4, ![n0, n1, n2, n]⟩ : Shape).Reduces [3] (⟨3, ![n0, n1, n2]⟩ : Shape)) (hu : 0 < S_.numel) (b : Fin n0) (h : Fin n1) (R : Fin n2) :
    Host.reduce FloatOps.maximumf s (constant S_ .f32 0xFF800000#32) h' hu (ix3 b h R) = Finset.univ.sup fun j : Fin n => s (ix4 b h R j) := by
  rw [Host.reduce_eq_fold_single FloatOps.maximumf s _ h' hr hu]
  have e : (s ∘ hr.lift (ix3 b h R)) = fun j : Fin n => s (ix4 b h R j) := funext fun j => congrArg s (lift_last hr b h R j)
  refine Eq.trans ?_ (fold_max fun j : Fin n => s (ix4 b h R j))
  refine Eq.trans ?_ (congrArg (fun z : EReal => Finset.fold max z (fun j : Fin n => s (ix4 b h R j)) (Finset.univ : Finset (Fin n))) ofBits_neg_inf)
  exact congrArg (fun f => Finset.fold max (Ideal.ofBits .f32 0xFF800000#32) f (Finset.univ : Finset (Fin n))) e

/-- A maximum with a column that was an array without its last axis. -/
theorem max_column (M : FVec Ideal S2x8x2048x1 .f32) (r : FVec Ideal S2x8x2048 .f32) (b : Fin 2) (h : Fin 8) (R : Fin 2048) :
    maximumf M (broadcastInDim S2x8x2048x1 ![0, 1, 2] bcast_S2x8x2048_S2x8x2048x1_0_1_2 r) (ix4 b h R 0) = max (M (ix4 b h R 0)) (r (ix3 b h R)) := by
  pointwise []

/-- Dropping the axis of the keys. -/
theorem reduces_keys : S2x8x2048x1024.Reduces [3] S2x8x2048 := by decide

/-- The new maximum is that of the old one and the chunk's scores. -/
theorem mxR_apply (q : FVec Ideal S2x2048x8x64 .f32) (k : FVec Ideal S2x1024x8x64 .f32) (M : FVec Ideal S2x8x2048x1 .f32) (b : Fin 2) (h : Fin 8) (R : Fin 2048) :
    mxR q k M (ix4 b h R 0) = max (M (ix4 b h R 0)) (Finset.univ.sup fun j : Fin 1024 => scR q k (ix4 b h R j)) :=
  (max_column M _ b h R).trans (congrArg (max (M (ix4 b h R 0))) (reduce_max_last (scR q k) reducesTo_S2x8x2048x1024_S2x8x2048_d3 reduces_keys h_S_ b h R))

/-- The new denominator is the old one, rescaled, and the sum of the chunk's exponentials. -/
theorem denR_apply (q : FVec Ideal S2x2048x8x64 .f32) (k : FVec Ideal S2x1024x8x64 .f32) (M L : FVec Ideal S2x8x2048x1 .f32) (b : Fin 2) (h : Fin 8) (R : Fin 2048) :
    denR q k M L (ix4 b h R 0) = L (ix4 b h R 0) * Ideal.exp (M (ix4 b h R 0) - mxR q k M (ix4 b h R 0))
      + ∑ j : Fin 1024, Ideal.exp (scR q k (ix4 b h R j) - mxR q k M (ix4 b h R 0)) := by
  pointwise [denR, alR, prR]

/-- The new numerator is the old one, rescaled, and the sum of the chunk's exponentials times its values. -/
theorem numR_apply (q : FVec Ideal S2x2048x8x64 .f32) (k v : FVec Ideal S2x1024x8x64 .f32) (M : FVec Ideal S2x8x2048x1 .f32) (N : FVec Ideal S2x2048x8x64 .f32)
    (b : Fin 2) (h : Fin 8) (R : Fin 2048) (d : Fin 64) :
    numR q k v M N (ix4 b R h d) = N (ix4 b R h d) * Ideal.exp (M (ix4 b h R 0) - mxR q k M (ix4 b h R 0))
      + ∑ j : Fin 1024, Ideal.exp (scR q k (ix4 b h R j) - mxR q k M (ix4 b h R 0)) * v (ix4 b j h d) := by
  pointwise [numR, alR, prR, wide]
  exact congrArg (_ + ·) (Finset.sum_congr rfl fun j _ => mul_comm _ _)

/-- The result: the quotients, by column `64 h + d`, times the output weights. -/
theorem finR_apply (L : FVec Ideal S2x8x2048x1 .f32) (N : FVec Ideal S2x2048x8x64 .f32) (wo : FVec Ideal S512x512 .bf16) (b : Fin 2) (R : Fin 2048) (e : Fin 512) :
    finR L N wo (ix3 b R e) = ∑ t : Fin 512, Ideal.div (N (ix4 b R ⟨t.val / 64, by omega⟩ ⟨t.val % 64, by omega⟩)) (L (ix4 b ⟨t.val / 64, by omega⟩ R 0)) * wo (ix2 t e) := by
  pointwise [finR, wide]

/-! ## The two chunks -/

variable (A : Args)

/-- The state over the keys `T`, for every batch row, head, query row and coordinate. -/
def St (T : Finset (Fin 16 × Fin 128)) (M L : FVec Ideal S2x8x2048x1 .f32) (N : FVec Ideal S2x2048x8x64 .f32) : Prop :=
  ∀ (b : Fin 2) (h : Fin 8) (R : Fin 2048) (d : Fin 64),
    Holds T (score A b R h) (value A b h d) (M (ix4 b h R 0)) (L (ix4 b h R 0)) (N (ix4 b R h d))

variable {A}

/-- Before any key. -/
theorem St.start : St A ∅ M0 L0 N0 := by
  intro b h R d
  have e1 : (M0 (F := Ideal)) (ix4 b h R 0) = (⊥ : EReal) := ofBits_neg_inf
  have e2 : (L0 (F := Ideal)) (ix4 b h R 0) = (0 : EReal) := Ideal.ofBits_zero_f32
  have e3 : (N0 (F := Ideal)) (ix4 b R h d) = (0 : EReal) := Ideal.ofBits_zero_f32
  rw [e1, e2, e3]
  exact Holds.empty _ _

/-- One chunk, whose keys are `f 0 … f 1023`. -/
theorem St.step {T : Finset (Fin 16 × Fin 128)} {M L : FVec Ideal S2x8x2048x1 .f32} {N : FVec Ideal S2x2048x8x64 .f32} (H : St A T M L N)
    (f : Fin 1024 → Fin 16 × Fin 128) (hf : Function.Injective f) (hd : ∀ j, f j ∉ T) {k v : FVec Ideal S2x1024x8x64 .f32}
    (hk : ∀ b j h d, k (ix4 b j h d) = A.k (ix4 b (row (f j)) h d)) (hv : ∀ b j h d, v (ix4 b j h d) = A.v (ix4 b (row (f j)) h d)) :
    St A (T ∪ Finset.univ.image f) (mxR (qR A.x A.wq) k M) (denR (qR A.x A.wq) k M L) (numR (qR A.x A.wq) k v M N) := by
  intro b h R d
  have hs : ∀ j, scR (qR A.x A.wq) k (ix4 b h R j) = score A b R h (f j) := fun j => by
    rw [scR_apply]
    exact congrArg (· * scale) (Finset.sum_congr rfl fun d _ => by rw [qR_apply, hk]; rfl)
  refine (H b h R d).step f hf hd ?_ ?_ ?_
  · rw [mxR_apply]; simp only [hs]
  · rw [denR_apply]; simp only [hs]
  · rw [numR_apply]; simp only [hs]
    exact congrArg (_ + ·) (Finset.sum_congr rfl fun j _ => by rw [hv]; rfl)

/-- The key at place `j` of the first and of the second chunk. -/
def first (j : Fin 1024) : Fin 16 × Fin 128 := (⟨j.val / 128, by omega⟩, ⟨j.val % 128, by omega⟩)
/-- Key `j` of the second chunk, by device and row. -/
def second (j : Fin 1024) : Fin 16 × Fin 128 := (⟨8 + j.val / 128, by omega⟩, ⟨j.val % 128, by omega⟩)

/-- Key `j` of the first chunk is row `j` of the whole array. -/
theorem row_first (j : Fin 1024) (hj : j.val < 2048) : (⟨j.val, hj⟩ : Fin 2048) = row (first j) :=
  Fin.ext (by show j.val = j.val / 128 * 128 + j.val % 128; omega)
/-- Key `j` of the second chunk is row `1024 + j`. -/
theorem row_second (j : Fin 1024) (hj : 1024 + j.val < 2048) : (⟨1024 + j.val, hj⟩ : Fin 2048) = row (second j) :=
  Fin.ext (by show 1024 + j.val = (8 + j.val / 128) * 128 + j.val % 128; omega)
/-- The keys of the first chunk are different ones. -/
theorem first_inj : Function.Injective first := fun i j e => by
  have e1 : i.val / 128 = j.val / 128 := congrArg (fun p : Fin 16 × Fin 128 => p.1.val) e
  have e2 : i.val % 128 = j.val % 128 := congrArg (fun p : Fin 16 × Fin 128 => p.2.val) e
  exact Fin.ext (by omega)
/-- The keys of the second chunk are different ones. -/
theorem second_inj : Function.Injective second := fun i j e => by
  have e1 : 8 + i.val / 128 = 8 + j.val / 128 := congrArg (fun p : Fin 16 × Fin 128 => p.1.val) e
  have e2 : i.val % 128 = j.val % 128 := congrArg (fun p : Fin 16 × Fin 128 => p.2.val) e
  exact Fin.ext (by omega)
/-- No key of the second chunk is in the first. -/
theorem second_fresh (j : Fin 1024) : second j ∉ (∅ : Finset (Fin 16 × Fin 128)) ∪ Finset.univ.image first := by
  rw [Finset.empty_union, Finset.mem_image]
  rintro ⟨i, -, e⟩
  have e1 : i.val / 128 = 8 + j.val / 128 := congrArg (fun p : Fin 16 × Fin 128 => p.1.val) e
  omega
/-- The two chunks are all keys. -/
theorem chunks : (∅ ∪ Finset.univ.image first) ∪ Finset.univ.image second = (Finset.univ : Finset (Fin 16 × Fin 128)) := by
  rw [Finset.empty_union, Finset.eq_univ_iff_forall]
  rintro ⟨a, r⟩
  rw [Finset.mem_union, Finset.mem_image, Finset.mem_image]
  by_cases h : a.val < 8
  · exact Or.inl ⟨⟨a.val * 128 + r.val, by omega⟩, Finset.mem_univ _, Prod.ext (Fin.ext (by show (a.val * 128 + r.val) / 128 = a.val; omega))
      (Fin.ext (by show (a.val * 128 + r.val) % 128 = r.val; omega))⟩
  · exact Or.inr ⟨⟨(a.val - 8) * 128 + r.val, by omega⟩, Finset.mem_univ _, Prod.ext (Fin.ext (by show 8 + ((a.val - 8) * 128 + r.val) / 128 = a.val; omega))
      (Fin.ext (by show ((a.val - 8) * 128 + r.val) % 128 = r.val; omega))⟩

/-- The reference's result is the attention over the whole arrays. -/
theorem refOut_apply (A : Args) (b : Fin 2) (R : Fin 2048) (e : Fin 512) :
    refOut (F := Ideal) A.x A.wq A.k A.v A.wo (ix3 b R e) = out A b R e := by
  unfold refOut
  rw [finR_apply]
  have s1 := St.start (A := A).step first first_inj (fun _ => Finset.notMem_empty _) (k := lo A.k) (v := lo A.v)
    (fun b j h d => by rw [lo_apply, row_first]) (fun b j h d => by rw [lo_apply, row_first])
  have s2 := s1.step second second_inj second_fresh (k := hi A.k) (v := hi A.v)
    (fun b j h d => by rw [hi_apply, row_second]) (fun b j h d => by rw [hi_apply, row_second])
  rw [chunks] at s2
  refine Finset.sum_congr rfl fun t _ => ?_
  obtain ⟨-, e1, e2⟩ := (s2 b ⟨t.val / 64, by omega⟩ R ⟨t.val % 64, by omega⟩).unique (holds A b R ⟨t.val / 64, by omega⟩ ⟨t.val % 64, by omega⟩)
  rw [e1, e2]

end Cert.ReferenceIdealValue

end
-- ==== Proof.Value.ReferenceRun.lean ====
/-
# The reference's run and its value

The term the reference's run leaves in the result buffer is the reference's operations applied to the argument buffers.
-/
module

public import proofs.«01_k».proof.Proof.Gen.ReferenceIdeal.Run
public import proofs.«01_k».proof.Proof.Value.Reference

@[expose] public section

set_option maxRecDepth 65536

noncomputable section

namespace Cert.ReferenceIdealValue

open Cert.ReferenceIdeal Cert.ReferenceIdeal.Gen Idealize.ShloMosaic Idealize.ShloMosaic.TcCoe

/-- The reference's result buffer ends as `refOut` of the argument buffers. -/
theorem res_eq {F : FTy → Type} [FloatOps F] (m : (ℓ : Loc nD τ sig) → Buf (Elt F) ℓ) (c : Dev nD) :
    Value.res_main_v60 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v60 refOut finR numR denR alR prR mxR scR wide lo hi qR M0 L0 N0
  rfl

end Cert.ReferenceIdealValue

end
-- ==== Proof.Value.Algebraic.lean ====
/-
# The kernel's result is the reference's

The device's arrays are blocks of the reference's arrays. Read at an index, the device's result and the same row of the
reference's result are both the attention over the whole arrays.
-/
module

public import proofs.«01_k».proof.Proof.Value.Chain
public import proofs.«01_k».proof.Proof.Value.ReferenceRun
public import Idealize.ShloMosaic.Lib.Layout

@[expose] public section

noncomputable section

namespace Cert.ValueProof

open Idealize.ShloMosaic Idealize.ShloMosaic.TcCoe Cert.Attention

/-- Entry `(b, i, e)` of device `c`'s block is entry `(b, row (c, i), e)` of the whole array. -/
theorem block_rows (c : Fin 16) (v : (⟨3, ![2, 2048, 512]⟩ : Shape).Idx → EReal) (h : Layout.Tiles ⟨3, ![2, 128, 512]⟩ ⟨3, ![2, 2048, 512]⟩ 1 16)
    (b : Fin 2) (i : Fin 128) (e : Fin 512) :
    Layout.block ⟨3, ![2, 128, 512]⟩ ⟨3, ![2, 2048, 512]⟩ 1 16 c v h (ix3 b i e) = v (ix3 b (row (c, i)) e) := by
  refine congrArg v ?_
  funext a
  fin_cases a <;> rfl

/-- Entry `(b, j, h, d)` of device `c`'s block is entry `(b, row (c, j), h, d)` of the whole array. -/
theorem block_keys (c : Fin 16) (v : (⟨4, ![2, 2048, 8, 64]⟩ : Shape).Idx → EReal) (ht : Layout.Tiles ⟨4, ![2, 128, 8, 64]⟩ ⟨4, ![2, 2048, 8, 64]⟩ 1 16)
    (b : Fin 2) (j : Fin 128) (h : Fin 8) (d : Fin 64) :
    Layout.block ⟨4, ![2, 128, 8, 64]⟩ ⟨4, ![2, 2048, 8, 64]⟩ 1 16 c v ht (ix4 b j h d) = v (ix4 b (row (c, j)) h d) := by
  refine congrArg v ?_
  funext a
  fin_cases a <;> rfl

/-- The whole arrays, as the reference's buffers hold them. -/
def argsOf (m' : (ℓ : Loc ReferenceIdeal.nD ReferenceIdeal.τ ReferenceIdeal.sig) → Buf (Elt Ideal) ℓ) : Args where
  x := m' (((0 : Dev ReferenceIdeal.nD).tc : Thread ReferenceIdeal.nD ReferenceIdeal.τ).loc ReferenceIdeal.main_arg0)
  wq := m' (((0 : Dev ReferenceIdeal.nD).tc : Thread ReferenceIdeal.nD ReferenceIdeal.τ).loc ReferenceIdeal.main_arg1)
  k := m' (((0 : Dev ReferenceIdeal.nD).tc : Thread ReferenceIdeal.nD ReferenceIdeal.τ).loc ReferenceIdeal.main_arg2)
  v := m' (((0 : Dev ReferenceIdeal.nD).tc : Thread ReferenceIdeal.nD ReferenceIdeal.τ).loc ReferenceIdeal.main_arg3)
  wo := m' (((0 : Dev ReferenceIdeal.nD).tc : Thread ReferenceIdeal.nD ReferenceIdeal.τ).loc ReferenceIdeal.main_arg4)

variable (m' : (ℓ : Loc ReferenceIdeal.nD ReferenceIdeal.τ ReferenceIdeal.sig) → Buf (Elt Ideal) ℓ)

/-- The reference's result at row `R`, column `e`. -/
theorem reference_apply (b : Fin 2) (R : Fin 2048) (e : Fin 512) :
    ReferenceIdeal.Value.res_main_v60 m' 0 (ix3 b R e) = out (argsOf m') b R e :=
  (congrFun (ReferenceIdealValue.res_eq m' 0) (ix3 b R e)).trans (ReferenceIdealValue.refOut_apply (argsOf m') b R e)

/-- Where the devices' arguments are blocks of the reference's, each device's result is its block of the reference's. -/
theorem result_eq (m : (ℓ : Loc KernelIdeal.nD KernelIdeal.τ KernelIdeal.sig) → Buf (Elt Ideal) ℓ) (ρ : Dev KernelIdeal.nD → PrngReg)
    (H : KernelIdealValue.Agrees m (argsOf m')) (c : Dev KernelIdeal.nD) (h : Layout.Tiles ⟨3, ![2, 128, 512]⟩ ⟨3, ![2, 2048, 512]⟩ 1 16) :
    KernelIdealProof.finalA m ρ c (5 : Fin 6)
      = Layout.block ⟨3, ![2, 128, 512]⟩ ⟨3, ![2, 2048, 512]⟩ 1 16 c (ReferenceIdeal.Value.res_main_v60 m' 0) h := by
  funext i
  obtain ⟨b, r, e, rfl⟩ : ∃ (b : Fin 2) (r : Fin 128) (e : Fin 512), i = ix3 b r e := ⟨i 0, i 1, i 2, by funext a; fin_cases a <;> rfl⟩
  exact (KernelIdealValue.result_apply ρ H c b r e).trans
    ((reference_apply m' b (row (c, r)) e).symm.trans (block_rows c (ReferenceIdeal.Value.res_main_v60 m' 0) h b r e).symm)

end Cert.ValueProof

end
-- ==== Proof.lean ====
/-
The claims of this certificate, each from the run of its program: the ring kernel's at the machine's bit patterns and at
the extended reals, the reference's at the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frames
public import proofs.«01_k».proof.Proof.KernelIdeal.Frames
public import proofs.«01_k».proof.Proof.Value.Algebraic
public import Idealize.ShloMosaic.Lib.Quiescent

@[expose] public section

noncomputable section

namespace Cert.Proof

open Idealize.ShloMosaic Idealize.SL.Sem

/-- The kernel, at the machine's bit patterns, runs to the end, keeps its arguments and leaves every counter at zero. -/
theorem frame_kernel : Cert.quiescent_Kernel := by
  intro m g _
  exact (θ_run Cert.Kernel.defs _ _).mono (fun _ h => ⟨fun c => (h.1 c).2, h.2⟩) (Cert.KernelProof.run_args (F := Bits) m g)

/-- The same of the kernel at the extended reals. -/
theorem frame_kernelIdeal : Cert.quiescent_KernelIdeal := by
  intro m g _
  exact (θ_run Cert.KernelIdeal.defs _ _).mono (fun _ h => ⟨fun c => (h.1 c).2, h.2⟩) (Cert.KernelIdealProof.run_args (F := Ideal) m g)

/-- The reference, at the extended reals, runs to the end and keeps its arguments; it has no counters. -/
theorem frame_referenceIdeal : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

/-- Over the extended reals, where the devices' arguments are their parts of the reference's, every device's result is its
part of the reference's result, and both programs keep their arguments. -/
theorem algebraic : Cert.algebraic_KernelIdeal_ReferenceIdeal := by
  intro m g m' g' _ hm
  have H : Cert.KernelIdealValue.Agrees m (Cert.ValueProof.argsOf m') :=
    { x := fun c b i e => (congrFun (hm c).1 (ix3 b i e)).trans (Cert.ValueProof.block_rows c _ _ b i e)
      wq := fun c => (hm c).2.1
      k := fun c b j h d => (congrFun (hm c).2.2.1 (ix4 b j h d)).trans (Cert.ValueProof.block_keys c _ _ b j h d)
      v := fun c b j h d => (congrFun (hm c).2.2.2.1 (ix4 b j h d)).trans (Cert.ValueProof.block_keys c _ _ b j h d)
      wo := fun c => (hm c).2.2.2.2 }
  refine ⟨Cert.ReferenceIdeal.Value.res_main_v60 m' 0, ?_, ?_⟩
  · exact (θ_run Cert.KernelIdeal.defs _ _).mono (fun _ h c => ⟨(h.1 c).1.trans (Cert.ValueProof.result_eq m' m g H c _), (h.1 c).2⟩)
      (Cert.KernelIdealProof.run_args (F := Ideal) m g)
  · exact (θ_run Cert.ReferenceIdeal.defs _ _).mono (fun _ h => h 0) (Cert.ReferenceIdeal.Value.run (F := Ideal) m' g')

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
